-- ==== Defs.lean ====
def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Mlstm (m : (ℓ : Loc Cert.Mlstm.nD Cert.Mlstm.τ Cert.Mlstm.sig) → Buf (Elt Bits) ℓ) : Prop :=
  True

def Pre_MlstmIdeal (m : (ℓ : Loc Cert.MlstmIdeal.nD Cert.MlstmIdeal.τ Cert.MlstmIdeal.sig) → Buf (Elt Ideal) ℓ) : Prop :=
  True

def Pre_MlstmIdeal_regular [hPre_regular : Cert.Pre_regular.Facts] (m : (ℓ : Loc Cert.MlstmIdeal.nD Cert.MlstmIdeal.τ Cert.MlstmIdeal.sig) → Buf (Elt Ideal) ℓ) : Prop :=
  ∀ c : Dev Cert.MlstmIdeal.nD,
    (Cert.Pre_regular.fn (F := Ideal) (m ((c.tc : Thread Cert.MlstmIdeal.nD Cert.MlstmIdeal.τ).loc Cert.MlstmIdeal.main_arg0)) (m ((c.tc : Thread Cert.MlstmIdeal.nD Cert.MlstmIdeal.τ).loc Cert.MlstmIdeal.main_arg1)) (m ((c.tc : Thread Cert.MlstmIdeal.nD Cert.MlstmIdeal.τ).loc Cert.MlstmIdeal.main_arg2)) (m ((c.tc : Thread Cert.MlstmIdeal.nD Cert.MlstmIdeal.τ).loc Cert.MlstmIdeal.main_arg3)) (m ((c.tc : Thread Cert.MlstmIdeal.nD Cert.MlstmIdeal.τ).loc Cert.MlstmIdeal.main_arg4)) (m ((c.tc : Thread Cert.MlstmIdeal.nD Cert.MlstmIdeal.τ).loc Cert.MlstmIdeal.main_arg5)) (m ((c.tc : Thread Cert.MlstmIdeal.nD Cert.MlstmIdeal.τ).loc Cert.MlstmIdeal.main_arg6)) (m ((c.tc : Thread Cert.MlstmIdeal.nD Cert.MlstmIdeal.τ).loc Cert.MlstmIdeal.main_arg7))).1 = (fun _ => 1#1)
    ∧ (Cert.Pre_regular.fn (F := Ideal) (m ((c.tc : Thread Cert.MlstmIdeal.nD Cert.MlstmIdeal.τ).loc Cert.MlstmIdeal.main_arg0)) (m ((c.tc : Thread Cert.MlstmIdeal.nD Cert.MlstmIdeal.τ).loc Cert.MlstmIdeal.main_arg1)) (m ((c.tc : Thread Cert.MlstmIdeal.nD Cert.MlstmIdeal.τ).loc Cert.MlstmIdeal.main_arg2)) (m ((c.tc : Thread Cert.MlstmIdeal.nD Cert.MlstmIdeal.τ).loc Cert.MlstmIdeal.main_arg3)) (m ((c.tc : Thread Cert.MlstmIdeal.nD Cert.MlstmIdeal.τ).loc Cert.MlstmIdeal.main_arg4)) (m ((c.tc : Thread Cert.MlstmIdeal.nD Cert.MlstmIdeal.τ).loc Cert.MlstmIdeal.main_arg5)) (m ((c.tc : Thread Cert.MlstmIdeal.nD Cert.MlstmIdeal.τ).loc Cert.MlstmIdeal.main_arg6)) (m ((c.tc : Thread Cert.MlstmIdeal.nD Cert.MlstmIdeal.τ).loc Cert.MlstmIdeal.main_arg7))).2.1 = (fun _ => 1#1)
    ∧ (Cert.Pre_regular.fn (F := Ideal) (m ((c.tc : Thread Cert.MlstmIdeal.nD Cert.MlstmIdeal.τ).loc Cert.MlstmIdeal.main_arg0)) (m ((c.tc : Thread Cert.MlstmIdeal.nD Cert.MlstmIdeal.τ).loc Cert.MlstmIdeal.main_arg1)) (m ((c.tc : Thread Cert.MlstmIdeal.nD Cert.MlstmIdeal.τ).loc Cert.MlstmIdeal.main_arg2)) (m ((c.tc : Thread Cert.MlstmIdeal.nD Cert.MlstmIdeal.τ).loc Cert.MlstmIdeal.main_arg3)) (m ((c.tc : Thread Cert.MlstmIdeal.nD Cert.MlstmIdeal.τ).loc Cert.MlstmIdeal.main_arg4)) (m ((c.tc : Thread Cert.MlstmIdeal.nD Cert.MlstmIdeal.τ).loc Cert.MlstmIdeal.main_arg5)) (m ((c.tc : Thread Cert.MlstmIdeal.nD Cert.MlstmIdeal.τ).loc Cert.MlstmIdeal.main_arg6)) (m ((c.tc : Thread Cert.MlstmIdeal.nD Cert.MlstmIdeal.τ).loc Cert.MlstmIdeal.main_arg7))).2.2.1 = (fun _ => 1#1)
    ∧ (Cert.Pre_regular.fn (F := Ideal) (m ((c.tc : Thread Cert.MlstmIdeal.nD Cert.MlstmIdeal.τ).loc Cert.MlstmIdeal.main_arg0)) (m ((c.tc : Thread Cert.MlstmIdeal.nD Cert.MlstmIdeal.τ).loc Cert.MlstmIdeal.main_arg1)) (m ((c.tc : Thread Cert.MlstmIdeal.nD Cert.MlstmIdeal.τ).loc Cert.MlstmIdeal.main_arg2)) (m ((c.tc : Thread Cert.MlstmIdeal.nD Cert.MlstmIdeal.τ).loc Cert.MlstmIdeal.main_arg3)) (m ((c.tc : Thread Cert.MlstmIdeal.nD Cert.MlstmIdeal.τ).loc Cert.MlstmIdeal.main_arg4)) (m ((c.tc : Thread Cert.MlstmIdeal.nD Cert.MlstmIdeal.τ).loc Cert.MlstmIdeal.main_arg5)) (m ((c.tc : Thread Cert.MlstmIdeal.nD Cert.MlstmIdeal.τ).loc Cert.MlstmIdeal.main_arg6)) (m ((c.tc : Thread Cert.MlstmIdeal.nD Cert.MlstmIdeal.τ).loc Cert.MlstmIdeal.main_arg7))).2.2.2.1 = (fun _ => 1#1)
    ∧ (Cert.Pre_regular.fn (F := Ideal) (m ((c.tc : Thread Cert.MlstmIdeal.nD Cert.MlstmIdeal.τ).loc Cert.MlstmIdeal.main_arg0)) (m ((c.tc : Thread Cert.MlstmIdeal.nD Cert.MlstmIdeal.τ).loc Cert.MlstmIdeal.main_arg1)) (m ((c.tc : Thread Cert.MlstmIdeal.nD Cert.MlstmIdeal.τ).loc Cert.MlstmIdeal.main_arg2)) (m ((c.tc : Thread Cert.MlstmIdeal.nD Cert.MlstmIdeal.τ).loc Cert.MlstmIdeal.main_arg3)) (m ((c.tc : Thread Cert.MlstmIdeal.nD Cert.MlstmIdeal.τ).loc Cert.MlstmIdeal.main_arg4)) (m ((c.tc : Thread Cert.MlstmIdeal.nD Cert.MlstmIdeal.τ).loc Cert.MlstmIdeal.main_arg5)) (m ((c.tc : Thread Cert.MlstmIdeal.nD Cert.MlstmIdeal.τ).loc Cert.MlstmIdeal.main_arg6)) (m ((c.tc : Thread Cert.MlstmIdeal.nD Cert.MlstmIdeal.τ).loc Cert.MlstmIdeal.main_arg7))).2.2.2.2.1 = (fun _ => 1#1)
    ∧ (Cert.Pre_regular.fn (F := Ideal) (m ((c.tc : Thread Cert.MlstmIdeal.nD Cert.MlstmIdeal.τ).loc Cert.MlstmIdeal.main_arg0)) (m ((c.tc : Thread Cert.MlstmIdeal.nD Cert.MlstmIdeal.τ).loc Cert.MlstmIdeal.main_arg1)) (m ((c.tc : Thread Cert.MlstmIdeal.nD Cert.MlstmIdeal.τ).loc Cert.MlstmIdeal.main_arg2)) (m ((c.tc : Thread Cert.MlstmIdeal.nD Cert.MlstmIdeal.τ).loc Cert.MlstmIdeal.main_arg3)) (m ((c.tc : Thread Cert.MlstmIdeal.nD Cert.MlstmIdeal.τ).loc Cert.MlstmIdeal.main_arg4)) (m ((c.tc : Thread Cert.MlstmIdeal.nD Cert.MlstmIdeal.τ).loc Cert.MlstmIdeal.main_arg5)) (m ((c.tc : Thread Cert.MlstmIdeal.nD Cert.MlstmIdeal.τ).loc Cert.MlstmIdeal.main_arg6)) (m ((c.tc : Thread Cert.MlstmIdeal.nD Cert.MlstmIdeal.τ).loc Cert.MlstmIdeal.main_arg7))).2.2.2.2.2.1 = (fun _ => 1#1)
    ∧ (Cert.Pre_regular.fn (F := Ideal) (m ((c.tc : Thread Cert.MlstmIdeal.nD Cert.MlstmIdeal.τ).loc Cert.MlstmIdeal.main_arg0)) (m ((c.tc : Thread Cert.MlstmIdeal.nD Cert.MlstmIdeal.τ).loc Cert.MlstmIdeal.main_arg1)) (m ((c.tc : Thread Cert.MlstmIdeal.nD Cert.MlstmIdeal.τ).loc Cert.MlstmIdeal.main_arg2)) (m ((c.tc : Thread Cert.MlstmIdeal.nD Cert.MlstmIdeal.τ).loc Cert.MlstmIdeal.main_arg3)) (m ((c.tc : Thread Cert.MlstmIdeal.nD Cert.MlstmIdeal.τ).loc Cert.MlstmIdeal.main_arg4)) (m ((c.tc : Thread Cert.MlstmIdeal.nD Cert.MlstmIdeal.τ).loc Cert.MlstmIdeal.main_arg5)) (m ((c.tc : Thread Cert.MlstmIdeal.nD Cert.MlstmIdeal.τ).loc Cert.MlstmIdeal.main_arg6)) (m ((c.tc : Thread Cert.MlstmIdeal.nD Cert.MlstmIdeal.τ).loc Cert.MlstmIdeal.main_arg7))).2.2.2.2.2.2.1 = (fun _ => 1#1)
    ∧ (Cert.Pre_regular.fn (F := Ideal) (m ((c.tc : Thread Cert.MlstmIdeal.nD Cert.MlstmIdeal.τ).loc Cert.MlstmIdeal.main_arg0)) (m ((c.tc : Thread Cert.MlstmIdeal.nD Cert.MlstmIdeal.τ).loc Cert.MlstmIdeal.main_arg1)) (m ((c.tc : Thread Cert.MlstmIdeal.nD Cert.MlstmIdeal.τ).loc Cert.MlstmIdeal.main_arg2)) (m ((c.tc : Thread Cert.MlstmIdeal.nD Cert.MlstmIdeal.τ).loc Cert.MlstmIdeal.main_arg3)) (m ((c.tc : Thread Cert.MlstmIdeal.nD Cert.MlstmIdeal.τ).loc Cert.MlstmIdeal.main_arg4)) (m ((c.tc : Thread Cert.MlstmIdeal.nD Cert.MlstmIdeal.τ).loc Cert.MlstmIdeal.main_arg5)) (m ((c.tc : Thread Cert.MlstmIdeal.nD Cert.MlstmIdeal.τ).loc Cert.MlstmIdeal.main_arg6)) (m ((c.tc : Thread Cert.MlstmIdeal.nD Cert.MlstmIdeal.τ).loc Cert.MlstmIdeal.main_arg7))).2.2.2.2.2.2.2 = (fun _ => 1#1)

def Pre_MlstmRefIdeal (m : (ℓ : Loc Cert.MlstmRefIdeal.nD Cert.MlstmRefIdeal.τ Cert.MlstmRefIdeal.sig) → Buf (Elt Ideal) ℓ) : Prop :=
  True

def Pre_MlstmRefIdeal_regular [hPre_regular : Cert.Pre_regular.Facts] (m : (ℓ : Loc Cert.MlstmRefIdeal.nD Cert.MlstmRefIdeal.τ Cert.MlstmRefIdeal.sig) → Buf (Elt Ideal) ℓ) : Prop :=
  ∀ c : Dev Cert.MlstmRefIdeal.nD,
    (Cert.Pre_regular.fn (F := Ideal) (m ((c.tc : Thread Cert.MlstmRefIdeal.nD Cert.MlstmRefIdeal.τ).loc Cert.MlstmRefIdeal.main_arg0)) (m ((c.tc : Thread Cert.MlstmRefIdeal.nD Cert.MlstmRefIdeal.τ).loc Cert.MlstmRefIdeal.main_arg1)) (m ((c.tc : Thread Cert.MlstmRefIdeal.nD Cert.MlstmRefIdeal.τ).loc Cert.MlstmRefIdeal.main_arg2)) (m ((c.tc : Thread Cert.MlstmRefIdeal.nD Cert.MlstmRefIdeal.τ).loc Cert.MlstmRefIdeal.main_arg3)) (m ((c.tc : Thread Cert.MlstmRefIdeal.nD Cert.MlstmRefIdeal.τ).loc Cert.MlstmRefIdeal.main_arg4)) (m ((c.tc : Thread Cert.MlstmRefIdeal.nD Cert.MlstmRefIdeal.τ).loc Cert.MlstmRefIdeal.main_arg5)) (m ((c.tc : Thread Cert.MlstmRefIdeal.nD Cert.MlstmRefIdeal.τ).loc Cert.MlstmRefIdeal.main_arg6)) (m ((c.tc : Thread Cert.MlstmRefIdeal.nD Cert.MlstmRefIdeal.τ).loc Cert.MlstmRefIdeal.main_arg7))).1 = (fun _ => 1#1)
    ∧ (Cert.Pre_regular.fn (F := Ideal) (m ((c.tc : Thread Cert.MlstmRefIdeal.nD Cert.MlstmRefIdeal.τ).loc Cert.MlstmRefIdeal.main_arg0)) (m ((c.tc : Thread Cert.MlstmRefIdeal.nD Cert.MlstmRefIdeal.τ).loc Cert.MlstmRefIdeal.main_arg1)) (m ((c.tc : Thread Cert.MlstmRefIdeal.nD Cert.MlstmRefIdeal.τ).loc Cert.MlstmRefIdeal.main_arg2)) (m ((c.tc : Thread Cert.MlstmRefIdeal.nD Cert.MlstmRefIdeal.τ).loc Cert.MlstmRefIdeal.main_arg3)) (m ((c.tc : Thread Cert.MlstmRefIdeal.nD Cert.MlstmRefIdeal.τ).loc Cert.MlstmRefIdeal.main_arg4)) (m ((c.tc : Thread Cert.MlstmRefIdeal.nD Cert.MlstmRefIdeal.τ).loc Cert.MlstmRefIdeal.main_arg5)) (m ((c.tc : Thread Cert.MlstmRefIdeal.nD Cert.MlstmRefIdeal.τ).loc Cert.MlstmRefIdeal.main_arg6)) (m ((c.tc : Thread Cert.MlstmRefIdeal.nD Cert.MlstmRefIdeal.τ).loc Cert.MlstmRefIdeal.main_arg7))).2.1 = (fun _ => 1#1)
    ∧ (Cert.Pre_regular.fn (F := Ideal) (m ((c.tc : Thread Cert.MlstmRefIdeal.nD Cert.MlstmRefIdeal.τ).loc Cert.MlstmRefIdeal.main_arg0)) (m ((c.tc : Thread Cert.MlstmRefIdeal.nD Cert.MlstmRefIdeal.τ).loc Cert.MlstmRefIdeal.main_arg1)) (m ((c.tc : Thread Cert.MlstmRefIdeal.nD Cert.MlstmRefIdeal.τ).loc Cert.MlstmRefIdeal.main_arg2)) (m ((c.tc : Thread Cert.MlstmRefIdeal.nD Cert.MlstmRefIdeal.τ).loc Cert.MlstmRefIdeal.main_arg3)) (m ((c.tc : Thread Cert.MlstmRefIdeal.nD Cert.MlstmRefIdeal.τ).loc Cert.MlstmRefIdeal.main_arg4)) (m ((c.tc : Thread Cert.MlstmRefIdeal.nD Cert.MlstmRefIdeal.τ).loc Cert.MlstmRefIdeal.main_arg5)) (m ((c.tc : Thread Cert.MlstmRefIdeal.nD Cert.MlstmRefIdeal.τ).loc Cert.MlstmRefIdeal.main_arg6)) (m ((c.tc : Thread Cert.MlstmRefIdeal.nD Cert.MlstmRefIdeal.τ).loc Cert.MlstmRefIdeal.main_arg7))).2.2.1 = (fun _ => 1#1)
    ∧ (Cert.Pre_regular.fn (F := Ideal) (m ((c.tc : Thread Cert.MlstmRefIdeal.nD Cert.MlstmRefIdeal.τ).loc Cert.MlstmRefIdeal.main_arg0)) (m ((c.tc : Thread Cert.MlstmRefIdeal.nD Cert.MlstmRefIdeal.τ).loc Cert.MlstmRefIdeal.main_arg1)) (m ((c.tc : Thread Cert.MlstmRefIdeal.nD Cert.MlstmRefIdeal.τ).loc Cert.MlstmRefIdeal.main_arg2)) (m ((c.tc : Thread Cert.MlstmRefIdeal.nD Cert.MlstmRefIdeal.τ).loc Cert.MlstmRefIdeal.main_arg3)) (m ((c.tc : Thread Cert.MlstmRefIdeal.nD Cert.MlstmRefIdeal.τ).loc Cert.MlstmRefIdeal.main_arg4)) (m ((c.tc : Thread Cert.MlstmRefIdeal.nD Cert.MlstmRefIdeal.τ).loc Cert.MlstmRefIdeal.main_arg5)) (m ((c.tc : Thread Cert.MlstmRefIdeal.nD Cert.MlstmRefIdeal.τ).loc Cert.MlstmRefIdeal.main_arg6)) (m ((c.tc : Thread Cert.MlstmRefIdeal.nD Cert.MlstmRefIdeal.τ).loc Cert.MlstmRefIdeal.main_arg7))).2.2.2.1 = (fun _ => 1#1)
    ∧ (Cert.Pre_regular.fn (F := Ideal) (m ((c.tc : Thread Cert.MlstmRefIdeal.nD Cert.MlstmRefIdeal.τ).loc Cert.MlstmRefIdeal.main_arg0)) (m ((c.tc : Thread Cert.MlstmRefIdeal.nD Cert.MlstmRefIdeal.τ).loc Cert.MlstmRefIdeal.main_arg1)) (m ((c.tc : Thread Cert.MlstmRefIdeal.nD Cert.MlstmRefIdeal.τ).loc Cert.MlstmRefIdeal.main_arg2)) (m ((c.tc : Thread Cert.MlstmRefIdeal.nD Cert.MlstmRefIdeal.τ).loc Cert.MlstmRefIdeal.main_arg3)) (m ((c.tc : Thread Cert.MlstmRefIdeal.nD Cert.MlstmRefIdeal.τ).loc Cert.MlstmRefIdeal.main_arg4)) (m ((c.tc : Thread Cert.MlstmRefIdeal.nD Cert.MlstmRefIdeal.τ).loc Cert.MlstmRefIdeal.main_arg5)) (m ((c.tc : Thread Cert.MlstmRefIdeal.nD Cert.MlstmRefIdeal.τ).loc Cert.MlstmRefIdeal.main_arg6)) (m ((c.tc : Thread Cert.MlstmRefIdeal.nD Cert.MlstmRefIdeal.τ).loc Cert.MlstmRefIdeal.main_arg7))).2.2.2.2.1 = (fun _ => 1#1)
    ∧ (Cert.Pre_regular.fn (F := Ideal) (m ((c.tc : Thread Cert.MlstmRefIdeal.nD Cert.MlstmRefIdeal.τ).loc Cert.MlstmRefIdeal.main_arg0)) (m ((c.tc : Thread Cert.MlstmRefIdeal.nD Cert.MlstmRefIdeal.τ).loc Cert.MlstmRefIdeal.main_arg1)) (m ((c.tc : Thread Cert.MlstmRefIdeal.nD Cert.MlstmRefIdeal.τ).loc Cert.MlstmRefIdeal.main_arg2)) (m ((c.tc : Thread Cert.MlstmRefIdeal.nD Cert.MlstmRefIdeal.τ).loc Cert.MlstmRefIdeal.main_arg3)) (m ((c.tc : Thread Cert.MlstmRefIdeal.nD Cert.MlstmRefIdeal.τ).loc Cert.MlstmRefIdeal.main_arg4)) (m ((c.tc : Thread Cert.MlstmRefIdeal.nD Cert.MlstmRefIdeal.τ).loc Cert.MlstmRefIdeal.main_arg5)) (m ((c.tc : Thread Cert.MlstmRefIdeal.nD Cert.MlstmRefIdeal.τ).loc Cert.MlstmRefIdeal.main_arg6)) (m ((c.tc : Thread Cert.MlstmRefIdeal.nD Cert.MlstmRefIdeal.τ).loc Cert.MlstmRefIdeal.main_arg7))).2.2.2.2.2.1 = (fun _ => 1#1)
    ∧ (Cert.Pre_regular.fn (F := Ideal) (m ((c.tc : Thread Cert.MlstmRefIdeal.nD Cert.MlstmRefIdeal.τ).loc Cert.MlstmRefIdeal.main_arg0)) (m ((c.tc : Thread Cert.MlstmRefIdeal.nD Cert.MlstmRefIdeal.τ).loc Cert.MlstmRefIdeal.main_arg1)) (m ((c.tc : Thread Cert.MlstmRefIdeal.nD Cert.MlstmRefIdeal.τ).loc Cert.MlstmRefIdeal.main_arg2)) (m ((c.tc : Thread Cert.MlstmRefIdeal.nD Cert.MlstmRefIdeal.τ).loc Cert.MlstmRefIdeal.main_arg3)) (m ((c.tc : Thread Cert.MlstmRefIdeal.nD Cert.MlstmRefIdeal.τ).loc Cert.MlstmRefIdeal.main_arg4)) (m ((c.tc : Thread Cert.MlstmRefIdeal.nD Cert.MlstmRefIdeal.τ).loc Cert.MlstmRefIdeal.main_arg5)) (m ((c.tc : Thread Cert.MlstmRefIdeal.nD Cert.MlstmRefIdeal.τ).loc Cert.MlstmRefIdeal.main_arg6)) (m ((c.tc : Thread Cert.MlstmRefIdeal.nD Cert.MlstmRefIdeal.τ).loc Cert.MlstmRefIdeal.main_arg7))).2.2.2.2.2.2.1 = (fun _ => 1#1)
    ∧ (Cert.Pre_regular.fn (F := Ideal) (m ((c.tc : Thread Cert.MlstmRefIdeal.nD Cert.MlstmRefIdeal.τ).loc Cert.MlstmRefIdeal.main_arg0)) (m ((c.tc : Thread Cert.MlstmRefIdeal.nD Cert.MlstmRefIdeal.τ).loc Cert.MlstmRefIdeal.main_arg1)) (m ((c.tc : Thread Cert.MlstmRefIdeal.nD Cert.MlstmRefIdeal.τ).loc Cert.MlstmRefIdeal.main_arg2)) (m ((c.tc : Thread Cert.MlstmRefIdeal.nD Cert.MlstmRefIdeal.τ).loc Cert.MlstmRefIdeal.main_arg3)) (m ((c.tc : Thread Cert.MlstmRefIdeal.nD Cert.MlstmRefIdeal.τ).loc Cert.MlstmRefIdeal.main_arg4)) (m ((c.tc : Thread Cert.MlstmRefIdeal.nD Cert.MlstmRefIdeal.τ).loc Cert.MlstmRefIdeal.main_arg5)) (m ((c.tc : Thread Cert.MlstmRefIdeal.nD Cert.MlstmRefIdeal.τ).loc Cert.MlstmRefIdeal.main_arg6)) (m ((c.tc : Thread Cert.MlstmRefIdeal.nD Cert.MlstmRefIdeal.τ).loc Cert.MlstmRefIdeal.main_arg7))).2.2.2.2.2.2.2 = (fun _ => 1#1)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3)
      ∧ r.2.mem ((c.tc : Thread Cert.In.nD Cert.In.τ).loc Cert.In.main_arg4) = m ((c.tc : Thread Cert.In.nD Cert.In.τ).loc Cert.In.main_arg4)
      ∧ r.2.mem ((c.tc : Thread Cert.In.nD Cert.In.τ).loc Cert.In.main_arg5) = m ((c.tc : Thread Cert.In.nD Cert.In.τ).loc Cert.In.main_arg5))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4)
      ∧ r.2.mem ((c.tc : Thread Cert.InIdeal.nD Cert.InIdeal.τ).loc Cert.InIdeal.main_arg5) = m ((c.tc : Thread Cert.InIdeal.nD Cert.InIdeal.τ).loc Cert.InIdeal.main_arg5))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4)
      ∧ r.2.mem ((c.tc : Thread Cert.InRefIdeal.nD Cert.InRefIdeal.τ).loc Cert.InRefIdeal.main_arg5) = m ((c.tc : Thread Cert.InRefIdeal.nD Cert.InRefIdeal.τ).loc Cert.InRefIdeal.main_arg5))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4)
      ∧ r.2.mem ((c.tc : Thread Cert.Norm.nD Cert.Norm.τ).loc Cert.Norm.main_arg5) = m ((c.tc : Thread Cert.Norm.nD Cert.Norm.τ).loc Cert.Norm.main_arg5)
      ∧ r.2.mem ((c.tc : Thread Cert.Norm.nD Cert.Norm.τ).loc Cert.Norm.main_arg6) = m ((c.tc : Thread Cert.Norm.nD Cert.Norm.τ).loc Cert.Norm.main_arg6)
      ∧ r.2.mem ((c.tc : Thread Cert.Norm.nD Cert.Norm.τ).loc Cert.Norm.main_arg7) = m ((c.tc : Thread Cert.Norm.nD Cert.Norm.τ).loc Cert.Norm.main_arg7)
      ∧ r.2.mem ((c.tc : Thread Cert.Norm.nD Cert.Norm.τ).loc Cert.Norm.main_arg8) = m ((c.tc : Thread Cert.Norm.nD Cert.Norm.τ).loc Cert.Norm.main_arg8))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
      ∧ r.2.mem ((c.tc : Thread Cert.NormIdeal.nD Cert.NormIdeal.τ).loc Cert.NormIdeal.main_arg6) = m ((c.tc : Thread Cert.NormIdeal.nD Cert.NormIdeal.τ).loc Cert.NormIdeal.main_arg6)
      ∧ r.2.mem ((c.tc : Thread Cert.NormIdeal.nD Cert.NormIdeal.τ).loc Cert.NormIdeal.main_arg7) = m ((c.tc : Thread Cert.NormIdeal.nD Cert.NormIdeal.τ).loc Cert.NormIdeal.main_arg7)
      ∧ r.2.mem ((c.tc : Thread Cert.NormIdeal.nD Cert.NormIdeal.τ).loc Cert.NormIdeal.main_arg8) = m ((c.tc : Thread Cert.NormIdeal.nD Cert.NormIdeal.τ).loc Cert.NormIdeal.main_arg8))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4)
      ∧ r.2.mem ((c.tc : Thread Cert.NormRefIdeal.nD Cert.NormRefIdeal.τ).loc Cert.NormRefIdeal.main_arg5) = m ((c.tc : Thread Cert.NormRefIdeal.nD Cert.NormRefIdeal.τ).loc Cert.NormRefIdeal.main_arg5)
      ∧ r.2.mem ((c.tc : Thread Cert.NormRefIdeal.nD Cert.NormRefIdeal.τ).loc Cert.NormRefIdeal.main_arg6) = m ((c.tc : Thread Cert.NormRefIdeal.nD Cert.NormRefIdeal.τ).loc Cert.NormRefIdeal.main_arg6)
      ∧ r.2.mem ((c.tc : Thread Cert.NormRefIdeal.nD Cert.NormRefIdeal.τ).loc Cert.NormRefIdeal.main_arg7) = m ((c.tc : Thread Cert.NormRefIdeal.nD Cert.NormRefIdeal.τ).loc Cert.NormRefIdeal.main_arg7)
      ∧ r.2.mem ((c.tc : Thread Cert.NormRefIdeal.nD Cert.NormRefIdeal.τ).loc Cert.NormRefIdeal.main_arg8) = m ((c.tc : Thread Cert.NormRefIdeal.nD Cert.NormRefIdeal.τ).loc Cert.NormRefIdeal.main_arg8))
      ∧ r.2.sem = fun _ => 0)

def quiescent_Mlstm [hMlstm : Cert.Mlstm.Facts] : Prop :=
  ∀ (m : (ℓ : Loc Cert.Mlstm.nD Cert.Mlstm.τ Cert.Mlstm.sig) → Buf (Elt Bits) ℓ) (g : Dev Cert.Mlstm.nD → PrngReg), Pre_Mlstm m →
    θ_run (Cert.Mlstm.defs (F := Bits)) (onTc (τ := Cert.Mlstm.τ) (Cert.Mlstm.main (F := Bits))) ⟨m, fun _ => 0, g⟩ (fun r => (∀ c : Dev Cert.Mlstm.nD,
      r.2.mem ((c.tc : Thread Cert.Mlstm.nD Cert.Mlstm.τ).loc Cert.Mlstm.main_arg0) = m ((c.tc : Thread Cert.Mlstm.nD Cert.Mlstm.τ).loc Cert.Mlstm.main_arg0)
      ∧ r.2.mem ((c.tc : Thread Cert.Mlstm.nD Cert.Mlstm.τ).loc Cert.Mlstm.main_arg1) = m ((c.tc : Thread Cert.Mlstm.nD Cert.Mlstm.τ).loc Cert.Mlstm.main_arg1)
      ∧ r.2.mem ((c.tc : Thread Cert.Mlstm.nD Cert.Mlstm.τ).loc Cert.Mlstm.main_arg2) = m ((c.tc : Thread Cert.Mlstm.nD Cert.Mlstm.τ).loc Cert.Mlstm.main_arg2)
      ∧ r.2.mem ((c.tc : Thread Cert.Mlstm.nD Cert.Mlstm.τ).loc Cert.Mlstm.main_arg3) = m ((c.tc : Thread Cert.Mlstm.nD Cert.Mlstm.τ).loc Cert.Mlstm.main_arg3)
      ∧ r.2.mem ((c.tc : Thread Cert.Mlstm.nD Cert.Mlstm.τ).loc Cert.Mlstm.main_arg4) = m ((c.tc : Thread Cert.Mlstm.nD Cert.Mlstm.τ).loc Cert.Mlstm.main_arg4)
      ∧ r.2.mem ((c.tc : Thread Cert.Mlstm.nD Cert.Mlstm.τ).loc Cert.Mlstm.main_arg5) = m ((c.tc : Thread Cert.Mlstm.nD Cert.Mlstm.τ).loc Cert.Mlstm.main_arg5)
      ∧ r.2.mem ((c.tc : Thread Cert.Mlstm.nD Cert.Mlstm.τ).loc Cert.Mlstm.main_arg6) = m ((c.tc : Thread Cert.Mlstm.nD Cert.Mlstm.τ).loc Cert.Mlstm.main_arg6)
      ∧ r.2.mem ((c.tc : Thread Cert.Mlstm.nD Cert.Mlstm.τ).loc Cert.Mlstm.main_arg7) = m ((c.tc : Thread Cert.Mlstm.nD Cert.Mlstm.τ).loc Cert.Mlstm.main_arg7))
      ∧ r.2.sem = fun _ => 0)

def quiescent_MlstmIdeal [hMlstmIdeal : Cert.MlstmIdeal.Facts] : Prop :=
  ∀ (m : (ℓ : Loc Cert.MlstmIdeal.nD Cert.MlstmIdeal.τ Cert.MlstmIdeal.sig) → Buf (Elt Ideal) ℓ) (g : Dev Cert.MlstmIdeal.nD → PrngReg), Pre_MlstmIdeal m →
    θ_run (Cert.MlstmIdeal.defs (F := Ideal)) (onTc (τ := Cert.MlstmIdeal.τ) (Cert.MlstmIdeal.main (F := Ideal))) ⟨m, fun _ => 0, g⟩ (fun r => (∀ c : Dev Cert.MlstmIdeal.nD,
      r.2.mem ((c.tc : Thread Cert.MlstmIdeal.nD Cert.MlstmIdeal.τ).loc Cert.MlstmIdeal.main_arg0) = m ((c.tc : Thread Cert.MlstmIdeal.nD Cert.MlstmIdeal.τ).loc Cert.MlstmIdeal.main_arg0)
      ∧ r.2.mem ((c.tc : Thread Cert.MlstmIdeal.nD Cert.MlstmIdeal.τ).loc Cert.MlstmIdeal.main_arg1) = m ((c.tc : Thread Cert.MlstmIdeal.nD Cert.MlstmIdeal.τ).loc Cert.MlstmIdeal.main_arg1)
      ∧ r.2.mem ((c.tc : Thread Cert.MlstmIdeal.nD Cert.MlstmIdeal.τ).loc Cert.MlstmIdeal.main_arg2) = m ((c.tc : Thread Cert.MlstmIdeal.nD Cert.MlstmIdeal.τ).loc Cert.MlstmIdeal.main_arg2)
      ∧ r.2.mem ((c.tc : Thread Cert.MlstmIdeal.nD Cert.MlstmIdeal.τ).loc Cert.MlstmIdeal.main_arg3) = m ((c.tc : Thread Cert.MlstmIdeal.nD Cert.MlstmIdeal.τ).loc Cert.MlstmIdeal.main_arg3)
      ∧ r.2.mem ((c.tc : Thread Cert.MlstmIdeal.nD Cert.MlstmIdeal.τ).loc Cert.MlstmIdeal.main_arg4) = m ((c.tc : Thread Cert.MlstmIdeal.nD Cert.MlstmIdeal.τ).loc Cert.MlstmIdeal.main_arg4)
      ∧ r.2.mem ((c.tc : Thread Cert.MlstmIdeal.nD Cert.MlstmIdeal.τ).loc Cert.MlstmIdeal.main_arg5) = m ((c.tc : Thread Cert.MlstmIdeal.nD Cert.MlstmIdeal.τ).loc Cert.MlstmIdeal.main_arg5)
      ∧ r.2.mem ((c.tc : Thread Cert.MlstmIdeal.nD Cert.MlstmIdeal.τ).loc Cert.MlstmIdeal.main_arg6) = m ((c.tc : Thread Cert.MlstmIdeal.nD Cert.MlstmIdeal.τ).loc Cert.MlstmIdeal.main_arg6)
      ∧ r.2.mem ((c.tc : Thread Cert.MlstmIdeal.nD Cert.MlstmIdeal.τ).loc Cert.MlstmIdeal.main_arg7) = m ((c.tc : Thread Cert.MlstmIdeal.nD Cert.MlstmIdeal.τ).loc Cert.MlstmIdeal.main_arg7))
      ∧ r.2.sem = fun _ => 0)

def quiescent_MlstmIdeal_pre_regular [hMlstmIdeal : Cert.MlstmIdeal.Facts] [hPre_regular : Cert.Pre_regular.Facts] : Prop :=
  ∀ (m : (ℓ : Loc Cert.MlstmIdeal.nD Cert.MlstmIdeal.τ Cert.MlstmIdeal.sig) → Buf (Elt Ideal) ℓ) (g : Dev Cert.MlstmIdeal.nD → PrngReg), Pre_MlstmIdeal_regular m →
    θ_run (Cert.MlstmIdeal.defs (F := Ideal)) (onTc (τ := Cert.MlstmIdeal.τ) (Cert.MlstmIdeal.main (F := Ideal))) ⟨m, fun _ => 0, g⟩ (fun r => (∀ c : Dev Cert.MlstmIdeal.nD,
      r.2.mem ((c.tc : Thread Cert.MlstmIdeal.nD Cert.MlstmIdeal.τ).loc Cert.MlstmIdeal.main_arg0) = m ((c.tc : Thread Cert.MlstmIdeal.nD Cert.MlstmIdeal.τ).loc Cert.MlstmIdeal.main_arg0)
      ∧ r.2.mem ((c.tc : Thread Cert.MlstmIdeal.nD Cert.MlstmIdeal.τ).loc Cert.MlstmIdeal.main_arg1) = m ((c.tc : Thread Cert.MlstmIdeal.nD Cert.MlstmIdeal.τ).loc Cert.MlstmIdeal.main_arg1)
      ∧ r.2.mem ((c.tc : Thread Cert.MlstmIdeal.nD Cert.MlstmIdeal.τ).loc Cert.MlstmIdeal.main_arg2) = m ((c.tc : Thread Cert.MlstmIdeal.nD Cert.MlstmIdeal.τ).loc Cert.MlstmIdeal.main_arg2)
      ∧ r.2.mem ((c.tc : Thread Cert.MlstmIdeal.nD Cert.MlstmIdeal.τ).loc Cert.MlstmIdeal.main_arg3) = m ((c.tc : Thread Cert.MlstmIdeal.nD Cert.MlstmIdeal.τ).loc Cert.MlstmIdeal.main_arg3)
      ∧ r.2.mem ((c.tc : Thread Cert.MlstmIdeal.nD Cert.MlstmIdeal.τ).loc Cert.MlstmIdeal.main_arg4) = m ((c.tc : Thread Cert.MlstmIdeal.nD Cert.MlstmIdeal.τ).loc Cert.MlstmIdeal.main_arg4)
      ∧ r.2.mem ((c.tc : Thread Cert.MlstmIdeal.nD Cert.MlstmIdeal.τ).loc Cert.MlstmIdeal.main_arg5) = m ((c.tc : Thread Cert.MlstmIdeal.nD Cert.MlstmIdeal.τ).loc Cert.MlstmIdeal.main_arg5)
      ∧ r.2.mem ((c.tc : Thread Cert.MlstmIdeal.nD Cert.MlstmIdeal.τ).loc Cert.MlstmIdeal.main_arg6) = m ((c.tc : Thread Cert.MlstmIdeal.nD Cert.MlstmIdeal.τ).loc Cert.MlstmIdeal.main_arg6)
      ∧ r.2.mem ((c.tc : Thread Cert.MlstmIdeal.nD Cert.MlstmIdeal.τ).loc Cert.MlstmIdeal.main_arg7) = m ((c.tc : Thread Cert.MlstmIdeal.nD Cert.MlstmIdeal.τ).loc Cert.MlstmIdeal.main_arg7))
      ∧ r.2.sem = fun _ => 0)

def quiescent_MlstmRefIdeal [hMlstmRefIdeal : Cert.MlstmRefIdeal.Facts] : Prop :=
  ∀ (m : (ℓ : Loc Cert.MlstmRefIdeal.nD Cert.MlstmRefIdeal.τ Cert.MlstmRefIdeal.sig) → Buf (Elt Ideal) ℓ) (g : Dev Cert.MlstmRefIdeal.nD → PrngReg), Pre_MlstmRefIdeal m →
    θ_run (Cert.MlstmRefIdeal.defs (F := Ideal)) (onTc (τ := Cert.MlstmRefIdeal.τ) (Cert.MlstmRefIdeal.main (F := Ideal))) ⟨m, fun _ => 0, g⟩ (fun r => (∀ c : Dev Cert.MlstmRefIdeal.nD,
      r.2.mem ((c.tc : Thread Cert.MlstmRefIdeal.nD Cert.MlstmRefIdeal.τ).loc Cert.MlstmRefIdeal.main_arg0) = m ((c.tc : Thread Cert.MlstmRefIdeal.nD Cert.MlstmRefIdeal.τ).loc Cert.MlstmRefIdeal.main_arg0)
      ∧ r.2.mem ((c.tc : Thread Cert.MlstmRefIdeal.nD Cert.MlstmRefIdeal.τ).loc Cert.MlstmRefIdeal.main_arg1) = m ((c.tc : Thread Cert.MlstmRefIdeal.nD Cert.MlstmRefIdeal.τ).loc Cert.MlstmRefIdeal.main_arg1)
      ∧ r.2.mem ((c.tc : Thread Cert.MlstmRefIdeal.nD Cert.MlstmRefIdeal.τ).loc Cert.MlstmRefIdeal.main_arg2) = m ((c.tc : Thread Cert.MlstmRefIdeal.nD Cert.MlstmRefIdeal.τ).loc Cert.MlstmRefIdeal.main_arg2)
      ∧ r.2.mem ((c.tc : Thread Cert.MlstmRefIdeal.nD Cert.MlstmRefIdeal.τ).loc Cert.MlstmRefIdeal.main_arg3) = m ((c.tc : Thread Cert.MlstmRefIdeal.nD Cert.MlstmRefIdeal.τ).loc Cert.MlstmRefIdeal.main_arg3)
      ∧ r.2.mem ((c.tc : Thread Cert.MlstmRefIdeal.nD Cert.MlstmRefIdeal.τ).loc Cert.MlstmRefIdeal.main_arg4) = m ((c.tc : Thread Cert.MlstmRefIdeal.nD Cert.MlstmRefIdeal.τ).loc Cert.MlstmRefIdeal.main_arg4)
      ∧ r.2.mem ((c.tc : Thread Cert.MlstmRefIdeal.nD Cert.MlstmRefIdeal.τ).loc Cert.MlstmRefIdeal.main_arg5) = m ((c.tc : Thread Cert.MlstmRefIdeal.nD Cert.MlstmRefIdeal.τ).loc Cert.MlstmRefIdeal.main_arg5)
      ∧ r.2.mem ((c.tc : Thread Cert.MlstmRefIdeal.nD Cert.MlstmRefIdeal.τ).loc Cert.MlstmRefIdeal.main_arg6) = m ((c.tc : Thread Cert.MlstmRefIdeal.nD Cert.MlstmRefIdeal.τ).loc Cert.MlstmRefIdeal.main_arg6)
      ∧ r.2.mem ((c.tc : Thread Cert.MlstmRefIdeal.nD Cert.MlstmRefIdeal.τ).loc Cert.MlstmRefIdeal.main_arg7) = m ((c.tc : Thread Cert.MlstmRefIdeal.nD Cert.MlstmRefIdeal.τ).loc Cert.MlstmRefIdeal.main_arg7))
      ∧ r.2.sem = fun _ => 0)

def quiescent_MlstmRefIdeal_pre_regular [hMlstmRefIdeal : Cert.MlstmRefIdeal.Facts] [hPre_regular : Cert.Pre_regular.Facts] : Prop :=
  ∀ (m : (ℓ : Loc Cert.MlstmRefIdeal.nD Cert.MlstmRefIdeal.τ Cert.MlstmRefIdeal.sig) → Buf (Elt Ideal) ℓ) (g : Dev Cert.MlstmRefIdeal.nD → PrngReg), Pre_MlstmRefIdeal_regular m →
    θ_run (Cert.MlstmRefIdeal.defs (F := Ideal)) (onTc (τ := Cert.MlstmRefIdeal.τ) (Cert.MlstmRefIdeal.main (F := Ideal))) ⟨m, fun _ => 0, g⟩ (fun r => (∀ c : Dev Cert.MlstmRefIdeal.nD,
      r.2.mem ((c.tc : Thread Cert.MlstmRefIdeal.nD Cert.MlstmRefIdeal.τ).loc Cert.MlstmRefIdeal.main_arg0) = m ((c.tc : Thread Cert.MlstmRefIdeal.nD Cert.MlstmRefIdeal.τ).loc Cert.MlstmRefIdeal.main_arg0)
      ∧ r.2.mem ((c.tc : Thread Cert.MlstmRefIdeal.nD Cert.MlstmRefIdeal.τ).loc Cert.MlstmRefIdeal.main_arg1) = m ((c.tc : Thread Cert.MlstmRefIdeal.nD Cert.MlstmRefIdeal.τ).loc Cert.MlstmRefIdeal.main_arg1)
      ∧ r.2.mem ((c.tc : Thread Cert.MlstmRefIdeal.nD Cert.MlstmRefIdeal.τ).loc Cert.MlstmRefIdeal.main_arg2) = m ((c.tc : Thread Cert.MlstmRefIdeal.nD Cert.MlstmRefIdeal.τ).loc Cert.MlstmRefIdeal.main_arg2)
      ∧ r.2.mem ((c.tc : Thread Cert.MlstmRefIdeal.nD Cert.MlstmRefIdeal.τ).loc Cert.MlstmRefIdeal.main_arg3) = m ((c.tc : Thread Cert.MlstmRefIdeal.nD Cert.MlstmRefIdeal.τ).loc Cert.MlstmRefIdeal.main_arg3)
      ∧ r.2.mem ((c.tc : Thread Cert.MlstmRefIdeal.nD Cert.MlstmRefIdeal.τ).loc Cert.MlstmRefIdeal.main_arg4) = m ((c.tc : Thread Cert.MlstmRefIdeal.nD Cert.MlstmRefIdeal.τ).loc Cert.MlstmRefIdeal.main_arg4)
      ∧ r.2.mem ((c.tc : Thread Cert.MlstmRefIdeal.nD Cert.MlstmRefIdeal.τ).loc Cert.MlstmRefIdeal.main_arg5) = m ((c.tc : Thread Cert.MlstmRefIdeal.nD Cert.MlstmRefIdeal.τ).loc Cert.MlstmRefIdeal.main_arg5)
      ∧ r.2.mem ((c.tc : Thread Cert.MlstmRefIdeal.nD Cert.MlstmRefIdeal.τ).loc Cert.MlstmRefIdeal.main_arg6) = m ((c.tc : Thread Cert.MlstmRefIdeal.nD Cert.MlstmRefIdeal.τ).loc Cert.MlstmRefIdeal.main_arg6)
      ∧ r.2.mem ((c.tc : Thread Cert.MlstmRefIdeal.nD Cert.MlstmRefIdeal.τ).loc Cert.MlstmRefIdeal.main_arg7) = m ((c.tc : Thread Cert.MlstmRefIdeal.nD Cert.MlstmRefIdeal.τ).loc Cert.MlstmRefIdeal.main_arg7))
      ∧ r.2.sem = fun _ => 0)

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v8)) (v1 : (c : Dev Cert.MlpIdeal.nD) → Buf (Elt Ideal) ((c.tc : Thread Cert.MlpIdeal.nD Cert.MlpIdeal.τ).loc Cert.MlpIdeal.main_v11)) (v2 : (c : Dev Cert.MlpIdeal.nD) → Buf (Elt Ideal) ((c.tc : Thread Cert.MlpIdeal.nD Cert.MlpIdeal.τ).loc Cert.MlpIdeal.main_v12)) (v3 : (c : Dev Cert.MlpIdeal.nD) → Buf (Elt Ideal) ((c.tc : Thread Cert.MlpIdeal.nD Cert.MlpIdeal.τ).loc Cert.MlpIdeal.main_v10)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v8) = v0 c
          ∧ r.2.mem ((c.tc : Thread Cert.MlpIdeal.nD Cert.MlpIdeal.τ).loc Cert.MlpIdeal.main_v11) = v1 c
          ∧ r.2.mem ((c.tc : Thread Cert.MlpIdeal.nD Cert.MlpIdeal.τ).loc Cert.MlpIdeal.main_v12) = v2 c
          ∧ r.2.mem ((c.tc : Thread Cert.MlpIdeal.nD Cert.MlpIdeal.τ).loc Cert.MlpIdeal.main_v10) = v3 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v9) = v0 c
          ∧ r.2.mem ((c.tc : Thread Cert.MlpRefIdeal.nD Cert.MlpRefIdeal.τ).loc Cert.MlpRefIdeal.main_v19) = v1 c
          ∧ r.2.mem ((c.tc : Thread Cert.MlpRefIdeal.nD Cert.MlpRefIdeal.τ).loc Cert.MlpRefIdeal.main_v22) = v2 c
          ∧ r.2.mem ((c.tc : Thread Cert.MlpRefIdeal.nD Cert.MlpRefIdeal.τ).loc Cert.MlpRefIdeal.main_v23) = v3 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v1)) (v1 : (c : Dev Cert.OutIdeal.nD) → Buf (Elt Ideal) ((c.tc : Thread Cert.OutIdeal.nD Cert.OutIdeal.τ).loc Cert.OutIdeal.main_v2)) (v2 : (c : Dev Cert.OutIdeal.nD) → Buf (Elt Ideal) ((c.tc : Thread Cert.OutIdeal.nD Cert.OutIdeal.τ).loc Cert.OutIdeal.main_v3)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v1) = v0 c
          ∧ r.2.mem ((c.tc : Thread Cert.OutIdeal.nD Cert.OutIdeal.τ).loc Cert.OutIdeal.main_v2) = v1 c
          ∧ r.2.mem ((c.tc : Thread Cert.OutIdeal.nD Cert.OutIdeal.τ).loc Cert.OutIdeal.main_v3) = v2 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v1) = v0 c
          ∧ r.2.mem ((c.tc : Thread Cert.OutRefIdeal.nD Cert.OutRefIdeal.τ).loc Cert.OutRefIdeal.main_v5) = v1 c
          ∧ r.2.mem ((c.tc : Thread Cert.OutRefIdeal.nD Cert.OutRefIdeal.τ).loc Cert.OutRefIdeal.main_v6) = v2 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)
      ∧ m' ((c.tc : Thread Cert.PleRefIdeal.nD Cert.PleRefIdeal.τ).loc Cert.PleRefIdeal.main_arg5) = m ((c.tc : Thread Cert.PleIdeal.nD Cert.PleIdeal.τ).loc Cert.PleIdeal.main_arg5)) →
    ∃ (v0 : (c : Dev Cert.PleIdeal.nD) → Buf (Elt Ideal) ((c.tc : Thread Cert.PleIdeal.nD Cert.PleIdeal.τ).loc Cert.PleIdeal.main_v4)) (v1 : (c : Dev Cert.PleIdeal.nD) → Buf (Elt Ideal) ((c.tc : Thread Cert.PleIdeal.nD Cert.PleIdeal.τ).loc Cert.PleIdeal.main_v5)) (v2 : (c : Dev Cert.PleIdeal.nD) → Buf (Elt Ideal) ((c.tc : Thread Cert.PleIdeal.nD Cert.PleIdeal.τ).loc Cert.PleIdeal.main_v6)) (v3 : (c : Dev Cert.PleIdeal.nD) → Buf (Elt Ideal) ((c.tc : Thread Cert.PleIdeal.nD Cert.PleIdeal.τ).loc Cert.PleIdeal.main_v7)) (v4 : (c : Dev Cert.PleIdeal.nD) → Buf (Elt Ideal) ((c.tc : Thread Cert.PleIdeal.nD Cert.PleIdeal.τ).loc Cert.PleIdeal.main_v8)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v4) = v0 c
          ∧ r.2.mem ((c.tc : Thread Cert.PleIdeal.nD Cert.PleIdeal.τ).loc Cert.PleIdeal.main_v5) = v1 c
          ∧ r.2.mem ((c.tc : Thread Cert.PleIdeal.nD Cert.PleIdeal.τ).loc Cert.PleIdeal.main_v6) = v2 c
          ∧ r.2.mem ((c.tc : Thread Cert.PleIdeal.nD Cert.PleIdeal.τ).loc Cert.PleIdeal.main_v7) = v3 c
          ∧ r.2.mem ((c.tc : Thread Cert.PleIdeal.nD Cert.PleIdeal.τ).loc Cert.PleIdeal.main_v8) = v4 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
          ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v0) = v0 c
          ∧ r.2.mem ((c.tc : Thread Cert.PleRefIdeal.nD Cert.PleRefIdeal.τ).loc Cert.PleRefIdeal.main_v2) = v1 c
          ∧ r.2.mem ((c.tc : Thread Cert.PleRefIdeal.nD Cert.PleRefIdeal.τ).loc Cert.PleRefIdeal.main_v6) = v2 c
          ∧ r.2.mem ((c.tc : Thread Cert.PleRefIdeal.nD Cert.PleRefIdeal.τ).loc Cert.PleRefIdeal.main_v10) = v3 c
          ∧ r.2.mem ((c.tc : Thread Cert.PleRefIdeal.nD Cert.PleRefIdeal.τ).loc Cert.PleRefIdeal.main_v13) = v4 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4)
          ∧ r.2.mem ((c.tc : Thread Cert.PleRefIdeal.nD Cert.PleRefIdeal.τ).loc Cert.PleRefIdeal.main_arg5) = m' ((c.tc : Thread Cert.PleRefIdeal.nD Cert.PleRefIdeal.τ).loc Cert.PleRefIdeal.main_arg5))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)
      ∧ m' ((c.tc : Thread Cert.InRefIdeal.nD Cert.InRefIdeal.τ).loc Cert.InRefIdeal.main_arg3) = m ((c.tc : Thread Cert.InIdeal.nD Cert.InIdeal.τ).loc Cert.InIdeal.main_arg3)
      ∧ m' ((c.tc : Thread Cert.InRefIdeal.nD Cert.InRefIdeal.τ).loc Cert.InRefIdeal.main_arg4) = m ((c.tc : Thread Cert.InIdeal.nD Cert.InIdeal.τ).loc Cert.InIdeal.main_arg4)
      ∧ m' ((c.tc : Thread Cert.InRefIdeal.nD Cert.InRefIdeal.τ).loc Cert.InRefIdeal.main_arg5) = m ((c.tc : Thread Cert.InIdeal.nD Cert.InIdeal.τ).loc Cert.InIdeal.main_arg5)) →
    ∃ (v0 : (c : Dev Cert.InIdeal.nD) → Buf (Elt Ideal) ((c.tc : Thread Cert.InIdeal.nD Cert.InIdeal.τ).loc Cert.InIdeal.main_v9)) (v1 : (c : Dev Cert.InIdeal.nD) → Buf (Elt Ideal) ((c.tc : Thread Cert.InIdeal.nD Cert.InIdeal.τ).loc Cert.InIdeal.main_v15)) (v2 : (c : Dev Cert.InIdeal.nD) → Buf (Elt Ideal) ((c.tc : Thread Cert.InIdeal.nD Cert.InIdeal.τ).loc Cert.InIdeal.main_v16)) (v3 : (c : Dev Cert.InIdeal.nD) → Buf (Elt Ideal) ((c.tc : Thread Cert.InIdeal.nD Cert.InIdeal.τ).loc Cert.InIdeal.main_v11)) (v4 : (c : Dev Cert.InIdeal.nD) → Buf (Elt Ideal) ((c.tc : Thread Cert.InIdeal.nD Cert.InIdeal.τ).loc Cert.InIdeal.main_v17)) (v5 : (c : Dev Cert.InIdeal.nD) → Buf (Elt Ideal) ((c.tc : Thread Cert.InIdeal.nD Cert.InIdeal.τ).loc Cert.InIdeal.main_v18)) (v6 : (c : Dev Cert.InIdeal.nD) → Buf (Elt Ideal) ((c.tc : Thread Cert.InIdeal.nD Cert.InIdeal.τ).loc Cert.InIdeal.main_v14)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v9) = v0 c
          ∧ r.2.mem ((c.tc : Thread Cert.InIdeal.nD Cert.InIdeal.τ).loc Cert.InIdeal.main_v15) = v1 c
          ∧ r.2.mem ((c.tc : Thread Cert.InIdeal.nD Cert.InIdeal.τ).loc Cert.InIdeal.main_v16) = v2 c
          ∧ r.2.mem ((c.tc : Thread Cert.InIdeal.nD Cert.InIdeal.τ).loc Cert.InIdeal.main_v11) = v3 c
          ∧ r.2.mem ((c.tc : Thread Cert.InIdeal.nD Cert.InIdeal.τ).loc Cert.InIdeal.main_v17) = v4 c
          ∧ r.2.mem ((c.tc : Thread Cert.InIdeal.nD Cert.InIdeal.τ).loc Cert.InIdeal.main_v18) = v5 c
          ∧ r.2.mem ((c.tc : Thread Cert.InIdeal.nD Cert.InIdeal.τ).loc Cert.InIdeal.main_v14) = v6 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3)
          ∧ r.2.mem ((c.tc : Thread Cert.InIdeal.nD Cert.InIdeal.τ).loc Cert.InIdeal.main_arg4) = m ((c.tc : Thread Cert.InIdeal.nD Cert.InIdeal.τ).loc Cert.InIdeal.main_arg4)
          ∧ r.2.mem ((c.tc : Thread Cert.InIdeal.nD Cert.InIdeal.τ).loc Cert.InIdeal.main_arg5) = m ((c.tc : Thread Cert.InIdeal.nD Cert.InIdeal.τ).loc Cert.InIdeal.main_arg5))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v7) = v0 c
          ∧ r.2.mem ((c.tc : Thread Cert.InRefIdeal.nD Cert.InRefIdeal.τ).loc Cert.InRefIdeal.main_v9) = v1 c
          ∧ r.2.mem ((c.tc : Thread Cert.InRefIdeal.nD Cert.InRefIdeal.τ).loc Cert.InRefIdeal.main_v8) = v2 c
          ∧ r.2.mem ((c.tc : Thread Cert.InRefIdeal.nD Cert.InRefIdeal.τ).loc Cert.InRefIdeal.main_v12) = v3 c
          ∧ r.2.mem ((c.tc : Thread Cert.InRefIdeal.nD Cert.InRefIdeal.τ).loc Cert.InRefIdeal.main_v14) = v4 c
          ∧ r.2.mem ((c.tc : Thread Cert.InRefIdeal.nD Cert.InRefIdeal.τ).loc Cert.InRefIdeal.main_v13) = v5 c
          ∧ r.2.mem ((c.tc : Thread Cert.InRefIdeal.nD Cert.InRefIdeal.τ).loc Cert.InRefIdeal.main_v6) = v6 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4)
          ∧ r.2.mem ((c.tc : Thread Cert.InRefIdeal.nD Cert.InRefIdeal.τ).loc Cert.InRefIdeal.main_arg5) = m' ((c.tc : Thread Cert.InRefIdeal.nD Cert.InRefIdeal.τ).loc Cert.InRefIdeal.main_arg5))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)
      ∧ m' ((c.tc : Thread Cert.NormRefIdeal.nD Cert.NormRefIdeal.τ).loc Cert.NormRefIdeal.main_arg4) = m ((c.tc : Thread Cert.NormIdeal.nD Cert.NormIdeal.τ).loc Cert.NormIdeal.main_arg4)
      ∧ m' ((c.tc : Thread Cert.NormRefIdeal.nD Cert.NormRefIdeal.τ).loc Cert.NormRefIdeal.main_arg5) = m ((c.tc : Thread Cert.NormIdeal.nD Cert.NormIdeal.τ).loc Cert.NormIdeal.main_arg5)
      ∧ m' ((c.tc : Thread Cert.NormRefIdeal.nD Cert.NormRefIdeal.τ).loc Cert.NormRefIdeal.main_arg6) = m ((c.tc : Thread Cert.NormIdeal.nD Cert.NormIdeal.τ).loc Cert.NormIdeal.main_arg6)
      ∧ m' ((c.tc : Thread Cert.NormRefIdeal.nD Cert.NormRefIdeal.τ).loc Cert.NormRefIdeal.main_arg7) = m ((c.tc : Thread Cert.NormIdeal.nD Cert.NormIdeal.τ).loc Cert.NormIdeal.main_arg7)
      ∧ m' ((c.tc : Thread Cert.NormRefIdeal.nD Cert.NormRefIdeal.τ).loc Cert.NormRefIdeal.main_arg8) = m ((c.tc : Thread Cert.NormIdeal.nD Cert.NormIdeal.τ).loc Cert.NormIdeal.main_arg8)) →
    ∃ (v0 : (c : Dev Cert.NormIdeal.nD) → Buf (Elt Ideal) ((c.tc : Thread Cert.NormIdeal.nD Cert.NormIdeal.τ).loc Cert.NormIdeal.main_v0)) (v1 : (c : Dev Cert.NormIdeal.nD) → Buf (Elt Ideal) ((c.tc : Thread Cert.NormIdeal.nD Cert.NormIdeal.τ).loc Cert.NormIdeal.main_v1_0)) (v2 : (c : Dev Cert.NormIdeal.nD) → Buf (Elt Ideal) ((c.tc : Thread Cert.NormIdeal.nD Cert.NormIdeal.τ).loc Cert.NormIdeal.main_v1_1)) (v3 : (c : Dev Cert.NormIdeal.nD) → Buf (Elt Ideal) ((c.tc : Thread Cert.NormIdeal.nD Cert.NormIdeal.τ).loc Cert.NormIdeal.main_v2_0)) (v4 : (c : Dev Cert.NormIdeal.nD) → Buf (Elt Ideal) ((c.tc : Thread Cert.NormIdeal.nD Cert.NormIdeal.τ).loc Cert.NormIdeal.main_v2_1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0) = v0 c
          ∧ r.2.mem ((c.tc : Thread Cert.NormIdeal.nD Cert.NormIdeal.τ).loc Cert.NormIdeal.main_v1_0) = v1 c
          ∧ r.2.mem ((c.tc : Thread Cert.NormIdeal.nD Cert.NormIdeal.τ).loc Cert.NormIdeal.main_v1_1) = v2 c
          ∧ r.2.mem ((c.tc : Thread Cert.NormIdeal.nD Cert.NormIdeal.τ).loc Cert.NormIdeal.main_v2_0) = v3 c
          ∧ r.2.mem ((c.tc : Thread Cert.NormIdeal.nD Cert.NormIdeal.τ).loc Cert.NormIdeal.main_v2_1) = v4 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
          ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
          ∧ r.2.mem ((c.tc : Thread Cert.NormIdeal.nD Cert.NormIdeal.τ).loc Cert.NormIdeal.main_arg6) = m ((c.tc : Thread Cert.NormIdeal.nD Cert.NormIdeal.τ).loc Cert.NormIdeal.main_arg6)
          ∧ r.2.mem ((c.tc : Thread Cert.NormIdeal.nD Cert.NormIdeal.τ).loc Cert.NormIdeal.main_arg7) = m ((c.tc : Thread Cert.NormIdeal.nD Cert.NormIdeal.τ).loc Cert.NormIdeal.main_arg7)
          ∧ r.2.mem ((c.tc : Thread Cert.NormIdeal.nD Cert.NormIdeal.τ).loc Cert.NormIdeal.main_arg8) = m ((c.tc : Thread Cert.NormIdeal.nD Cert.NormIdeal.τ).loc Cert.NormIdeal.main_arg8))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v62) = v0 c
          ∧ r.2.mem ((c.tc : Thread Cert.NormRefIdeal.nD Cert.NormRefIdeal.τ).loc Cert.NormRefIdeal.main_v24) = v1 c
          ∧ r.2.mem ((c.tc : Thread Cert.NormRefIdeal.nD Cert.NormRefIdeal.τ).loc Cert.NormRefIdeal.main_v63) = v2 c
          ∧ r.2.mem ((c.tc : Thread Cert.NormRefIdeal.nD Cert.NormRefIdeal.τ).loc Cert.NormRefIdeal.main_v49) = v3 c
          ∧ r.2.mem ((c.tc : Thread Cert.NormRefIdeal.nD Cert.NormRefIdeal.τ).loc Cert.NormRefIdeal.main_v64) = v4 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3)
          ∧ r.2.mem ((c.tc : Thread Cert.NormRefIdeal.nD Cert.NormRefIdeal.τ).loc Cert.NormRefIdeal.main_arg4) = m' ((c.tc : Thread Cert.NormRefIdeal.nD Cert.NormRefIdeal.τ).loc Cert.NormRefIdeal.main_arg4)
          ∧ r.2.mem ((c.tc : Thread Cert.NormRefIdeal.nD Cert.NormRefIdeal.τ).loc Cert.NormRefIdeal.main_arg5) = m' ((c.tc : Thread Cert.NormRefIdeal.nD Cert.NormRefIdeal.τ).loc Cert.NormRefIdeal.main_arg5)
          ∧ r.2.mem ((c.tc : Thread Cert.NormRefIdeal.nD Cert.NormRefIdeal.τ).loc Cert.NormRefIdeal.main_arg6) = m' ((c.tc : Thread Cert.NormRefIdeal.nD Cert.NormRefIdeal.τ).loc Cert.NormRefIdeal.main_arg6)
          ∧ r.2.mem ((c.tc : Thread Cert.NormRefIdeal.nD Cert.NormRefIdeal.τ).loc Cert.NormRefIdeal.main_arg7) = m' ((c.tc : Thread Cert.NormRefIdeal.nD Cert.NormRefIdeal.τ).loc Cert.NormRefIdeal.main_arg7)
          ∧ r.2.mem ((c.tc : Thread Cert.NormRefIdeal.nD Cert.NormRefIdeal.τ).loc Cert.NormRefIdeal.main_arg8) = m' ((c.tc : Thread Cert.NormRefIdeal.nD Cert.NormRefIdeal.τ).loc Cert.NormRefIdeal.main_arg8))

def preserves_Mlstm_MlstmIdeal : Prop :=
  IdealRules.sign_bit.Statement Cert.MlstmIdeal.S128x1 .f32

def algebraic_MlstmIdeal_MlstmRefIdeal_pre_regular [hMlstmIdeal : Cert.MlstmIdeal.Facts] [hMlstmRefIdeal : Cert.MlstmRefIdeal.Facts] [hPre_regular : Cert.Pre_regular.Facts] : Prop :=
  ∀ (m : (ℓ : Loc Cert.MlstmIdeal.nD Cert.MlstmIdeal.τ Cert.MlstmIdeal.sig) → Buf (Elt Ideal) ℓ) (g : Dev Cert.MlstmIdeal.nD → PrngReg)
    (m' : (ℓ : Loc Cert.MlstmRefIdeal.nD Cert.MlstmRefIdeal.τ Cert.MlstmRefIdeal.sig) → Buf (Elt Ideal) ℓ) (g' : Dev Cert.MlstmRefIdeal.nD → PrngReg), Pre_MlstmIdeal_regular m →
    (∀ c : Dev Cert.MlstmIdeal.nD,
      m' ((c.tc : Thread Cert.MlstmRefIdeal.nD Cert.MlstmRefIdeal.τ).loc Cert.MlstmRefIdeal.main_arg0) = m ((c.tc : Thread Cert.MlstmIdeal.nD Cert.MlstmIdeal.τ).loc Cert.MlstmIdeal.main_arg0)
      ∧ m' ((c.tc : Thread Cert.MlstmRefIdeal.nD Cert.MlstmRefIdeal.τ).loc Cert.MlstmRefIdeal.main_arg1) = m ((c.tc : Thread Cert.MlstmIdeal.nD Cert.MlstmIdeal.τ).loc Cert.MlstmIdeal.main_arg1)
      ∧ m' ((c.tc : Thread Cert.MlstmRefIdeal.nD Cert.MlstmRefIdeal.τ).loc Cert.MlstmRefIdeal.main_arg2) = m ((c.tc : Thread Cert.MlstmIdeal.nD Cert.MlstmIdeal.τ).loc Cert.MlstmIdeal.main_arg2)
      ∧ m' ((c.tc : Thread Cert.MlstmRefIdeal.nD Cert.MlstmRefIdeal.τ).loc Cert.MlstmRefIdeal.main_arg3) = m ((c.tc : Thread Cert.MlstmIdeal.nD Cert.MlstmIdeal.τ).loc Cert.MlstmIdeal.main_arg3)
      ∧ m' ((c.tc : Thread Cert.MlstmRefIdeal.nD Cert.MlstmRefIdeal.τ).loc Cert.MlstmRefIdeal.main_arg4) = m ((c.tc : Thread Cert.MlstmIdeal.nD Cert.MlstmIdeal.τ).loc Cert.MlstmIdeal.main_arg4)
      ∧ m' ((c.tc : Thread Cert.MlstmRefIdeal.nD Cert.MlstmRefIdeal.τ).loc Cert.MlstmRefIdeal.main_arg5) = m ((c.tc : Thread Cert.MlstmIdeal.nD Cert.MlstmIdeal.τ).loc Cert.MlstmIdeal.main_arg5)
      ∧ m' ((c.tc : Thread Cert.MlstmRefIdeal.nD Cert.MlstmRefIdeal.τ).loc Cert.MlstmRefIdeal.main_arg6) = m ((c.tc : Thread Cert.MlstmIdeal.nD Cert.MlstmIdeal.τ).loc Cert.MlstmIdeal.main_arg6)
      ∧ m' ((c.tc : Thread Cert.MlstmRefIdeal.nD Cert.MlstmRefIdeal.τ).loc Cert.MlstmRefIdeal.main_arg7) = m ((c.tc : Thread Cert.MlstmIdeal.nD Cert.MlstmIdeal.τ).loc Cert.MlstmIdeal.main_arg7)) →
    ∃ (v0 : (c : Dev Cert.MlstmIdeal.nD) → Buf (Elt Ideal) ((c.tc : Thread Cert.MlstmIdeal.nD Cert.MlstmIdeal.τ).loc Cert.MlstmIdeal.main_v62_0)) (v1 : (c : Dev Cert.MlstmIdeal.nD) → Buf (Elt Ideal) ((c.tc : Thread Cert.MlstmIdeal.nD Cert.MlstmIdeal.τ).loc Cert.MlstmIdeal.main_v62_1)) (v2 : (c : Dev Cert.MlstmIdeal.nD) → Buf (Elt Ideal) ((c.tc : Thread Cert.MlstmIdeal.nD Cert.MlstmIdeal.τ).loc Cert.MlstmIdeal.main_v62_2)) (v3 : (c : Dev Cert.MlstmIdeal.nD) → Buf (Elt Ideal) ((c.tc : Thread Cert.MlstmIdeal.nD Cert.MlstmIdeal.τ).loc Cert.MlstmIdeal.main_v62_3)) (v4 : (c : Dev Cert.MlstmIdeal.nD) → Buf (Elt Ideal) ((c.tc : Thread Cert.MlstmIdeal.nD Cert.MlstmIdeal.τ).loc Cert.MlstmIdeal.main_v62_6)),
      θ_run (Cert.MlstmIdeal.defs (F := Ideal)) (onTc (τ := Cert.MlstmIdeal.τ) (Cert.MlstmIdeal.main (F := Ideal))) ⟨m, fun _ => 0, g⟩ (fun r => ∀ c : Dev Cert.MlstmIdeal.nD,
          r.2.mem ((c.tc : Thread Cert.MlstmIdeal.nD Cert.MlstmIdeal.τ).loc Cert.MlstmIdeal.main_v62_0) = v0 c
          ∧ r.2.mem ((c.tc : Thread Cert.MlstmIdeal.nD Cert.MlstmIdeal.τ).loc Cert.MlstmIdeal.main_v62_1) = v1 c
          ∧ r.2.mem ((c.tc : Thread Cert.MlstmIdeal.nD Cert.MlstmIdeal.τ).loc Cert.MlstmIdeal.main_v62_2) = v2 c
          ∧ r.2.mem ((c.tc : Thread Cert.MlstmIdeal.nD Cert.MlstmIdeal.τ).loc Cert.MlstmIdeal.main_v62_3) = v3 c
          ∧ r.2.mem ((c.tc : Thread Cert.MlstmIdeal.nD Cert.MlstmIdeal.τ).loc Cert.MlstmIdeal.main_v62_6) = v4 c
          ∧ r.2.mem ((c.tc : Thread Cert.MlstmIdeal.nD Cert.MlstmIdeal.τ).loc Cert.MlstmIdeal.main_arg0) = m ((c.tc : Thread Cert.MlstmIdeal.nD Cert.MlstmIdeal.τ).loc Cert.MlstmIdeal.main_arg0)
          ∧ r.2.mem ((c.tc : Thread Cert.MlstmIdeal.nD Cert.MlstmIdeal.τ).loc Cert.MlstmIdeal.main_arg1) = m ((c.tc : Thread Cert.MlstmIdeal.nD Cert.MlstmIdeal.τ).loc Cert.MlstmIdeal.main_arg1)
          ∧ r.2.mem ((c.tc : Thread Cert.MlstmIdeal.nD Cert.MlstmIdeal.τ).loc Cert.MlstmIdeal.main_arg2) = m ((c.tc : Thread Cert.MlstmIdeal.nD Cert.MlstmIdeal.τ).loc Cert.MlstmIdeal.main_arg2)
          ∧ r.2.mem ((c.tc : Thread Cert.MlstmIdeal.nD Cert.MlstmIdeal.τ).loc Cert.MlstmIdeal.main_arg3) = m ((c.tc : Thread Cert.MlstmIdeal.nD Cert.MlstmIdeal.τ).loc Cert.MlstmIdeal.main_arg3)
          ∧ r.2.mem ((c.tc : Thread Cert.MlstmIdeal.nD Cert.MlstmIdeal.τ).loc Cert.MlstmIdeal.main_arg4) = m ((c.tc : Thread Cert.MlstmIdeal.nD Cert.MlstmIdeal.τ).loc Cert.MlstmIdeal.main_arg4)
          ∧ r.2.mem ((c.tc : Thread Cert.MlstmIdeal.nD Cert.MlstmIdeal.τ).loc Cert.MlstmIdeal.main_arg5) = m ((c.tc : Thread Cert.MlstmIdeal.nD Cert.MlstmIdeal.τ).loc Cert.MlstmIdeal.main_arg5)
          ∧ r.2.mem ((c.tc : Thread Cert.MlstmIdeal.nD Cert.MlstmIdeal.τ).loc Cert.MlstmIdeal.main_arg6) = m ((c.tc : Thread Cert.MlstmIdeal.nD Cert.MlstmIdeal.τ).loc Cert.MlstmIdeal.main_arg6)
          ∧ r.2.mem ((c.tc : Thread Cert.MlstmIdeal.nD Cert.MlstmIdeal.τ).loc Cert.MlstmIdeal.main_arg7) = m ((c.tc : Thread Cert.MlstmIdeal.nD Cert.MlstmIdeal.τ).loc Cert.MlstmIdeal.main_arg7))
      ∧ θ_run (Cert.MlstmRefIdeal.defs (F := Ideal)) (onTc (τ := Cert.MlstmRefIdeal.τ) (Cert.MlstmRefIdeal.main (F := Ideal))) ⟨m', fun _ => 0, g'⟩ (fun r => ∀ c : Dev Cert.MlstmRefIdeal.nD,
          r.2.mem ((c.tc : Thread Cert.MlstmRefIdeal.nD Cert.MlstmRefIdeal.τ).loc Cert.MlstmRefIdeal.main_v139) = v0 c
          ∧ r.2.mem ((c.tc : Thread Cert.MlstmRefIdeal.nD Cert.MlstmRefIdeal.τ).loc Cert.MlstmRefIdeal.main_v138) = v1 c
          ∧ r.2.mem ((c.tc : Thread Cert.MlstmRefIdeal.nD Cert.MlstmRefIdeal.τ).loc Cert.MlstmRefIdeal.main_v140) = v2 c
          ∧ r.2.mem ((c.tc : Thread Cert.MlstmRefIdeal.nD Cert.MlstmRefIdeal.τ).loc Cert.MlstmRefIdeal.main_v141) = v3 c
          ∧ r.2.mem ((c.tc : Thread Cert.MlstmRefIdeal.nD Cert.MlstmRefIdeal.τ).loc Cert.MlstmRefIdeal.main_v106) = v4 c
          ∧ r.2.mem ((c.tc : Thread Cert.MlstmRefIdeal.nD Cert.MlstmRefIdeal.τ).loc Cert.MlstmRefIdeal.main_arg0) = m' ((c.tc : Thread Cert.MlstmRefIdeal.nD Cert.MlstmRefIdeal.τ).loc Cert.MlstmRefIdeal.main_arg0)
          ∧ r.2.mem ((c.tc : Thread Cert.MlstmRefIdeal.nD Cert.MlstmRefIdeal.τ).loc Cert.MlstmRefIdeal.main_arg1) = m' ((c.tc : Thread Cert.MlstmRefIdeal.nD Cert.MlstmRefIdeal.τ).loc Cert.MlstmRefIdeal.main_arg1)
          ∧ r.2.mem ((c.tc : Thread Cert.MlstmRefIdeal.nD Cert.MlstmRefIdeal.τ).loc Cert.MlstmRefIdeal.main_arg2) = m' ((c.tc : Thread Cert.MlstmRefIdeal.nD Cert.MlstmRefIdeal.τ).loc Cert.MlstmRefIdeal.main_arg2)
          ∧ r.2.mem ((c.tc : Thread Cert.MlstmRefIdeal.nD Cert.MlstmRefIdeal.τ).loc Cert.MlstmRefIdeal.main_arg3) = m' ((c.tc : Thread Cert.MlstmRefIdeal.nD Cert.MlstmRefIdeal.τ).loc Cert.MlstmRefIdeal.main_arg3)
          ∧ r.2.mem ((c.tc : Thread Cert.MlstmRefIdeal.nD Cert.MlstmRefIdeal.τ).loc Cert.MlstmRefIdeal.main_arg4) = m' ((c.tc : Thread Cert.MlstmRefIdeal.nD Cert.MlstmRefIdeal.τ).loc Cert.MlstmRefIdeal.main_arg4)
          ∧ r.2.mem ((c.tc : Thread Cert.MlstmRefIdeal.nD Cert.MlstmRefIdeal.τ).loc Cert.MlstmRefIdeal.main_arg5) = m' ((c.tc : Thread Cert.MlstmRefIdeal.nD Cert.MlstmRefIdeal.τ).loc Cert.MlstmRefIdeal.main_arg5)
          ∧ r.2.mem ((c.tc : Thread Cert.MlstmRefIdeal.nD Cert.MlstmRefIdeal.τ).loc Cert.MlstmRefIdeal.main_arg6) = m' ((c.tc : Thread Cert.MlstmRefIdeal.nD Cert.MlstmRefIdeal.τ).loc Cert.MlstmRefIdeal.main_arg6)
          ∧ r.2.mem ((c.tc : Thread Cert.MlstmRefIdeal.nD Cert.MlstmRefIdeal.τ).loc Cert.MlstmRefIdeal.main_arg7) = m' ((c.tc : Thread Cert.MlstmRefIdeal.nD Cert.MlstmRefIdeal.τ).loc Cert.MlstmRefIdeal.main_arg7))

def Claim : Prop :=
  ∃ (hMlp : Cert.Mlp.Facts) (hMlpIdeal : Cert.MlpIdeal.Facts) (hMlpRefIdeal : Cert.MlpRefIdeal.Facts) (hOut : Cert.Out.Facts) (hOutIdeal : Cert.OutIdeal.Facts) (hOutRefIdeal : Cert.OutRefIdeal.Facts) (hPle : Cert.Ple.Facts) (hPleIdeal : Cert.PleIdeal.Facts) (hPleRefIdeal : Cert.PleRefIdeal.Facts) (hIn : Cert.In.Facts) (hInIdeal : Cert.InIdeal.Facts) (hInRefIdeal : Cert.InRefIdeal.Facts) (hNorm : Cert.Norm.Facts) (hNormIdeal : Cert.NormIdeal.Facts) (hNormRefIdeal : Cert.NormRefIdeal.Facts) (hMlstm : Cert.Mlstm.Facts) (hMlstmIdeal : Cert.MlstmIdeal.Facts) (hMlstmRefIdeal : Cert.MlstmRefIdeal.Facts) (hPre_regular : Cert.Pre_regular.Facts),
    quiescent_Mlp (hMlp := hMlp)
    ∧ quiescent_MlpIdeal (hMlpIdeal := hMlpIdeal)
    ∧ quiescent_MlpRefIdeal (hMlpRefIdeal := hMlpRefIdeal)
    ∧ quiescent_Out (hOut := hOut)
    ∧ quiescent_OutIdeal (hOutIdeal := hOutIdeal)
    ∧ quiescent_OutRefIdeal (hOutRefIdeal := hOutRefIdeal)
    ∧ quiescent_Ple (hPle := hPle)
    ∧ quiescent_PleIdeal (hPleIdeal := hPleIdeal)
    ∧ quiescent_PleRefIdeal (hPleRefIdeal := hPleRefIdeal)
    ∧ quiescent_In (hIn := hIn)
    ∧ quiescent_InIdeal (hInIdeal := hInIdeal)
    ∧ quiescent_InRefIdeal (hInRefIdeal := hInRefIdeal)
    ∧ quiescent_Norm (hNorm := hNorm)
    ∧ quiescent_NormIdeal (hNormIdeal := hNormIdeal)
    ∧ quiescent_NormRefIdeal (hNormRefIdeal := hNormRefIdeal)
    ∧ quiescent_Mlstm (hMlstm := hMlstm)
    ∧ quiescent_MlstmIdeal (hMlstmIdeal := hMlstmIdeal)
    ∧ quiescent_MlstmIdeal_pre_regular (hMlstmIdeal := hMlstmIdeal) (hPre_regular := hPre_regular)
    ∧ quiescent_MlstmRefIdeal (hMlstmRefIdeal := hMlstmRefIdeal)
    ∧ quiescent_MlstmRefIdeal_pre_regular (hMlstmRefIdeal := hMlstmRefIdeal) (hPre_regular := hPre_regular)
    ∧ preserves_Mlp_MlpIdeal
    ∧ algebraic_MlpIdeal_MlpRefIdeal (hMlpIdeal := hMlpIdeal) (hMlpRefIdeal := hMlpRefIdeal)
    ∧ preserves_Out_OutIdeal
    ∧ algebraic_OutIdeal_OutRefIdeal (hOutIdeal := hOutIdeal) (hOutRefIdeal := hOutRefIdeal)
    ∧ preserves_Ple_PleIdeal
    ∧ algebraic_PleIdeal_PleRefIdeal (hPleIdeal := hPleIdeal) (hPleRefIdeal := hPleRefIdeal)
    ∧ preserves_In_InIdeal
    ∧ algebraic_InIdeal_InRefIdeal (hInIdeal := hInIdeal) (hInRefIdeal := hInRefIdeal)
    ∧ preserves_Norm_NormIdeal
    ∧ algebraic_NormIdeal_NormRefIdeal (hNormIdeal := hNormIdeal) (hNormRefIdeal := hNormRefIdeal)
    ∧ preserves_Mlstm_MlstmIdeal
    ∧ algebraic_MlstmIdeal_MlstmRefIdeal_pre_regular (hMlstmIdeal := hMlstmIdeal) (hMlstmRefIdeal := hMlstmRefIdeal) (hPre_regular := hPre_regular)
-- ==== Pre_regular.lean ====
abbrev S2048x1024 : Shape := ⟨2, ![2048, 1024]⟩
abbrev S2048x4096 : Shape := ⟨2, ![2048, 4096]⟩
abbrev S2048x8 : Shape := ⟨2, ![2048, 8]⟩
abbrev S1x1024 : Shape := ⟨2, ![1, 1024]⟩
abbrev S2048x2048 : Shape := ⟨2, ![2048, 2048]⟩
abbrev S8x128 : Shape := ⟨2, ![8, 128]⟩
abbrev S2048x8x128 : Shape := ⟨3, ![2048, 8, 128]⟩
abbrev S_ : Shape := ⟨0, ![]⟩
abbrev S2048x1x8 : Shape := ⟨3, ![2048, 1, 8]⟩
abbrev S1x2048x8 : Shape := ⟨3, ![1, 2048, 8]⟩
abbrev S2048x2048x8 : Shape := ⟨3, ![2048, 2048, 8]⟩
abbrev S2048x2048x1 : Shape := ⟨3, ![2048, 2048, 1]⟩
abbrev S8x2048x2048 : Shape := ⟨3, ![8, 2048, 2048]⟩

class Facts : Prop where
  shapeCasts_S2048x1024_S2048x8x128 : S2048x1024.ShapeCasts S2048x8x128
  bcast_S_S_ : S_.BroadcastsInDim S_ (![] : Fin 0 → Fin S_.rank)
  reduceWindows_S2048x8_S2048x8_w2048s1p2047_0_w1s1p0_0 : S2048x8.ReduceWindows (![2048, 1] : Fin 2 → Nat) ![1, 1] ![2047, 0] ![0, 0] S2048x8
  h_S_ : 0 < S_.numel
  bcast_S_S2048x2048 : S_.BroadcastsInDim S2048x2048 (![] : Fin 0 → Fin S2048x2048.rank)
  bcast_S2048x8_S2048x1x8_0_2 : S2048x8.BroadcastsInDim S2048x1x8 (![0, 2] : Fin 2 → Fin S2048x1x8.rank)
  bcast_S2048x8_S1x2048x8_1_2 : S2048x8.BroadcastsInDim S1x2048x8 (![1, 2] : Fin 2 → Fin S1x2048x8.rank)
  bcast_S2048x1x8_S2048x2048x8_0_1_2 : S2048x1x8.BroadcastsInDim S2048x2048x8 (![0, 1, 2] : Fin 3 → Fin S2048x2048x8.rank)
  bcast_S1x2048x8_S2048x2048x8_0_1_2 : S1x2048x8.BroadcastsInDim S2048x2048x8 (![0, 1, 2] : Fin 3 → Fin S2048x2048x8.rank)
  bcast_S2048x2048_S2048x2048x1_0_1 : S2048x2048.BroadcastsInDim S2048x2048x1 (![0, 1] : Fin 2 → Fin S2048x2048x1.rank)
  bcast_S2048x2048x1_S2048x2048x8_0_1_2 : S2048x2048x1.BroadcastsInDim S2048x2048x8 (![0, 1, 2] : Fin 3 → Fin S2048x2048x8.rank)
  bcast_S_S2048x2048x8 : S_.BroadcastsInDim S2048x2048x8 (![] : Fin 0 → Fin S2048x2048x8.rank)
  reducesTo_S2048x2048x8_S2048x8_d1 : S2048x2048x8.ReducesTo [1] S2048x8
  bcast_S_S2048x8x128 : S_.BroadcastsInDim S2048x8x128 (![] : Fin 0 → Fin S2048x8x128.rank)
  transposes_S8x2048x2048_S2048x2048x8_2_1_0 : S8x2048x2048.Transposes [2, 1, 0] S2048x2048x8
  slices_S2048x4096_S2048x1024_0_2048 : S2048x4096.Slices ![0, 2048] S2048x1024
  slices_S2048x2048_S2048x1024_0_0 : S2048x2048.Slices ![0, 0] S2048x1024
  bcast_S_S2048x1024 : S_.BroadcastsInDim S2048x1024 (![] : Fin 0 → Fin S2048x1024.rank)
  bcast_S_S2048x8 : S_.BroadcastsInDim S2048x8 (![] : Fin 0 → Fin S2048x8.rank)
  bcast_S_S1x1024 : S_.BroadcastsInDim S1x1024 (![] : Fin 0 → Fin S1x1024.rank)
  dot_S2048x8x128_S2048x8x128_S8x2048x2048_2_2_0_0_1_1_wf : DotDims.WF S2048x8x128 S2048x8x128 S8x2048x2048 [2] [2] [0] [0] [1] [1]

variable [Facts]

def dot_S2048x8x128_S2048x8x128_S8x2048x2048_2_2_0_0_1_1 : DotDims S2048x8x128 S2048x8x128 S8x2048x2048 where
  lhsContracting := [2]
  rhsContracting := [2]
  lhsNonContracting := [0]
  rhsNonContracting := [0]
  lhsBatch := [1]
  rhsBatch := [1]
  wf := dot_S2048x8x128_S2048x8x128_S8x2048x2048_2_2_0_0_1_1_wf
def fn_cumsum_0 {F : FTy → Type} [FloatOps F] (arg0 : FVec F S2048x8 .f32) : FVec F S2048x8 .f32 :=
  let cst : FVec F S_ .f32 := constant S_ .f32 0x00000000#32
  let v0 : FVec F S_ .f32 := broadcastInDim S_ ![] bcast_S_S_ cst
  let v1 : FVec F S2048x8 .f32 := (fun x v => Host.reduceWindowAdd ![2048, 1] ![1, 1] ![2047, 0] ![0, 0] x v reduceWindows_S2048x8_S2048x8_w2048s1p2047_0_w1s1p0_0 h_S_) arg0 v0
  v1

def fn_cumsum {F : FTy → Type} [FloatOps F] (arg0 : FVec F S2048x8 .f32) : FVec F S2048x8 .f32 :=
  let v0 : FVec F S2048x8 .f32 := fn_cumsum_0 (F := F) arg0
  v0

def fn_tril {F : FTy → Type} [FloatOps F] (arg0 : IVec S2048x2048 1) : IVec S2048x2048 1 :=
  let v0 : IVec S2048x2048 32 := iotaInDim S2048x2048 32 0
  let c : IVec S_ 32 := constantI S_ 32 0#32
  let v1 : IVec S2048x2048 32 := broadcastInDim S2048x2048 ![] bcast_S_S2048x2048 c
  let v2 : IVec S2048x2048 32 := addi v0 v1
  let v3 : IVec S2048x2048 32 := iotaInDim S2048x2048 32 1
  let v4 : IVec S2048x2048 1 := cmpi .sge v2 v3
  let c_0 : IVec S_ 1 := constantI S_ 1 0#1
  let v5 : IVec S2048x2048 1 := broadcastInDim S2048x2048 ![] bcast_S_S2048x2048 c_0
  let v6 : IVec S2048x2048 1 := select v4 arg0 v5
  v6

def fn_where {F : FTy → Type} [FloatOps F] (arg0 : IVec S2048x2048x1 1) (arg1 : FVec F S2048x2048x8 .f32) (arg2 : FVec F S_ .f32) : FVec F S2048x2048x8 .f32 :=
  let v0 : FVec F S_ .f32 := id arg2
  let v1 : IVec S2048x2048x8 1 := broadcastInDim S2048x2048x8 ![0, 1, 2] bcast_S2048x2048x1_S2048x2048x8_0_1_2 arg0
  let v2 : FVec F S2048x2048x8 .f32 := broadcastInDim S2048x2048x8 ![] bcast_S_S2048x2048x8 v0
  let v3 : FVec F S2048x2048x8 .f32 := select v1 arg1 v2
  v3

def fn_part2 {F : FTy → Type} [FloatOps F] (main_arg3 : FVec F S2048x8 .f32) (main_arg4 : FVec F S2048x8 .f32) (main_arg5 : FVec F S1x1024 .f32) (main_v30 : IVec S2048x8 1) (main_v32 : FVec F S2048x1024 .f32) (main_v35 : IVec S2048x1024 1) (main_v38 : IVec S2048x1024 1) (main_v39 : FVec F S2048x1024 .f32) (main_cst_5 : FVec F S_ .f32) : IVec S2048x1024 1 × IVec S2048x1024 1 × IVec S2048x1024 1 × IVec S2048x8 1 × IVec S2048x8 1 × IVec S1x1024 1 × IVec S2048x1024 1 × IVec S2048x8 1 :=
  let main_v40 : FVec F S2048x1024 .f32 := broadcastInDim S2048x1024 ![] bcast_S_S2048x1024 main_cst_5
  let main_v41 : IVec S2048x1024 1 := cmpf .olt main_v39 main_v40
  let main_v42 : FVec F S2048x8 .f32 := Host.absf main_arg3
  let main_cst_6 : FVec F S_ .f32 := constant S_ .f32 0x7F800000#32
  let main_v43 : FVec F S2048x8 .f32 := broadcastInDim S2048x8 ![] bcast_S_S2048x8 main_cst_6
  let main_v44 : IVec S2048x8 1 := cmpf .olt main_v42 main_v43
  let main_v45 : FVec F S2048x8 .f32 := Host.absf main_arg4
  let main_cst_7 : FVec F S_ .f32 := constant S_ .f32 0x7F800000#32
  let main_v46 : FVec F S2048x8 .f32 := broadcastInDim S2048x8 ![] bcast_S_S2048x8 main_cst_7
  let main_v47 : IVec S2048x8 1 := cmpf .olt main_v45 main_v46
  let main_v48 : FVec F S1x1024 .f32 := Host.absf main_arg5
  let main_cst_8 : FVec F S_ .f32 := constant S_ .f32 0x7F800000#32
  let main_v49 : FVec F S1x1024 .f32 := broadcastInDim S1x1024 ![] bcast_S_S1x1024 main_cst_8
  let main_v50 : IVec S1x1024 1 := cmpf .olt main_v48 main_v49
  let main_v51 : FVec F S2048x1024 .f32 := Host.absf main_v32
  let main_cst_9 : FVec F S_ .f32 := constant S_ .f32 0x7F800000#32
  let main_v52 : FVec F S2048x1024 .f32 := broadcastInDim S2048x1024 ![] bcast_S_S2048x1024 main_cst_9
  let main_v53 : IVec S2048x1024 1 := cmpf .olt main_v51 main_v52
  (main_v35, main_v38, main_v41, main_v44, main_v47, main_v50, main_v53, main_v30)

def fn_part1 {F : FTy → Type} [FloatOps F] (main_arg0 : FVec F S2048x1024 .f32) (main_arg1 : FVec F S2048x1024 .f32) (main_arg2 : FVec F S2048x4096 .f32) (main_arg3 : FVec F S2048x8 .f32) (main_arg4 : FVec F S2048x8 .f32) (main_arg5 : FVec F S1x1024 .f32) (main_arg6 : FVec F S2048x2048 .f32) (main_v14 : FVec F S2048x2048x8 .f32) (main_v16 : FVec F S2048x8 .f32) (main_v19 : FVec F S8x2048x2048 .f32) : IVec S2048x1024 1 × IVec S2048x1024 1 × IVec S2048x1024 1 × IVec S2048x8 1 × IVec S2048x8 1 × IVec S1x1024 1 × IVec S2048x1024 1 × IVec S2048x8 1 :=
  let main_v20 : FVec F S2048x2048x8 .f32 := (transpose S2048x2048x8 [2, 1, 0] · transposes_S8x2048x2048_S2048x2048x8_2_1_0) main_v19
  let main_v21 : FVec F S2048x1x8 .f32 := broadcastInDim S2048x1x8 ![0, 2] bcast_S2048x8_S2048x1x8_0_2 main_v16
  let main_v22 : FVec F S2048x2048x8 .f32 := broadcastInDim S2048x2048x8 ![0, 1, 2] bcast_S2048x1x8_S2048x2048x8_0_1_2 main_v21
  let main_v23 : FVec F S2048x2048x8 .f32 := subf main_v14 main_v22
  let main_v24 : FVec F S2048x2048x8 .f32 := Host.exp main_v23
  let main_v25 : FVec F S2048x2048x8 .f32 := mulf main_v20 main_v24
  let main_cst_2 : FVec F S_ .f32 := constant S_ .f32 0x00000000#32
  let main_v26 : FVec F S2048x8 .f32 := (fun x v => Host.reduceAdd x v reducesTo_S2048x2048x8_S2048x8_d1 h_S_) main_v25 main_cst_2
  let main_v27 : FVec F S2048x8 .f32 := Host.absf main_v26
  let main_v28 : FVec F S2048x8 .f32 := Host.negf main_v16
  let main_v29 : FVec F S2048x8 .f32 := Host.exp main_v28
  let main_v30 : IVec S2048x8 1 := cmpf .une main_v27 main_v29
  let main_v31 : FVec F S2048x1024 .f32 := (extractStridedSlice S2048x1024 ![0, 2048] · slices_S2048x4096_S2048x1024_0_2048) main_arg2
  let main_v32 : FVec F S2048x1024 .f32 := (extractStridedSlice S2048x1024 ![0, 0] · slices_S2048x2048_S2048x1024_0_0) main_arg6
  let main_v33 : FVec F S2048x1024 .f32 := Host.absf main_arg0
  let main_cst_3 : FVec F S_ .f32 := constant S_ .f32 0x7F800000#32
  let main_v34 : FVec F S2048x1024 .f32 := broadcastInDim S2048x1024 ![] bcast_S_S2048x1024 main_cst_3
  let main_v35 : IVec S2048x1024 1 := cmpf .olt main_v33 main_v34
  let main_v36 : FVec F S2048x1024 .f32 := Host.absf main_arg1
  let main_cst_4 : FVec F S_ .f32 := constant S_ .f32 0x7F800000#32
  let main_v37 : FVec F S2048x1024 .f32 := broadcastInDim S2048x1024 ![] bcast_S_S2048x1024 main_cst_4
  let main_v38 : IVec S2048x1024 1 := cmpf .olt main_v36 main_v37
  let main_v39 : FVec F S2048x1024 .f32 := Host.absf main_v31
  let main_cst_5 : FVec F S_ .f32 := constant S_ .f32 0x7F800000#32
  fn_part2 (F := F) main_arg3 main_arg4 main_arg5 main_v30 main_v32 main_v35 main_v38 main_v39 main_cst_5

def fn {F : FTy → Type} [FloatOps F] (main_arg0 : FVec F S2048x1024 .f32) (main_arg1 : FVec F S2048x1024 .f32) (main_arg2 : FVec F S2048x4096 .f32) (main_arg3 : FVec F S2048x8 .f32) (main_arg4 : FVec F S2048x8 .f32) (main_arg5 : FVec F S1x1024 .f32) (main_arg6 : FVec F S2048x2048 .f32) (main_arg7 : FVec F S8x128 .f32) : IVec S2048x1024 1 × IVec S2048x1024 1 × IVec S2048x1024 1 × IVec S2048x8 1 × IVec S2048x8 1 × IVec S1x1024 1 × IVec S2048x1024 1 × IVec S2048x8 1 :=
  let main_v0 : FVec F S2048x8x128 .f32 := shapeCast S2048x8x128 main_arg0 shapeCasts_S2048x1024_S2048x8x128
  let main_v1 : FVec F S2048x8x128 .f32 := shapeCast S2048x8x128 main_arg1 shapeCasts_S2048x1024_S2048x8x128
  let main_v2 : FVec F S2048x8 .f32 := fn_cumsum (F := F) main_arg4
  let main_c : IVec S_ 1 := constantI S_ 1 1#1
  let main_v3 : IVec S2048x2048 1 := broadcastInDim S2048x2048 ![] bcast_S_S2048x2048 main_c
  let main_v4 : IVec S2048x2048 1 := fn_tril (F := F) main_v3
  let main_v5 : FVec F S2048x1x8 .f32 := broadcastInDim S2048x1x8 ![0, 2] bcast_S2048x8_S2048x1x8_0_2 main_v2
  let main_v6 : FVec F S1x2048x8 .f32 := broadcastInDim S1x2048x8 ![1, 2] bcast_S2048x8_S1x2048x8_1_2 main_v2
  let main_v7 : FVec F S2048x2048x8 .f32 := broadcastInDim S2048x2048x8 ![0, 1, 2] bcast_S2048x1x8_S2048x2048x8_0_1_2 main_v5
  let main_v8 : FVec F S2048x2048x8 .f32 := broadcastInDim S2048x2048x8 ![0, 1, 2] bcast_S1x2048x8_S2048x2048x8_0_1_2 main_v6
  let main_v9 : FVec F S2048x2048x8 .f32 := subf main_v7 main_v8
  let main_v10 : FVec F S1x2048x8 .f32 := broadcastInDim S1x2048x8 ![1, 2] bcast_S2048x8_S1x2048x8_1_2 main_arg3
  let main_v11 : FVec F S2048x2048x8 .f32 := broadcastInDim S2048x2048x8 ![0, 1, 2] bcast_S1x2048x8_S2048x2048x8_0_1_2 main_v10
  let main_v12 : FVec F S2048x2048x8 .f32 := addf main_v9 main_v11
  let main_v13 : IVec S2048x2048x1 1 := broadcastInDim S2048x2048x1 ![0, 1] bcast_S2048x2048_S2048x2048x1_0_1 main_v4
  let main_cst : FVec F S_ .f32 := constant S_ .f32 0xFF800000#32
  let main_v14 : FVec F S2048x2048x8 .f32 := fn_where (F := F) main_v13 main_v12 main_cst
  let main_cst_0 : FVec F S_ .f32 := constant S_ .f32 0xFF800000#32
  let main_v15 : FVec F S2048x8 .f32 := (fun x v => Host.reduce FloatOps.maximumf x v reducesTo_S2048x2048x8_S2048x8_d1 h_S_) main_v14 main_cst_0
  let main_v16 : FVec F S2048x8 .f32 := maximumf main_v2 main_v15
  let main_cst_1 : FVec F S_ .f32 := constant S_ .f32 0x3DB504F3#32
  let main_v17 : FVec F S2048x8x128 .f32 := broadcastInDim S2048x8x128 ![] bcast_S_S2048x8x128 main_cst_1
  let main_v18 : FVec F S2048x8x128 .f32 := mulf main_v1 main_v17
  let main_v19 : FVec F S8x2048x2048 .f32 := (fun l r => Host.dotGeneral dot_S2048x8x128_S2048x8x128_S8x2048x2048_2_2_0_0_1_1 none l r) main_v18 main_v0
  fn_part1 (F := F) main_arg0 main_arg1 main_arg2 main_arg3 main_arg4 main_arg5 main_arg6 main_v14 main_v16 main_v19
-- ==== Mlp.lean ====
abbrev S2048x2048 : Shape := ⟨2, ![2048, 2048]⟩
abbrev S2048x8192 : Shape := ⟨2, ![2048, 8192]⟩
abbrev S8192x2048 : Shape := ⟨2, ![8192, 2048]⟩
abbrev S8x128 : Shape := ⟨2, ![8, 128]⟩
abbrev S2048x8x1024 : Shape := ⟨3, ![2048, 8, 1024]⟩
abbrev S8x2048x1024 : Shape := ⟨3, ![8, 2048, 1024]⟩
abbrev S8192x1024 : Shape := ⟨2, ![8192, 1024]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩
abbrev S1024x8192 : Shape := ⟨2, ![1024, 8192]⟩
abbrev S8192x256 : Shape := ⟨2, ![8192, 256]⟩
abbrev S1024x256 : Shape := ⟨2, ![1024, 256]⟩
abbrev S8x256x1024 : Shape := ⟨3, ![8, 256, 1024]⟩
abbrev S1x256x1024 : Shape := ⟨3, ![1, 256, 1024]⟩
abbrev S256x1024 : Shape := ⟨2, ![256, 1024]⟩
abbrev S1x1024x1024 : Shape := ⟨3, ![1, 1024, 1024]⟩

abbrev nBuf : Space → Nat
  | .hbm => 19
  | .vmem => 48
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .f32⟩
  | .hbm, ⟨2, _⟩ => ⟨S8192x2048, .f32⟩
  | .hbm, ⟨3, _⟩ => ⟨S2048x2048, .bf16⟩
  | .hbm, ⟨4, _⟩ => ⟨S8x128, .f32⟩
  | .hbm, ⟨5, _⟩ => ⟨S2048x8x1024, .f32⟩
  | .hbm, ⟨6, _⟩ => ⟨S8x2048x1024, .f32⟩
  | .hbm, ⟨7, _⟩ => ⟨S8x2048x1024, .bf16⟩
  | .hbm, ⟨8, _⟩ => ⟨S8192x2048, .bf16⟩
  | .hbm, ⟨9, _⟩ => ⟨S8192x1024, .bf16⟩
  | .hbm, ⟨10, _⟩ => ⟨S8192x1024, .bf16⟩
  | .hbm, ⟨11, _⟩ => ⟨S2048x8192, .bf16⟩
  | .hbm, ⟨12, _⟩ => ⟨S2048x8192, .bf16⟩
  | .hbm, ⟨13, _⟩ => ⟨S2048x2048, .f32⟩
  | .hbm, ⟨14, _⟩ => ⟨S2048x2048, .f32⟩
  | .hbm, ⟨15, _⟩ => ⟨S2048x8192, .bf16⟩
  | .hbm, ⟨16, _⟩ => ⟨S8192x2048, .bf16⟩
  | .hbm, ⟨17, _⟩ => ⟨S2048x2048, .f32⟩
  | .hbm, ⟨18, _⟩ => ⟨S8x2048x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x8192, .bf16⟩
  | .local _ .vmem, ⟨9, _⟩ => ⟨S1024x8192, .bf16⟩
  | .local _ .vmem, ⟨10, _⟩ => ⟨S8192x256, .bf16⟩
  | .local _ .vmem, ⟨11, _⟩ => ⟨S8192x256, .bf16⟩
  | .local _ .vmem, ⟨12, _⟩ => ⟨S1024x256, .f32⟩
  | .local _ .vmem, ⟨13, _⟩ => ⟨S1024x256, .f32⟩
  | .local _ .vmem, ⟨14, _⟩ => ⟨S1024x8192, .bf16⟩
  | .local _ .vmem, ⟨15, _⟩ => ⟨S1024x8192, .bf16⟩
  | .local _ .vmem, ⟨16, _⟩ => ⟨S8192x256, .bf16⟩
  | .local _ .vmem, ⟨17, _⟩ => ⟨S8192x256, .bf16⟩
  | .local _ .vmem, ⟨18, _⟩ => ⟨S1024x256, .f32⟩
  | .local _ .vmem, ⟨19, _⟩ => ⟨S1024x256, .f32⟩
  | .local _ .vmem, ⟨20, _⟩ => ⟨S1024x2048, .bf16⟩
  | .local _ .vmem, ⟨21, _⟩ => ⟨S1024x2048, .bf16⟩
  | .local _ .vmem, ⟨22, _⟩ => ⟨S1024x1024, .bf16⟩
  | .local _ .vmem, ⟨23, _⟩ => ⟨S1024x1024, .bf16⟩
  | .local _ .vmem, ⟨24, _⟩ => ⟨S1024x1024, .bf16⟩
  | .local _ .vmem, ⟨25, _⟩ => ⟨S1024x1024, .bf16⟩
  | .local _ .vmem, ⟨26, _⟩ => ⟨S1024x1024, .bf16⟩
  | .local _ .vmem, ⟨27, _⟩ => ⟨S1024x1024, .bf16⟩
  | .local _ .vmem, ⟨28, _⟩ => ⟨S1024x1024, .bf16⟩
  | .local _ .vmem, ⟨29, _⟩ => ⟨S1024x1024, .bf16⟩
  | .local _ .vmem, ⟨30, _⟩ => ⟨S2048x1024, .bf16⟩
  | .local _ .vmem, ⟨31, _⟩ => ⟨S2048x1024, .bf16⟩
  | .local _ .vmem, ⟨32, _⟩ => ⟨S2048x1024, .bf16⟩
  | .local _ .vmem, ⟨33, _⟩ => ⟨S2048x1024, .bf16⟩
  | .local _ .vmem, ⟨34, _⟩ => ⟨S1024x1024, .bf16⟩
  | .local _ .vmem, ⟨35, _⟩ => ⟨S1024x1024, .bf16⟩
  | .local _ .vmem, ⟨36, _⟩ => ⟨S1024x8192, .bf16⟩
  | .local _ .vmem, ⟨37, _⟩ => ⟨S1024x8192, .bf16⟩
  | .local _ .vmem, ⟨38, _⟩ => ⟨S8x256x1024, .bf16⟩
  | .local _ .vmem, ⟨39, _⟩ => ⟨S8x256x1024, .bf16⟩
  | .local _ .vmem, ⟨40, _⟩ => ⟨S1024x256, .f32⟩
  | .local _ .vmem, ⟨41, _⟩ => ⟨S1024x256, .f32⟩
  | .local _ .vmem, ⟨42, _⟩ => ⟨S2048x1024, .bf16⟩
  | .local _ .vmem, ⟨43, _⟩ => ⟨S2048x1024, .bf16⟩
  | .local _ .vmem, ⟨44, _⟩ => ⟨S2048x1024, .bf16⟩
  | .local _ .vmem, ⟨45, _⟩ => ⟨S2048x1024, .bf16⟩
  | .local _ .vmem, ⟨46, _⟩ => ⟨S1x1024x1024, .bf16⟩
  | .local _ .vmem, ⟨47, _⟩ => ⟨S1x1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg3_1 : Ref sig .tc := ⟨.vmem, 27, rfl⟩
abbrev cc3_stg4_0 : Ref sig .tc := ⟨.vmem, 28, rfl⟩
abbrev cc3_stg4_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg2_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg1_1 : Ref sig .tc := ⟨.vmem, 39, rfl⟩
abbrev cc5_stg2_0 : Ref sig .tc := ⟨.vmem, 40, rfl⟩
abbrev cc5_stg2_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg1_1 : Ref sig .tc := ⟨.vmem, 45, rfl⟩
abbrev cc6_stg2_0 : Ref sig .tc := ⟨.vmem, 46, rfl⟩
abbrev cc6_stg2_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc3_sem3_0 : DmaSem sig := 26
abbrev cc3_sem3_1 : DmaSem sig := 27
abbrev cc3_sem4_0 : DmaSem sig := 28
abbrev cc3_sem4_1 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem2_1 : DmaSem sig := 35
abbrev cc5_sem0_0 : DmaSem sig := 36
abbrev cc5_sem0_1 : DmaSem sig := 37
abbrev cc5_sem1_0 : DmaSem sig := 38
abbrev cc5_sem1_1 : DmaSem sig := 39
abbrev cc5_sem2_0 : DmaSem sig := 40
abbrev cc5_sem2_1 : DmaSem sig := 41
abbrev cc6_sem0_0 : DmaSem sig := 42
abbrev cc6_sem0_1 : DmaSem sig := 43
abbrev cc6_sem1_0 : DmaSem sig := 44
abbrev cc6_sem1_1 : DmaSem sig := 45
abbrev cc6_sem2_0 : DmaSem sig := 46
abbrev cc6_sem2_1 : DmaSem sig := 47

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![2, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage1_0 : Fin 2 → Memref sig .tc .vmem S1024x8192 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S8192x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![2, 4, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg1 c4_i32
  let c0_i32 : BitVec 32 := 0#32
  ![arg0.toNat, v0.toNat]

abbrev stage2_0 : Fin 2 → Memref sig .tc .vmem S1024x8192 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S8192x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![2, 8, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc3_transform_4 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1024x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, false]

abbrev stage3_2 : Fin 2 → Memref sig .tc .vmem S1024x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S1024x1024 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![false, true, false]

abbrev stage3_4 : Fin 2 → Memref sig .tc .vmem S1024x1024 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true, false]

abbrev grid4 : Pipeline.Grid := ⟨3, ![8, 2, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S2048x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, false]

abbrev stage4_1 : Fin 2 → Memref sig .tc .vmem S2048x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, false]

abbrev stage4_2 : Fin 2 → Memref sig .tc .vmem S1024x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![2, 8, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc5_transform_1 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat]

def cc5_transform_3 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S1024x8192 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, false]

abbrev stage5_1 : Fin 2 → Memref sig .tc .vmem S8x256x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, false]

abbrev stage5_2 : Fin 2 → Memref sig .tc .vmem S1024x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨3, ![2, 8, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc6_transform_2 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage6_0 : Fin 2 → Memref sig .tc .vmem S2048x1024 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, false]

abbrev stage6_1 : Fin 2 → Memref sig .tc .vmem S2048x1024 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, false]

abbrev stage6_2 : Fin 2 → Memref sig .tc .vmem S1x1024x1024 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]
-- ==== MlpRefIdeal.lean ====
abbrev S2048x2048 : Shape := ⟨2, ![2048, 2048]⟩
abbrev S2048x8192 : Shape := ⟨2, ![2048, 8192]⟩
abbrev S8192x2048 : Shape := ⟨2, ![8192, 2048]⟩
abbrev S8x128 : Shape := ⟨2, ![8, 128]⟩
abbrev S_ : Shape := ⟨0, ![]⟩
abbrev S2048x8x1024 : Shape := ⟨3, ![2048, 8, 1024]⟩
abbrev S8x2048x1024 : Shape := ⟨3, ![8, 2048, 1024]⟩

abbrev nBuf : Space → Nat
  | .hbm => 35
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .f32⟩
  | .hbm, ⟨2, _⟩ => ⟨S8192x2048, .f32⟩
  | .hbm, ⟨3, _⟩ => ⟨S2048x2048, .bf16⟩
  | .hbm, ⟨4, _⟩ => ⟨S8x128, .f32⟩
  | .hbm, ⟨5, _⟩ => ⟨S2048x2048, .f32⟩
  | .hbm, ⟨6, _⟩ => ⟨S2048x8192, .f32⟩
  | .hbm, ⟨7, _⟩ => ⟨S_, .f32⟩
  | .hbm, ⟨8, _⟩ => ⟨S2048x8192, .f32⟩
  | .hbm, ⟨9, _⟩ => ⟨S2048x8192, .f32⟩
  | .hbm, ⟨10, _⟩ => ⟨S_, .f32⟩
  | .hbm, ⟨11, _⟩ => ⟨S2048x8192, .f32⟩
  | .hbm, ⟨12, _⟩ => ⟨S2048x8192, .i1⟩
  | .hbm, ⟨13, _⟩ => ⟨S_, .f32⟩
  | .hbm, ⟨14, _⟩ => ⟨S2048x8192, .f32⟩
  | .hbm, ⟨15, _⟩ => ⟨S2048x8192, .f32⟩
  | .hbm, ⟨16, _⟩ => ⟨S_, .f32⟩
  | .hbm, ⟨17, _⟩ => ⟨S2048x8192, .f32⟩
  | .hbm, ⟨18, _⟩ => ⟨S2048x8192, .f32⟩
  | .hbm, ⟨19, _⟩ => ⟨S2048x2048, .f32⟩
  | .hbm, ⟨20, _⟩ => ⟨S2048x2048, .f32⟩
  | .hbm, ⟨21, _⟩ => ⟨S2048x8192, .f32⟩
  | .hbm, ⟨22, _⟩ => ⟨S8192x2048, .f32⟩
  | .hbm, ⟨23, _⟩ => ⟨S2048x8192, .f32⟩
  | .hbm, ⟨24, _⟩ => ⟨S2048x8192, .f32⟩
  | .hbm, ⟨25, _⟩ => ⟨S_, .f32⟩
  | .hbm, ⟨26, _⟩ => ⟨S2048x8192, .f32⟩
  | .hbm, ⟨27, _⟩ => ⟨S2048x8192, .f32⟩
  | .hbm, ⟨28, _⟩ => ⟨S8192x2048, .f32⟩
  | .hbm, ⟨29, _⟩ => ⟨S2048x8192, .f32⟩
  | .hbm, ⟨30, _⟩ => ⟨S2048x2048, .f32⟩
  | .hbm, ⟨31, _⟩ => ⟨S2048x8x1024, .f32⟩
  | .hbm, ⟨32, _⟩ => ⟨S8x2048x1024, .f32⟩
  | .hbm, ⟨33, _⟩ => ⟨S8x2048x1024, .bf16⟩
  | .hbm, ⟨34, _⟩ => ⟨S8192x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_cst : Ref sig .tc := ⟨.hbm, 7, rfl⟩
abbrev main_call0_v0 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]
-- ==== Out.lean ====
abbrev S2048x2048 : Shape := ⟨2, ![2048, 2048]⟩
abbrev S8x128 : Shape := ⟨2, ![8, 128]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 8
  | .vmem => 18
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S2048x2048, .bf16⟩
  | .hbm, ⟨3, _⟩ => ⟨S8x128, .f32⟩
  | .hbm, ⟨4, _⟩ => ⟨S2048x2048, .bf16⟩
  | .hbm, ⟨5, _⟩ => ⟨S2048x2048, .f32⟩
  | .hbm, ⟨6, _⟩ => ⟨S2048x2048, .f32⟩
  | .hbm, ⟨7, _⟩ => ⟨S2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x2048, .bf16⟩
  | .local _ .vmem, ⟨7, _⟩ => ⟨S1024x2048, .bf16⟩
  | .local _ .vmem, ⟨8, _⟩ => ⟨S1024x2048, .bf16⟩
  | .local _ .vmem, ⟨9, _⟩ => ⟨S1024x2048, .bf16⟩
  | .local _ .vmem, ⟨10, _⟩ => ⟨S1024x1024, .f32⟩
  | .local _ .vmem, ⟨11, _⟩ => ⟨S1024x1024, .f32⟩
  | .local _ .vmem, ⟨12, _⟩ => ⟨S2048x1024, .bf16⟩
  | .local _ .vmem, ⟨13, _⟩ => ⟨S2048x1024, .bf16⟩
  | .local _ .vmem, ⟨14, _⟩ => ⟨S2048x1024, .bf16⟩
  | .local _ .vmem, ⟨15, _⟩ => ⟨S2048x1024, .bf16⟩
  | .local _ .vmem, ⟨16, _⟩ => ⟨S1024x1024, .bf16⟩
  | .local _ .vmem, ⟨17, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![2, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![2, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, false]

abbrev stage2_1 : Fin 2 → Memref sig .tc .vmem S2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, false]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]
-- ==== OutRefIdeal.lean ====
abbrev S2048x2048 : Shape := ⟨2, ![2048, 2048]⟩
abbrev S8x128 : Shape := ⟨2, ![8, 128]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S2048x2048, .bf16⟩
  | .hbm, ⟨3, _⟩ => ⟨S8x128, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Ple.lean ====
abbrev S2048x256 : Shape := ⟨2, ![2048, 256]⟩
abbrev S256x2048 : Shape := ⟨2, ![256, 2048]⟩
abbrev S2048x2048 : Shape := ⟨2, ![2048, 2048]⟩
abbrev S256x8x256 : Shape := ⟨3, ![256, 8, 256]⟩
abbrev S8x256x256 : Shape := ⟨3, ![8, 256, 256]⟩
abbrev S1024x256 : Shape := ⟨2, ![1024, 256]⟩
abbrev S1x256x256 : Shape := ⟨3, ![1, 256, 256]⟩
abbrev S256x256 : Shape := ⟨2, ![256, 256]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 15
  | .vmem => 29
  | .smem => 0
  | _ => 0

abbrev bufTy : (tb : Table) → Fin (tcTables nBuf tb) → BufTy
  | .hbm, ⟨0, _⟩ => ⟨S2048x256, .f32⟩
  | .hbm, ⟨1, _⟩ => ⟨S256x2048, .f32⟩
  | .hbm, ⟨2, _⟩ => ⟨S2048x2048, .bf16⟩
  | .hbm, ⟨3, _⟩ => ⟨S2048x2048, .f32⟩
  | .hbm, ⟨4, _⟩ => ⟨S2048x2048, .bf16⟩
  | .hbm, ⟨5, _⟩ => ⟨S2048x2048, .bf16⟩
  | .hbm, ⟨6, _⟩ => ⟨S256x8x256, .f32⟩
  | .hbm, ⟨7, _⟩ => ⟨S8x256x256, .f32⟩
  | .hbm, ⟨8, _⟩ => ⟨S8x256x256, .bf16⟩
  | .hbm, ⟨9, _⟩ => ⟨S2048x2048, .bf16⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x2048, .bf16⟩
  | .hbm, ⟨14, _⟩ => ⟨S8x256x256, .bf16⟩
  | .local _ .vmem, ⟨0, _⟩ => ⟨S1024x256, .f32⟩
  | .local _ .vmem, ⟨1, _⟩ => ⟨S1024x256, .f32⟩
  | .local _ .vmem, ⟨2, _⟩ => ⟨S1x256x256, .bf16⟩
  | .local _ .vmem, ⟨3, _⟩ => ⟨S1x256x256, .bf16⟩
  | .local _ .vmem, ⟨4, _⟩ => ⟨S1024x256, .f32⟩
  | .local _ .vmem, ⟨5, _⟩ => ⟨S1024x256, .f32⟩
  | .local _ .vmem, ⟨6, _⟩ => ⟨S1024x2048, .bf16⟩
  | .local _ .vmem, ⟨7, _⟩ => ⟨S1024x2048, .bf16⟩
  | .local _ .vmem, ⟨8, _⟩ => ⟨S2048x1024, .bf16⟩
  | .local _ .vmem, ⟨9, _⟩ => ⟨S2048x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x2048, .bf16⟩
  | .local _ .vmem, ⟨13, _⟩ => ⟨S1024x2048, .bf16⟩
  | .local _ .vmem, ⟨14, _⟩ => ⟨S1024x2048, .bf16⟩
  | .local _ .vmem, ⟨15, _⟩ => ⟨S1024x2048, .bf16⟩
  | .local _ .vmem, ⟨16, _⟩ => ⟨S1024x1024, .f32⟩
  | .local _ .vmem, ⟨17, _⟩ => ⟨S1024x1024, .f32⟩
  | .local _ .vmem, ⟨18, _⟩ => ⟨S2048x1024, .bf16⟩
  | .local _ .vmem, ⟨19, _⟩ => ⟨S2048x1024, .bf16⟩
  | .local _ .vmem, ⟨20, _⟩ => ⟨S2048x1024, .bf16⟩
  | .local _ .vmem, ⟨21, _⟩ => ⟨S2048x1024, .bf16⟩
  | .local _ .vmem, ⟨22, _⟩ => ⟨S1024x1024, .bf16⟩
  | .local _ .vmem, ⟨23, _⟩ => ⟨S1024x1024, .bf16⟩
  | .local _ .vmem, ⟨24, _⟩ => ⟨S2048x256, .f32⟩
  | .local _ .vmem, ⟨25, _⟩ => ⟨S2048x256, .bf16⟩
  | .local _ .vmem, ⟨26, _⟩ => ⟨S2048x256, .bf16⟩
  | .local _ .vmem, ⟨27, _⟩ => ⟨S1x256x256, .bf16⟩
  | .local _ .vmem, ⟨28, _⟩ => ⟨S1x256x256, .bf16⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg1_0 : Ref sig .tc := ⟨.vmem, 25, rfl⟩
abbrev cc4_stg1_1 : Ref sig .tc := ⟨.vmem, 26, rfl⟩
abbrev cc4_stg2_0 : Ref sig .tc := ⟨.vmem, 27, rfl⟩
abbrev cc4_stg2_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem1_0 : DmaSem sig := 25
abbrev cc4_sem1_1 : DmaSem sig := 26
abbrev cc4_sem2_0 : DmaSem sig := 27
abbrev cc4_sem2_1 : DmaSem sig := 28

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![2, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![2, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![2, 2, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S2048x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, false]

abbrev stage3_1 : Fin 2 → Memref sig .tc .vmem S2048x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, false]

abbrev stage3_2 : Fin 2 → Memref sig .tc .vmem S1024x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![1, 8, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc4_transform_2 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage4_0 : Fin 1 → Memref sig .tc .vmem S2048x256 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false, false]

abbrev stage4_1 : Fin 2 → Memref sig .tc .vmem S2048x256 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, false]

abbrev stage4_2 : Fin 2 → Memref sig .tc .vmem S1x256x256 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]
-- ==== PleRefIdeal.lean ====
abbrev S2048x256 : Shape := ⟨2, ![2048, 256]⟩
abbrev S256x2048 : Shape := ⟨2, ![256, 2048]⟩
abbrev S2048x2048 : Shape := ⟨2, ![2048, 2048]⟩
abbrev S256x8x256 : Shape := ⟨3, ![256, 8, 256]⟩
abbrev S8x256x256 : Shape := ⟨3, ![8, 256, 256]⟩

abbrev nBuf : Space → Nat
  | .hbm => 20
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S256x2048, .f32⟩
  | .hbm, ⟨2, _⟩ => ⟨S2048x2048, .bf16⟩
  | .hbm, ⟨3, _⟩ => ⟨S2048x2048, .f32⟩
  | .hbm, ⟨4, _⟩ => ⟨S2048x2048, .bf16⟩
  | .hbm, ⟨5, _⟩ => ⟨S2048x2048, .bf16⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x256, .f32⟩
  | .hbm, ⟨15, _⟩ => ⟨S256x2048, .f32⟩
  | .hbm, ⟨16, _⟩ => ⟨S2048x2048, .bf16⟩
  | .hbm, ⟨17, _⟩ => ⟨S256x8x256, .f32⟩
  | .hbm, ⟨18, _⟩ => ⟨S8x256x256, .f32⟩
  | .hbm, ⟨19, _⟩ => ⟨S8x256x256, .bf16⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== In.lean ====
abbrev S2048x2048 : Shape := ⟨2, ![2048, 2048]⟩
abbrev S2048x5136 : Shape := ⟨2, ![2048, 5136]⟩
abbrev S2048x4096 : Shape := ⟨2, ![2048, 4096]⟩
abbrev S2048x16 : Shape := ⟨2, ![2048, 16]⟩
abbrev S2048x1024 : Shape := ⟨2, ![2048, 1024]⟩
abbrev S8x128 : Shape := ⟨2, ![8, 128]⟩
abbrev S5136x2048 : Shape := ⟨2, ![5136, 2048]⟩
abbrev S4096x2048 : Shape := ⟨2, ![4096, 2048]⟩
abbrev S1024x2048 : Shape := ⟨2, ![1024, 2048]⟩
abbrev S16x2048 : Shape := ⟨2, ![16, 2048]⟩
abbrev S_ : Shape := ⟨0, ![]⟩
abbrev S112x2048 : Shape := ⟨2, ![112, 2048]⟩
abbrev S1152x2048 : Shape := ⟨2, ![1152, 2048]⟩
abbrev S2048x112 : Shape := ⟨2, ![2048, 112]⟩
abbrev S2048x1152 : Shape := ⟨2, ![2048, 1152]⟩
abbrev S1024x1024 : Shape := ⟨2, ![1024, 1024]⟩
abbrev S384x2048 : Shape := ⟨2, ![384, 2048]⟩
abbrev S1024x384 : Shape := ⟨2, ![1024, 384]⟩
abbrev S2048x384 : Shape := ⟨2, ![2048, 384]⟩
abbrev S384x1024 : Shape := ⟨2, ![384, 1024]⟩
abbrev S1024x1152 : Shape := ⟨2, ![1024, 1152]⟩
abbrev S1152x1024 : Shape := ⟨2, ![1152, 1024]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 27
  | .vmem => 38
  | .smem => 0
  | _ => 0

abbrev bufTy : (tb : Table) → Fin (tcTables nBuf tb) → BufTy
  | .hbm, ⟨0, _⟩ => ⟨S2048x2048, .bf16⟩
  | .hbm, ⟨1, _⟩ => ⟨S2048x5136, .f32⟩
  | .hbm, ⟨2, _⟩ => ⟨S2048x4096, .bf16⟩
  | .hbm, ⟨3, _⟩ => ⟨S2048x16, .bf16⟩
  | .hbm, ⟨4, _⟩ => ⟨S2048x1024, .bf16⟩
  | .hbm, ⟨5, _⟩ => ⟨S8x128, .f32⟩
  | .hbm, ⟨6, _⟩ => ⟨S5136x2048, .f32⟩
  | .hbm, ⟨7, _⟩ => ⟨S5136x2048, .bf16⟩
  | .hbm, ⟨8, _⟩ => ⟨S4096x2048, .bf16⟩
  | .hbm, ⟨9, _⟩ => ⟨S1024x2048, .bf16⟩
  | .hbm, ⟨10, _⟩ => ⟨S16x2048, .bf16⟩
  | .hbm, ⟨11, _⟩ => ⟨S_, .bf16⟩
  | .hbm, ⟨12, _⟩ => ⟨S112x2048, .bf16⟩
  | .hbm, ⟨13, _⟩ => ⟨S1152x2048, .bf16⟩
  | .hbm, ⟨14, _⟩ => ⟨S_, .bf16⟩
  | .hbm, ⟨15, _⟩ => ⟨S2048x112, .bf16⟩
  | .hbm, ⟨16, _⟩ => ⟨S2048x1152, .bf16⟩
  | .hbm, ⟨17, _⟩ => ⟨S2048x4096, .f32⟩
  | .hbm, ⟨18, _⟩ => ⟨S2048x1152, .f32⟩
  | .hbm, ⟨19, _⟩ => ⟨S4096x2048, .bf16⟩
  | .hbm, ⟨20, _⟩ => ⟨S1152x2048, .bf16⟩
  | .hbm, ⟨21, _⟩ => ⟨S2048x2048, .f32⟩
  | .hbm, ⟨22, _⟩ => ⟨S2048x2048, .f32⟩
  | .hbm, ⟨23, _⟩ => ⟨S2048x1024, .f32⟩
  | .hbm, ⟨24, _⟩ => ⟨S2048x16, .f32⟩
  | .hbm, ⟨25, _⟩ => ⟨S1024x2048, .bf16⟩
  | .hbm, ⟨26, _⟩ => ⟨S16x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x2048, .bf16⟩
  | .local _ .vmem, ⟨7, _⟩ => ⟨S1024x2048, .bf16⟩
  | .local _ .vmem, ⟨8, _⟩ => ⟨S384x2048, .bf16⟩
  | .local _ .vmem, ⟨9, _⟩ => ⟨S384x2048, .bf16⟩
  | .local _ .vmem, ⟨10, _⟩ => ⟨S1024x384, .f32⟩
  | .local _ .vmem, ⟨11, _⟩ => ⟨S1024x384, .f32⟩
  | .local _ .vmem, ⟨12, _⟩ => ⟨S2048x1024, .bf16⟩
  | .local _ .vmem, ⟨13, _⟩ => ⟨S2048x1024, .bf16⟩
  | .local _ .vmem, ⟨14, _⟩ => ⟨S2048x1024, .bf16⟩
  | .local _ .vmem, ⟨15, _⟩ => ⟨S2048x1024, .bf16⟩
  | .local _ .vmem, ⟨16, _⟩ => ⟨S1024x1024, .bf16⟩
  | .local _ .vmem, ⟨17, _⟩ => ⟨S1024x1024, .bf16⟩
  | .local _ .vmem, ⟨18, _⟩ => ⟨S2048x384, .bf16⟩
  | .local _ .vmem, ⟨19, _⟩ => ⟨S2048x384, .bf16⟩
  | .local _ .vmem, ⟨20, _⟩ => ⟨S2048x1024, .bf16⟩
  | .local _ .vmem, ⟨21, _⟩ => ⟨S2048x1024, .bf16⟩
  | .local _ .vmem, ⟨22, _⟩ => ⟨S384x1024, .bf16⟩
  | .local _ .vmem, ⟨23, _⟩ => ⟨S384x1024, .bf16⟩
  | .local _ .vmem, ⟨24, _⟩ => ⟨S1024x1152, .bf16⟩
  | .local _ .vmem, ⟨25, _⟩ => ⟨S1024x1152, .bf16⟩
  | .local _ .vmem, ⟨26, _⟩ => ⟨S1152x1024, .bf16⟩
  | .local _ .vmem, ⟨27, _⟩ => ⟨S1152x1024, .bf16⟩
  | .local _ .vmem, ⟨28, _⟩ => ⟨S1024x1024, .f32⟩
  | .local _ .vmem, ⟨29, _⟩ => ⟨S1024x1024, .f32⟩
  | .local _ .vmem, ⟨30, _⟩ => ⟨S1024x4096, .bf16⟩
  | .local _ .vmem, ⟨31, _⟩ => ⟨S1024x4096, .bf16⟩
  | .local _ .vmem, ⟨32, _⟩ => ⟨S4096x512, .bf16⟩
  | .local _ .vmem, ⟨33, _⟩ => ⟨S4096x512, .bf16⟩
  | .local _ .vmem, ⟨34, _⟩ => ⟨S1024x512, .f32⟩
  | .local _ .vmem, ⟨35, _⟩ => ⟨S1024x512, .f32⟩
  | .local _ .vmem, ⟨36, _⟩ => ⟨S1024x512, .f32⟩
  | .local _ .vmem, ⟨37, _⟩ => ⟨S1024x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg2_1 : Ref sig .tc := ⟨.vmem, 35, rfl⟩
abbrev cc5_stg3_0 : Ref sig .tc := ⟨.vmem, 36, rfl⟩
abbrev cc5_stg3_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem2_1 : DmaSem sig := 35
abbrev cc5_sem3_0 : DmaSem sig := 36
abbrev cc5_sem3_1 : DmaSem sig := 37

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![2, 3, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S384x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x384 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![4, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, false]

abbrev stage2_1 : Fin 2 → Memref sig .tc .vmem S2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, false]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![3, 2, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S2048x384 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, false]

abbrev stage3_1 : Fin 2 → Memref sig .tc .vmem S2048x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, false]

abbrev stage3_2 : Fin 2 → Memref sig .tc .vmem S384x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![2, 2, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_3 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage4_0 : Fin 2 → Memref sig .tc .vmem S1024x1152 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S1152x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1024x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![2, 4, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc5_transform_4 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

abbrev stage5_0 : Fin 2 → Memref sig .tc .vmem S1024x4096 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S4096x512 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S1024x512 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev stage5_3 : Fin 2 → Memref sig .tc .vmem S1024x512 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true, false]
-- ==== InRefIdeal.lean ====
abbrev S2048x2048 : Shape := ⟨2, ![2048, 2048]⟩
abbrev S2048x5136 : Shape := ⟨2, ![2048, 5136]⟩
abbrev S2048x4096 : Shape := ⟨2, ![2048, 4096]⟩
abbrev S2048x16 : Shape := ⟨2, ![2048, 16]⟩
abbrev S2048x1024 : Shape := ⟨2, ![2048, 1024]⟩
abbrev S8x128 : Shape := ⟨2, ![8, 128]⟩
abbrev S5136x2048 : Shape := ⟨2, ![5136, 2048]⟩
abbrev S4096x2048 : Shape := ⟨2, ![4096, 2048]⟩
abbrev S16x2048 : Shape := ⟨2, ![16, 2048]⟩
abbrev S1024x2048 : Shape := ⟨2, ![1024, 2048]⟩

abbrev nBuf : Space → Nat
  | .hbm => 21
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x5136, .f32⟩
  | .hbm, ⟨2, _⟩ => ⟨S2048x4096, .bf16⟩
  | .hbm, ⟨3, _⟩ => ⟨S2048x16, .bf16⟩
  | .hbm, ⟨4, _⟩ => ⟨S2048x1024, .bf16⟩
  | .hbm, ⟨5, _⟩ => ⟨S8x128, .f32⟩
  | .hbm, ⟨6, _⟩ => ⟨S2048x2048, .f32⟩
  | .hbm, ⟨7, _⟩ => ⟨S2048x5136, .f32⟩
  | .hbm, ⟨8, _⟩ => ⟨S2048x5136, .bf16⟩
  | .hbm, ⟨9, _⟩ => ⟨S2048x5136, .f32⟩
  | .hbm, ⟨10, _⟩ => ⟨S5136x2048, .f32⟩
  | .hbm, ⟨11, _⟩ => ⟨S2048x5136, .f32⟩
  | .hbm, ⟨12, _⟩ => ⟨S2048x2048, .f32⟩
  | .hbm, ⟨13, _⟩ => ⟨S2048x4096, .f32⟩
  | .hbm, ⟨14, _⟩ => ⟨S2048x16, .f32⟩
  | .hbm, ⟨15, _⟩ => ⟨S2048x1024, .f32⟩
  | .hbm, ⟨16, _⟩ => ⟨S5136x2048, .f32⟩
  | .hbm, ⟨17, _⟩ => ⟨S5136x2048, .bf16⟩
  | .hbm, ⟨18, _⟩ => ⟨S4096x2048, .bf16⟩
  | .hbm, ⟨19, _⟩ => ⟨S16x2048, .bf16⟩
  | .hbm, ⟨20, _⟩ => ⟨S1024x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Norm.lean ====
abbrev S2048x2048 : Shape := ⟨2, ![2048, 2048]⟩
abbrev S1x2048 : Shape := ⟨2, ![1, 2048]⟩
abbrev S8x128 : Shape := ⟨2, ![8, 128]⟩
abbrev S256x2048 : Shape := ⟨2, ![256, 2048]⟩
abbrev S256 : Shape := ⟨1, ![256]⟩
abbrev S256x1 : Shape := ⟨2, ![256, 1]⟩

abbrev nBuf : Space → Nat
  | .hbm => 14
  | .vmem => 25
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S8x128, .f32⟩
  | .hbm, ⟨9, _⟩ => ⟨S2048x2048, .bf16⟩
  | .hbm, ⟨10, _⟩ => ⟨S2048x2048, .f32⟩
  | .hbm, ⟨11, _⟩ => ⟨S2048x2048, .bf16⟩
  | .hbm, ⟨12, _⟩ => ⟨S2048x2048, .f32⟩
  | .hbm, ⟨13, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | .local _ .vmem, ⟨10, _⟩ => ⟨S1x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .bf16⟩
  | .local _ .vmem, ⟨14, _⟩ => ⟨S256x2048, .bf16⟩
  | .local _ .vmem, ⟨15, _⟩ => ⟨S256x2048, .f32⟩
  | .local _ .vmem, ⟨16, _⟩ => ⟨S256x2048, .f32⟩
  | .local _ .vmem, ⟨17, _⟩ => ⟨S256x2048, .f32⟩
  | .local _ .vmem, ⟨18, _⟩ => ⟨S256x2048, .f32⟩
  | .local _ .vmem, ⟨19, _⟩ => ⟨S1x2048, .f32⟩
  | .local _ .vmem, ⟨20, _⟩ => ⟨S1x2048, .f32⟩
  | .local _ .vmem, ⟨21, _⟩ => ⟨S256x2048, .f32⟩
  | .local _ .vmem, ⟨22, _⟩ => ⟨S256x2048, .f32⟩
  | .local _ .vmem, ⟨23, _⟩ => ⟨S256x2048, .bf16⟩
  | .local _ .vmem, ⟨24, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev main_v2_0 : Ref sig .tc := ⟨.hbm, 12, rfl⟩
abbrev main_v2_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc2_stg5_0 : Ref sig .tc := ⟨.vmem, 23, rfl⟩
abbrev cc2_stg5_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem4_1 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem4_1 : DmaSem sig := 22
abbrev cc2_sem5_0 : DmaSem sig := 23
abbrev cc2_sem5_1 : DmaSem sig := 24

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x2048 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x2048 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x2048 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S256x2048 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S256x2048 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]
-- ==== NormRefIdeal.lean ====
abbrev S2048x2048 : Shape := ⟨2, ![2048, 2048]⟩
abbrev S1x2048 : Shape := ⟨2, ![1, 2048]⟩
abbrev S8x128 : Shape := ⟨2, ![8, 128]⟩
abbrev S_ : Shape := ⟨0, ![]⟩
abbrev S2048 : Shape := ⟨1, ![2048]⟩
abbrev S2048x1 : Shape := ⟨2, ![2048, 1]⟩

abbrev nBuf : Space → Nat
  | .hbm => 89
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S8x128, .f32⟩
  | .hbm, ⟨9, _⟩ => ⟨S2048x2048, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048, .f32⟩
  | .hbm, ⟨27, _⟩ => ⟨S2048x1, .f32⟩
  | .hbm, ⟨28, _⟩ => ⟨S_, .f32⟩
  | .hbm, ⟨29, _⟩ => ⟨S2048x1, .f32⟩
  | .hbm, ⟨30, _⟩ => ⟨S2048x1, .f32⟩
  | .hbm, ⟨31, _⟩ => ⟨S_, .f32⟩
  | .hbm, ⟨32, _⟩ => ⟨S2048x1, .f32⟩
  | .hbm, ⟨33, _⟩ => ⟨S2048x1, .f32⟩
  | .hbm, ⟨34, _⟩ => ⟨S2048x1, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S_, .f32⟩
  | .hbm, ⟨42, _⟩ => ⟨S2048, .f32⟩
  | .hbm, ⟨43, _⟩ => ⟨S2048x1, .f32⟩
  | .hbm, ⟨44, _⟩ => ⟨S_, .f32⟩
  | .hbm, ⟨45, _⟩ => ⟨S2048x1, .f32⟩
  | .hbm, ⟨46, _⟩ => ⟨S2048x1, .f32⟩
  | .hbm, ⟨47, _⟩ => ⟨S_, .f32⟩
  | .hbm, ⟨48, _⟩ => ⟨S2048x1, .f32⟩
  | .hbm, ⟨49, _⟩ => ⟨S2048x1, .f32⟩
  | .hbm, ⟨50, _⟩ => ⟨S2048x1, .f32⟩
  | .hbm, ⟨51, _⟩ => ⟨S2048x2048, .f32⟩
  | .hbm, ⟨52, _⟩ => ⟨S2048x2048, .f32⟩
  | .hbm, ⟨53, _⟩ => ⟨S2048x2048, .f32⟩
  | .hbm, ⟨54, _⟩ => ⟨S2048x2048, .f32⟩
  | .hbm, ⟨55, _⟩ => ⟨S2048x2048, .f32⟩
  | .hbm, ⟨56, _⟩ => ⟨S_, .f32⟩
  | .hbm, ⟨57, _⟩ => ⟨S2048, .f32⟩
  | .hbm, ⟨58, _⟩ => ⟨S2048x1, .f32⟩
  | .hbm, ⟨59, _⟩ => ⟨S_, .f32⟩
  | .hbm, ⟨60, _⟩ => ⟨S2048x1, .f32⟩
  | .hbm, ⟨61, _⟩ => ⟨S2048x1, .f32⟩
  | .hbm, ⟨62, _⟩ => ⟨S_, .f32⟩
  | .hbm, ⟨63, _⟩ => ⟨S2048x1, .f32⟩
  | .hbm, ⟨64, _⟩ => ⟨S2048x1, .f32⟩
  | .hbm, ⟨65, _⟩ => ⟨S2048x1, .f32⟩
  | .hbm, ⟨66, _⟩ => ⟨S2048x2048, .f32⟩
  | .hbm, ⟨67, _⟩ => ⟨S2048x2048, .f32⟩
  | .hbm, ⟨68, _⟩ => ⟨S2048x2048, .f32⟩
  | .hbm, ⟨69, _⟩ => ⟨S2048x2048, .f32⟩
  | .hbm, ⟨70, _⟩ => ⟨S2048x2048, .f32⟩
  | .hbm, ⟨71, _⟩ => ⟨S2048x2048, .f32⟩
  | .hbm, ⟨72, _⟩ => ⟨S_, .f32⟩
  | .hbm, ⟨73, _⟩ => ⟨S2048, .f32⟩
  | .hbm, ⟨74, _⟩ => ⟨S2048x1, .f32⟩
  | .hbm, ⟨75, _⟩ => ⟨S_, .f32⟩
  | .hbm, ⟨76, _⟩ => ⟨S2048x1, .f32⟩
  | .hbm, ⟨77, _⟩ => ⟨S2048x1, .f32⟩
  | .hbm, ⟨78, _⟩ => ⟨S_, .f32⟩
  | .hbm, ⟨79, _⟩ => ⟨S2048x1, .f32⟩
  | .hbm, ⟨80, _⟩ => ⟨S2048x1, .f32⟩
  | .hbm, ⟨81, _⟩ => ⟨S2048x1, .f32⟩
  | .hbm, ⟨82, _⟩ => ⟨S2048x2048, .f32⟩
  | .hbm, ⟨83, _⟩ => ⟨S2048x2048, .f32⟩
  | .hbm, ⟨84, _⟩ => ⟨S2048x2048, .f32⟩
  | .hbm, ⟨85, _⟩ => ⟨S2048x2048, .f32⟩
  | .hbm, ⟨86, _⟩ => ⟨S2048x2048, .bf16⟩
  | .hbm, ⟨87, _⟩ => ⟨S2048x2048, .bf16⟩
  | .hbm, ⟨88, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_cst_4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_v29 : Ref sig .tc := ⟨.hbm, 46, rfl⟩
abbrev main_cst_7 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩
abbrev main_v39 : Ref sig .tc := ⟨.hbm, 58, rfl⟩
abbrev main_cst_9 : Ref sig .tc := ⟨.hbm, 59, rfl⟩
abbrev main_v40 : Ref sig .tc := ⟨.hbm, 60, rfl⟩
abbrev main_v41 : Ref sig .tc := ⟨.hbm, 61, rfl⟩
abbrev main_cst_10 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_11 : Ref sig .tc := ⟨.hbm, 72, rfl⟩
abbrev main_v51 : Ref sig .tc := ⟨.hbm, 73, rfl⟩
abbrev main_v52 : Ref sig .tc := ⟨.hbm, 74, rfl⟩
abbrev main_cst_12 : Ref sig .tc := ⟨.hbm, 75, rfl⟩
abbrev main_v53 : Ref sig .tc := ⟨.hbm, 76, rfl⟩
abbrev main_v54 : Ref sig .tc := ⟨.hbm, 77, rfl⟩
abbrev main_cst_13 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]
-- ==== Mlstm.lean ====
abbrev S2048x1024 : Shape := ⟨2, ![2048, 1024]⟩
abbrev S2048x4096 : Shape := ⟨2, ![2048, 4096]⟩
abbrev S2048x8 : Shape := ⟨2, ![2048, 8]⟩
abbrev S1x1024 : Shape := ⟨2, ![1, 1024]⟩
abbrev S2048x2048 : Shape := ⟨2, ![2048, 2048]⟩
abbrev S8x128 : Shape := ⟨2, ![8, 128]⟩
abbrev S1024x2048 : Shape := ⟨2, ![1024, 2048]⟩
abbrev S_ : Shape := ⟨0, ![]⟩
abbrev S16x128x8 : Shape := ⟨3, ![16, 128, 8]⟩
abbrev S2048x16 : Shape := ⟨2, ![2048, 16]⟩
abbrev S16x2048 : Shape := ⟨2, ![16, 2048]⟩
abbrev S16x2048x1 : Shape := ⟨3, ![16, 2048, 1]⟩
abbrev S16x2048x128 : Shape := ⟨3, ![16, 2048, 128]⟩
abbrev S16x1x2048 : Shape := ⟨3, ![16, 1, 2048]⟩
abbrev S2048x8x128 : Shape := ⟨3, ![2048, 8, 128]⟩
abbrev S1x8 : Shape := ⟨2, ![1, 8]⟩
abbrev S15x8 : Shape := ⟨2, ![15, 8]⟩
abbrev S16x8 : Shape := ⟨2, ![16, 8]⟩
abbrev S2048 : Shape := ⟨1, ![2048]⟩
abbrev S1x2048 : Shape := ⟨2, ![1, 2048]⟩
abbrev S16 : Shape := ⟨1, ![16]⟩
abbrev S16x1 : Shape := ⟨2, ![16, 1]⟩
abbrev S16x1x8 : Shape := ⟨3, ![16, 1, 8]⟩
abbrev S1x2048x8 : Shape := ⟨3, ![1, 2048, 8]⟩
abbrev S16x2048x8 : Shape := ⟨3, ![16, 2048, 8]⟩
abbrev S16x2048x8x1 : Shape := ⟨4, ![16, 2048, 8, 1]⟩
abbrev S1x2048x8x128 : Shape := ⟨4, ![1, 2048, 8, 128]⟩
abbrev S16x2048x8x128 : Shape := ⟨4, ![16, 2048, 8, 128]⟩
abbrev S8x16x128x128 : Shape := ⟨4, ![8, 16, 128, 128]⟩
abbrev S16x8x128 : Shape := ⟨3, ![16, 8, 128]⟩
abbrev S8x16x128 : Shape := ⟨3, ![8, 16, 128]⟩
abbrev S8x16 : Shape := ⟨2, ![8, 16]⟩
abbrev S8x16x1x1 : Shape := ⟨4, ![8, 16, 1, 1]⟩
abbrev S8x16x1x128 : Shape := ⟨4, ![8, 16, 1, 128]⟩
abbrev S8x16x6x128 : Shape := ⟨4, ![8, 16, 6, 128]⟩
abbrev S8x16x8x128 : Shape := ⟨4, ![8, 16, 8, 128]⟩
abbrev S2048x128 : Shape := ⟨2, ![2048, 128]⟩
abbrev S8x1x2048 : Shape := ⟨3, ![8, 1, 2048]⟩
abbrev S128x2048 : Shape := ⟨2, ![128, 2048]⟩
abbrev S1x2048x128 : Shape := ⟨3, ![1, 2048, 128]⟩
abbrev S1x128 : Shape := ⟨2, ![1, 128]⟩
abbrev S1x16x128x128 : Shape := ⟨4, ![1, 16, 128, 128]⟩
abbrev S1x16x8x128 : Shape := ⟨4, ![1, 16, 8, 128]⟩
abbrev S128x128 : Shape := ⟨2, ![128, 128]⟩
abbrev S128x1 : Shape := ⟨2, ![128, 1]⟩
abbrev S1x128x128 : Shape := ⟨3, ![1, 128, 128]⟩
abbrev S1x1x128 : Shape := ⟨3, ![1, 1, 128]⟩
abbrev S1x1x128x128 : Shape := ⟨4, ![1, 1, 128, 128]⟩
abbrev S1x1x1x128 : Shape := ⟨4, ![1, 1, 1, 128]⟩
abbrev S1x1x1x1 : Shape := ⟨4, ![1, 1, 1, 1]⟩
abbrev S1x1 : Shape := ⟨2, ![1, 1]⟩
abbrev S128 : Shape := ⟨1, ![128]⟩
abbrev S1 : Shape := ⟨1, ![1]⟩

abbrev nBuf : Space → Nat
  | .hbm => 92
  | .vmem => 39
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x4096, .f32⟩
  | .hbm, ⟨3, _⟩ => ⟨S2048x8, .f32⟩
  | .hbm, ⟨4, _⟩ => ⟨S2048x8, .f32⟩
  | .hbm, ⟨5, _⟩ => ⟨S1x1024, .f32⟩
  | .hbm, ⟨6, _⟩ => ⟨S2048x2048, .f32⟩
  | .hbm, ⟨7, _⟩ => ⟨S8x128, .f32⟩
  | .hbm, ⟨8, _⟩ => ⟨S1024x2048, .f32⟩
  | .hbm, ⟨9, _⟩ => ⟨S1024x2048, .bf16⟩
  | .hbm, ⟨10, _⟩ => ⟨S_, .f32⟩
  | .hbm, ⟨11, _⟩ => ⟨S2048x1024, .f32⟩
  | .hbm, ⟨12, _⟩ => ⟨S2048x1024, .f32⟩
  | .hbm, ⟨13, _⟩ => ⟨S1024x2048, .f32⟩
  | .hbm, ⟨14, _⟩ => ⟨S1024x2048, .bf16⟩
  | .hbm, ⟨15, _⟩ => ⟨S16x128x8, .f32⟩
  | .hbm, ⟨16, _⟩ => ⟨S_, .f32⟩
  | .hbm, ⟨17, _⟩ => ⟨S_, .f32⟩
  | .hbm, ⟨18, _⟩ => ⟨S16x128x8, .f32⟩
  | .hbm, ⟨19, _⟩ => ⟨S2048x8, .f32⟩
  | .hbm, ⟨20, _⟩ => ⟨S2048x16, .f32⟩
  | .hbm, ⟨21, _⟩ => ⟨S16x2048, .f32⟩
  | .hbm, ⟨22, _⟩ => ⟨S16x2048x1, .f32⟩
  | .hbm, ⟨23, _⟩ => ⟨S16x2048x128, .f32⟩
  | .hbm, ⟨24, _⟩ => ⟨S16x1x2048, .f32⟩
  | .hbm, ⟨25, _⟩ => ⟨S2048x8x128, .f32⟩
  | .hbm, ⟨26, _⟩ => ⟨S2048x1024, .f32⟩
  | .hbm, ⟨27, _⟩ => ⟨S2048x8x128, .f32⟩
  | .hbm, ⟨28, _⟩ => ⟨S_, .f32⟩
  | .hbm, ⟨29, _⟩ => ⟨S_, .f32⟩
  | .hbm, ⟨30, _⟩ => ⟨S2048x8, .f32⟩
  | .hbm, ⟨31, _⟩ => ⟨S_, .f32⟩
  | .hbm, ⟨32, _⟩ => ⟨S1x8, .f32⟩
  | .hbm, ⟨33, _⟩ => ⟨S15x8, .f32⟩
  | .hbm, ⟨34, _⟩ => ⟨S16x8, .f32⟩
  | .hbm, ⟨35, _⟩ => ⟨S2048, .i32⟩
  | .hbm, ⟨36, _⟩ => ⟨S1x2048, .i32⟩
  | .hbm, ⟨37, _⟩ => ⟨S16, .i32⟩
  | .hbm, ⟨38, _⟩ => ⟨S16x1, .i32⟩
  | .hbm, ⟨39, _⟩ => ⟨S_, .i32⟩
  | .hbm, ⟨40, _⟩ => ⟨S16x1, .i32⟩
  | .hbm, ⟨41, _⟩ => ⟨S16x1, .i32⟩
  | .hbm, ⟨42, _⟩ => ⟨S16x2048, .i32⟩
  | .hbm, ⟨43, _⟩ => ⟨S16x2048, .i32⟩
  | .hbm, ⟨44, _⟩ => ⟨S16x2048, .i1⟩
  | .hbm, ⟨45, _⟩ => ⟨S16x2048x1, .i1⟩
  | .hbm, ⟨46, _⟩ => ⟨S16x1x8, .f32⟩
  | .hbm, ⟨47, _⟩ => ⟨S1x2048x8, .f32⟩
  | .hbm, ⟨48, _⟩ => ⟨S16x2048x8, .f32⟩
  | .hbm, ⟨49, _⟩ => ⟨S16x2048x8, .f32⟩
  | .hbm, ⟨50, _⟩ => ⟨S16x2048x8, .f32⟩
  | .hbm, ⟨51, _⟩ => ⟨S1x2048x8, .f32⟩
  | .hbm, ⟨52, _⟩ => ⟨S16x2048x8, .f32⟩
  | .hbm, ⟨53, _⟩ => ⟨S16x2048x8, .f32⟩
  | .hbm, ⟨54, _⟩ => ⟨S_, .f32⟩
  | .hbm, ⟨55, _⟩ => ⟨S_, .f32⟩
  | .hbm, ⟨56, _⟩ => ⟨S16x2048x8, .i1⟩
  | .hbm, ⟨57, _⟩ => ⟨S16x2048x8, .f32⟩
  | .hbm, ⟨58, _⟩ => ⟨S16x2048x8, .f32⟩
  | .hbm, ⟨59, _⟩ => ⟨S_, .f32⟩
  | .hbm, ⟨60, _⟩ => ⟨S16x8, .f32⟩
  | .hbm, ⟨61, _⟩ => ⟨S16x8, .f32⟩
  | .hbm, ⟨62, _⟩ => ⟨S16x1x8, .f32⟩
  | .hbm, ⟨63, _⟩ => ⟨S16x2048x8, .f32⟩
  | .hbm, ⟨64, _⟩ => ⟨S16x2048x8, .f32⟩
  | .hbm, ⟨65, _⟩ => ⟨S16x2048x8, .f32⟩
  | .hbm, ⟨66, _⟩ => ⟨S16x2048x8x1, .f32⟩
  | .hbm, ⟨67, _⟩ => ⟨S_, .f32⟩
  | .hbm, ⟨68, _⟩ => ⟨S2048x8x128, .f32⟩
  | .hbm, ⟨69, _⟩ => ⟨S2048x8x128, .f32⟩
  | .hbm, ⟨70, _⟩ => ⟨S1x2048x8x128, .f32⟩
  | .hbm, ⟨71, _⟩ => ⟨S16x2048x8x128, .f32⟩
  | .hbm, ⟨72, _⟩ => ⟨S16x2048x8x128, .f32⟩
  | .hbm, ⟨73, _⟩ => ⟨S16x2048x8x128, .f32⟩
  | .hbm, ⟨74, _⟩ => ⟨S8x16x128x128, .f32⟩
  | .hbm, ⟨75, _⟩ => ⟨S_, .f32⟩
  | .hbm, ⟨76, _⟩ => ⟨S16x8x128, .f32⟩
  | .hbm, ⟨77, _⟩ => ⟨S8x16x128, .f32⟩
  | .hbm, ⟨78, _⟩ => ⟨S8x16, .f32⟩
  | .hbm, ⟨79, _⟩ => ⟨S8x16x1x1, .f32⟩
  | .hbm, ⟨80, _⟩ => ⟨S8x16x1x128, .f32⟩
  | .hbm, ⟨81, _⟩ => ⟨S8x16x1x128, .f32⟩
  | .hbm, ⟨82, _⟩ => ⟨S_, .f32⟩
  | .hbm, ⟨83, _⟩ => ⟨S8x16x6x128, .f32⟩
  | .hbm, ⟨84, _⟩ => ⟨S8x16x8x128, .f32⟩
  | .hbm, ⟨85, _⟩ => ⟨S2048x1024, .f32⟩
  | .hbm, ⟨86, _⟩ => ⟨S2048x1024, .f32⟩
  | .hbm, ⟨87, _⟩ => ⟨S2048x1024, .bf16⟩
  | .hbm, ⟨88, _⟩ => ⟨S2048x1024, .bf16⟩
  | .hbm, ⟨89, _⟩ => ⟨S2048x128, .f32⟩
  | .hbm, ⟨90, _⟩ => ⟨S8x1x2048, .f32⟩
  | .hbm, ⟨91, _⟩ => ⟨S1x1024, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S128x2048, .bf16⟩
  | .local _ .vmem, ⟨5, _⟩ => ⟨S128x2048, .bf16⟩
  | .local _ .vmem, ⟨6, _⟩ => ⟨S128x2048, .bf16⟩
  | .local _ .vmem, ⟨7, _⟩ => ⟨S128x2048, .bf16⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S1x2048x128, .f32⟩
  | .local _ .vmem, ⟨13, _⟩ => ⟨S1x2048x128, .f32⟩
  | .local _ .vmem, ⟨14, _⟩ => ⟨S1x2048x128, .f32⟩
  | .local _ .vmem, ⟨15, _⟩ => ⟨S1x2048x128, .f32⟩
  | .local _ .vmem, ⟨16, _⟩ => ⟨S16x1x2048, .f32⟩
  | .local _ .vmem, ⟨17, _⟩ => ⟨S1x128, .f32⟩
  | .local _ .vmem, ⟨18, _⟩ => ⟨S1x128, .f32⟩
  | .local _ .vmem, ⟨19, _⟩ => ⟨S1x16x128x128, .f32⟩
  | .local _ .vmem, ⟨20, _⟩ => ⟨S1x16x128x128, .f32⟩
  | .local _ .vmem, ⟨21, _⟩ => ⟨S1x16x8x128, .f32⟩
  | .local _ .vmem, ⟨22, _⟩ => ⟨S1x16x8x128, .f32⟩
  | .local _ .vmem, ⟨23, _⟩ => ⟨S2048x128, .f32⟩
  | .local _ .vmem, ⟨24, _⟩ => ⟨S2048x128, .f32⟩
  | .local _ .vmem, ⟨25, _⟩ => ⟨S2048x128, .f32⟩
  | .local _ .vmem, ⟨26, _⟩ => ⟨S2048x128, .f32⟩
  | .local _ .vmem, ⟨27, _⟩ => ⟨S2048x128, .f32⟩
  | .local _ .vmem, ⟨28, _⟩ => ⟨S2048x128, .f32⟩
  | .local _ .vmem, ⟨29, _⟩ => ⟨S2048x128, .bf16⟩
  | .local _ .vmem, ⟨30, _⟩ => ⟨S2048x128, .bf16⟩
  | .local _ .vmem, ⟨31, _⟩ => ⟨S2048x128, .bf16⟩
  | .local _ .vmem, ⟨32, _⟩ => ⟨S2048x128, .bf16⟩
  | .local _ .vmem, ⟨33, _⟩ => ⟨S2048x128, .f32⟩
  | .local _ .vmem, ⟨34, _⟩ => ⟨S8x1x2048, .f32⟩
  | .local _ .vmem, ⟨35, _⟩ => ⟨S1x128, .f32⟩
  | .local _ .vmem, ⟨36, _⟩ => ⟨S1x128, .f32⟩
  | .local _ .vmem, ⟨37, _⟩ => ⟨S128x128, .f32⟩
  | .local _ .vmem, ⟨38, _⟩ => ⟨S8x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_call0_call0_cst : Ref sig .tc := ⟨.hbm, 16, rfl⟩
abbrev main_call0_call0_v0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call1_call0_cst : Ref sig .tc := ⟨.hbm, 28, rfl⟩
abbrev main_call1_call0_v0 : Ref sig .tc := ⟨.hbm, 29, rfl⟩
abbrev main_v17 : Ref sig .tc := ⟨.hbm, 30, rfl⟩
abbrev main_cst_0 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_1 : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_v39 : Ref sig .tc := ⟨.hbm, 58, rfl⟩
abbrev main_cst_2 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_3 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_4 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_5 : Ref sig .tc := ⟨.hbm, 82, rfl⟩
abbrev main_v60 : Ref sig .tc := ⟨.hbm, 83, rfl⟩
abbrev main_v61 : Ref sig .tc := ⟨.hbm, 84, rfl⟩
abbrev main_v62_0 : Ref sig .tc := ⟨.hbm, 85, rfl⟩
abbrev main_v62_1 : Ref sig .tc := ⟨.hbm, 86, rfl⟩
abbrev main_v62_2 : Ref sig .tc := ⟨.hbm, 87, rfl⟩
abbrev main_v62_3 : Ref sig .tc := ⟨.hbm, 88, rfl⟩
abbrev main_v62_4 : Ref sig .tc := ⟨.hbm, 89, rfl⟩
abbrev main_v62_5 : Ref sig .tc := ⟨.hbm, 90, rfl⟩
abbrev main_v62_6 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_stg17_0 : Ref sig .tc := ⟨.vmem, 33, rfl⟩
abbrev cc0_stg18_0 : Ref sig .tc := ⟨.vmem, 34, rfl⟩
abbrev cc0_stg19_0 : Ref sig .tc := ⟨.vmem, 35, rfl⟩
abbrev cc0_stg19_1 : Ref sig .tc := ⟨.vmem, 36, rfl⟩
abbrev cc0_scratch0 : Ref sig .tc := ⟨.vmem, 37, rfl⟩
abbrev cc0_scratch1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem18_0 : DmaSem sig := 34
abbrev cc0_sem19_0 : DmaSem sig := 35
abbrev cc0_sem19_1 : DmaSem sig := 36

abbrev nD : Nat := 1
abbrev τ : Topo := Topo.v7x

variable {F : FTy → Type} [BitOps F]

abbrev grid0 : Pipeline.Grid := ⟨1, ![8], ![false]⟩

@[reducible] def k0_t1_loop : Scf.Loop 32 :=
  let c0_i32_10 : BitVec 32 := 0#32
  let c16_i32 : BitVec 32 := 16#32
  let v20 : BitVec 32 := Scalar.addi c0_i32_10 c16_i32
  let c1_i32 : BitVec 32 := 1#32
  ⟨c0_i32_10, v20, c1_i32⟩
def k0_mult1 (k0_t1 : Fin k0_t1_loop.trips) : BitVec 32 :=
  let c15_i32 : BitVec 32 := 15#32
  let c0_i32_10 : BitVec 32 := 0#32
  let c1_i32 : BitVec 32 := 1#32
  let arg24 : BitVec 32 := Scf.iv c0_i32_10 c1_i32 k0_t1
  let v21 : BitVec 32 := Scalar.subi c15_i32 arg24
  let c128_i32 : BitVec 32 := 128#32
  let v22 : BitVec 32 := Scalar.muli v21 c128_i32
  v22
def k0_off1 (k0_t1 : Fin k0_t1_loop.trips) : Fin 2 → Nat :=
  let c15_i32 : BitVec 32 := 15#32
  let c0_i32_10 : BitVec 32 := 0#32
  let c1_i32 : BitVec 32 := 1#32
  let arg24 : BitVec 32 := Scf.iv c0_i32_10 c1_i32 k0_t1
  let v21 : BitVec 32 := Scalar.subi c15_i32 arg24
  let c128_i32 : BitVec 32 := 128#32
  let v22 : BitVec 32 := Scalar.muli v21 c128_i32
  let v23 : BitVec 32 := v22
  let v24 : Index := Scalar.indexCast v23
  let c0_12 : Index := 0#32
  ![v24.toNat, 0]
def k0_off2 (k0_t1 : Fin k0_t1_loop.trips) : Fin 3 → Nat :=
  let c0_16 : Index := 0#32
  let c15_i32 : BitVec 32 := 15#32
  let c0_i32_10 : BitVec 32 := 0#32
  let c1_i32 : BitVec 32 := 1#32
  let arg24 : BitVec 32 := Scf.iv c0_i32_10 c1_i32 k0_t1
  let v21 : BitVec 32 := Scalar.subi c15_i32 arg24
  let c128_i32 : BitVec 32 := 128#32
  let v22 : BitVec 32 := Scalar.muli v21 c128_i32
  let v23 : BitVec 32 := v22
  let v32 : Index := Scalar.indexCast v23
  let c0_17 : Index := 0#32
  ![0, v32.toNat, 0]
def k0_off3 (i : grid0.Coords) (k0_t1 : Fin k0_t1_loop.trips) : Fin 3 → Nat :=
  let arg0 : BitVec 32 := BitVec.ofNat 32 (i 0).val
  let v38 : Index := Scalar.indexCast arg0
  let c0_20 : Index := 0#32
  let c15_i32 : BitVec 32 := 15#32
  let c0_i32_10 : BitVec 32 := 0#32
  let c1_i32 : BitVec 32 := 1#32
  let arg24 : BitVec 32 := Scf.iv c0_i32_10 c1_i32 k0_t1
  let v21 : BitVec 32 := Scalar.subi c15_i32 arg24
  let c128_i32 : BitVec 32 := 128#32
  let v22 : BitVec 32 := Scalar.muli v21 c128_i32
  let v23 : BitVec 32 := v22
  let v39 : Index := Scalar.indexCast v23
  ![v38.toNat, 0, v39.toNat]
def k0_off4 (i : grid0.Coords) (k0_t1 : Fin k0_t1_loop.trips) : Fin 3 → Nat :=
  let c8_i32 : BitVec 32 := 8#32
  let arg0 : BitVec 32 := BitVec.ofNat 32 (i 0).val
  let v44 : BitVec 32 := Scalar.addi c8_i32 arg0
  let v45 : Index := Scalar.indexCast v44
  let c0_21 : Index := 0#32
  let c15_i32 : BitVec 32 := 15#32
  let c0_i32_10 : BitVec 32 := 0#32
  let c1_i32 : BitVec 32 := 1#32
  let arg24 : BitVec 32 := Scf.iv c0_i32_10 c1_i32 k0_t1
  let v21 : BitVec 32 := Scalar.subi c15_i32 arg24
  let c128_i32 : BitVec 32 := 128#32
  let v22 : BitVec 32 := Scalar.muli v21 c128_i32
  let v23 : BitVec 32 := v22
  let v46 : Index := Scalar.indexCast v23
  ![v45.toNat, 0, v46.toNat]
def k0_off5 (k0_t1 : Fin k0_t1_loop.trips) : Fin 2 → Nat :=
  let c0_22 : Index := 0#32
  let c15_i32 : BitVec 32 := 15#32
  let c0_i32_10 : BitVec 32 := 0#32
  let c1_i32 : BitVec 32 := 1#32
  let arg24 : BitVec 32 := Scf.iv c0_i32_10 c1_i32 k0_t1
  let v21 : BitVec 32 := Scalar.subi c15_i32 arg24
  let c128_i32 : BitVec 32 := 128#32
  let v22 : BitVec 32 := Scalar.muli v21 c128_i32
  let v23 : BitVec 32 := v22
  let v51 : Index := Scalar.indexCast v23
  ![0, v51.toNat]
def k0_off6 (k0_t1 : Fin k0_t1_loop.trips) : Fin 4 → Nat :=
  let c0_23 : Index := 0#32
  let c15_i32 : BitVec 32 := 15#32
  let c0_i32_10 : BitVec 32 := 0#32
  let c1_i32 : BitVec 32 := 1#32
  let arg24 : BitVec 32 := Scf.iv c0_i32_10 c1_i32 k0_t1
  let v21 : BitVec 32 := Scalar.subi c15_i32 arg24
  let v54 : Index := Scalar.indexCast v21
  let c0_24 : Index := 0#32
  let c0_25 : Index := 0#32
  ![0, v54.toNat, 0, 0]
def k0_off7 (k0_t1 : Fin k0_t1_loop.trips) : Fin 4 → Nat :=
  let c0_26 : Index := 0#32
  let c15_i32 : BitVec 32 := 15#32
  let c0_i32_10 : BitVec 32 := 0#32
  let c1_i32 : BitVec 32 := 1#32
  let arg24 : BitVec 32 := Scf.iv c0_i32_10 c1_i32 k0_t1
  let v21 : BitVec 32 := Scalar.subi c15_i32 arg24
  let v57 : Index := Scalar.indexCast v21
  let c0_27 : Index := 0#32
  let c0_28 : Index := 0#32
  ![0, v57.toNat, 0, 0]
def k0_off8 (k0_t1 : Fin k0_t1_loop.trips) : Fin 4 → Nat :=
  let c0_29 : Index := 0#32
  let c15_i32 : BitVec 32 := 15#32
  let c0_i32_10 : BitVec 32 := 0#32
  let c1_i32 : BitVec 32 := 1#32
  let arg24 : BitVec 32 := Scf.iv c0_i32_10 c1_i32 k0_t1
  let v21 : BitVec 32 := Scalar.subi c15_i32 arg24
  let v60 : Index := Scalar.indexCast v21
  let c1 : Index := 1#32
  let c0_30 : Index := 0#32
  ![0, v60.toNat, 1, 0]
def k0_off9 (i : grid0.Coords) (k0_t1 : Fin k0_t1_loop.trips) : Fin 3 → Nat :=
  let arg0 : BitVec 32 := BitVec.ofNat 32 (i 0).val
  let v355 : Index := Scalar.indexCast arg0
  let c0_99 : Index := 0#32
  let c15_i32 : BitVec 32 := 15#32
  let c0_i32_10 : BitVec 32 := 0#32
  let c1_i32 : BitVec 32 := 1#32
  let arg24 : BitVec 32 := Scf.iv c0_i32_10 c1_i32 k0_t1
  let v21 : BitVec 32 := Scalar.subi c15_i32 arg24
  let c128_i32 : BitVec 32 := 128#32
  let v22 : BitVec 32 := Scalar.muli v21 c128_i32
  let v23 : BitVec 32 := v22
  let v356 : Index := Scalar.indexCast v23
  ![v355.toNat, 0, v356.toNat]
def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_6 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, c0_i32_1.toNat]

def cc0_transform_7 (i : grid0.Coords) : Fin 3 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  let c0_i32_1 : BitVec 32 := 0#32
  ![v0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_14 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_15 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_16 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_17 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_20 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S16x1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x16x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x16x8x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2048x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2048x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2048x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2048x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2048x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S2048x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S8x1x2048 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S1x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== MlstmIdeal.lean ====
variable {F : FTy → Type} [FloatOps F]
-- ==== MlstmRefIdeal.lean ====
abbrev S2048x1024 : Shape := ⟨2, ![2048, 1024]⟩
abbrev S2048x4096 : Shape := ⟨2, ![2048, 4096]⟩
abbrev S2048x8 : Shape := ⟨2, ![2048, 8]⟩
abbrev S1x1024 : Shape := ⟨2, ![1, 1024]⟩
abbrev S2048x2048 : Shape := ⟨2, ![2048, 2048]⟩
abbrev S8x128 : Shape := ⟨2, ![8, 128]⟩
abbrev S2048x8x128 : Shape := ⟨3, ![2048, 8, 128]⟩
abbrev S_ : Shape := ⟨0, ![]⟩
abbrev S2048x1x8 : Shape := ⟨3, ![2048, 1, 8]⟩
abbrev S1x2048x8 : Shape := ⟨3, ![1, 2048, 8]⟩
abbrev S2048x2048x8 : Shape := ⟨3, ![2048, 2048, 8]⟩
abbrev S2048x2048x1 : Shape := ⟨3, ![2048, 2048, 1]⟩
abbrev S8x2048x2048 : Shape := ⟨3, ![8, 2048, 2048]⟩
abbrev S8x128x2048 : Shape := ⟨3, ![8, 128, 2048]⟩
abbrev S2048x8x1 : Shape := ⟨3, ![2048, 8, 1]⟩
abbrev S1x8x128 : Shape := ⟨3, ![1, 8, 128]⟩
abbrev S8x2048x128 : Shape := ⟨3, ![8, 2048, 128]⟩

abbrev nBuf : Space → Nat
  | .hbm => 189
  | .vmem => 0
  | .smem => 0
  | _ => 0

abbrev hbmTy0_0 (i : Nat) : BufTy := match i % 128 with
  | 0 => ⟨S2048x1024, .f32⟩
  | 1 => ⟨S2048x1024, .f32⟩
  | 2 => ⟨S2048x4096, .f32⟩
  | 3 => ⟨S2048x8, .f32⟩
  | 4 => ⟨S2048x8, .f32⟩
  | 5 => ⟨S1x1024, .f32⟩
  | 6 => ⟨S2048x2048, .f32⟩
  | 7 => ⟨S8x128, .f32⟩
  | 8 => ⟨S2048x1024, .f32⟩
  | 9 => ⟨S2048x1024, .f32⟩
  | 10 => ⟨S2048x8x128, .f32⟩
  | 11 => ⟨S2048x8x128, .f32⟩
  | 12 => ⟨S2048x8x128, .f32⟩
  | 13 => ⟨S_, .f32⟩
  | 14 => ⟨S_, .f32⟩
  | 15 => ⟨S2048x8, .f32⟩
  | 16 => ⟨S_, .i1⟩
  | 17 => ⟨S2048x2048, .i1⟩
  | 18 => ⟨S2048x2048, .i32⟩
  | 19 => ⟨S_, .i32⟩
  | 20 => ⟨S2048x2048, .i32⟩
  | 21 => ⟨S2048x2048, .i32⟩
  | 22 => ⟨S2048x2048, .i32⟩
  | 23 => ⟨S2048x2048, .i1⟩
  | 24 => ⟨S_, .i1⟩
  | 25 => ⟨S2048x2048, .i1⟩
  | 26 => ⟨S2048x2048, .i1⟩
  | 27 => ⟨S2048x1x8, .f32⟩
  | 28 => ⟨S1x2048x8, .f32⟩
  | 29 => ⟨S2048x2048x8, .f32⟩
  | 30 => ⟨S2048x2048x8, .f32⟩
  | 31 => ⟨S2048x2048x8, .f32⟩
  | 32 => ⟨S1x2048x8, .f32⟩
  | 33 => ⟨S2048x2048x8, .f32⟩
  | 34 => ⟨S2048x2048x8, .f32⟩
  | 35 => ⟨S2048x2048x1, .i1⟩
  | 36 => ⟨S_, .f32⟩
  | 37 => ⟨S_, .f32⟩
  | 38 => ⟨S2048x2048x8, .i1⟩
  | 39 => ⟨S2048x2048x8, .f32⟩
  | 40 => ⟨S2048x2048x8, .f32⟩
  | 41 => ⟨S_, .f32⟩
  | 42 => ⟨S2048x8, .f32⟩
  | 43 => ⟨S2048x8, .f32⟩
  | 44 => ⟨S_, .f32⟩
  | 45 => ⟨S2048x8x128, .f32⟩
  | 46 => ⟨S2048x8x128, .f32⟩
  | 47 => ⟨S8x2048x2048, .f32⟩
  | 48 => ⟨S2048x2048x8, .f32⟩
  | 49 => ⟨S2048x1x8, .f32⟩
  | 50 => ⟨S2048x2048x8, .f32⟩
  | 51 => ⟨S2048x2048x8, .f32⟩
  | 52 => ⟨S2048x2048x8, .f32⟩
  | 53 => ⟨S2048x2048x8, .f32⟩
  | 54 => ⟨S8x128x2048, .f32⟩
  | 55 => ⟨S2048x8x128, .f32⟩
  | 56 => ⟨S_, .f32⟩
  | 57 => ⟨S2048x8, .f32⟩
  | 58 => ⟨S2048x8, .f32⟩
  | 59 => ⟨S_, .f32⟩
  | 60 => ⟨S2048x8, .f32⟩
  | 61 => ⟨S2048x8, .i1⟩
  | 62 => ⟨S2048x8, .f32⟩
  | 63 => ⟨S2048x8, .f32⟩
  | 64 => ⟨S2048x8, .f32⟩
  | 65 => ⟨S2048x8, .i1⟩
  | 66 => ⟨S2048x8, .i1⟩
  | 67 => ⟨S_, .f32⟩
  | 68 => ⟨S2048x8, .f32⟩
  | 69 => ⟨S_, .f32⟩
  | 70 => ⟨S2048x8, .f32⟩
  | 71 => ⟨S_, .f32⟩
  | 72 => ⟨S2048x8, .f32⟩
  | 73 => ⟨S2048x8, .f32⟩
  | 74 => ⟨S2048x8, .f32⟩
  | 75 => ⟨S2048x8x1, .f32⟩
  | 76 => ⟨S2048x8x128, .f32⟩
  | 77 => ⟨S2048x8x128, .f32⟩
  | 78 => ⟨S2048x8x1, .f32⟩
  | 79 => ⟨S_, .f32⟩
  | 80 => ⟨S2048x8x1, .f32⟩
  | 81 => ⟨S2048x8x1, .f32⟩
  | 82 => ⟨S8x128, .f32⟩
  | 83 => ⟨S2048x8x128, .f32⟩
  | 84 => ⟨S_, .f32⟩
  | 85 => ⟨S2048x8, .f32⟩
  | 86 => ⟨S2048x8x1, .f32⟩
  | 87 => ⟨S_, .f32⟩
  | 88 => ⟨S2048x8x1, .f32⟩
  | 89 => ⟨S2048x8x1, .f32⟩
  | 90 => ⟨S_, .f32⟩
  | 91 => ⟨S2048x8x1, .f32⟩
  | 92 => ⟨S2048x8x1, .f32⟩
  | 93 => ⟨S2048x8x1, .f32⟩
  | 94 => ⟨S2048x8x1, .f32⟩
  | 95 => ⟨S_, .f32⟩
  | 96 => ⟨S2048x8x1, .f32⟩
  | 97 => ⟨S2048x8x1, .f32⟩
  | 98 => ⟨S2048x8x128, .f32⟩
  | 99 => ⟨S2048x8x128, .f32⟩
  | 100 => ⟨S1x8x128, .f32⟩
  | 101 => ⟨S2048x8x128, .f32⟩
  | 102 => ⟨S2048x8x128, .f32⟩
  | 103 => ⟨S2048x1024, .f32⟩
  | 104 => ⟨S2048x1024, .f32⟩
  | 105 => ⟨S_, .f32⟩
  | 106 => ⟨S2048x1024, .f32⟩
  | 107 => ⟨S2048x1024, .f32⟩
  | 108 => ⟨S_, .f32⟩
  | 109 => ⟨S2048x1024, .f32⟩
  | 110 => ⟨S2048x1024, .f32⟩
  | 111 => ⟨S_, .f32⟩
  | 112 => ⟨S2048x1024, .f32⟩
  | 113 => ⟨S2048x1024, .f32⟩
  | 114 => ⟨S2048x1024, .f32⟩
  | 115 => ⟨S2048x8x128, .f32⟩
  | 116 => ⟨S2048x8x128, .f32⟩
  | 117 => ⟨S2048x1024, .f32⟩
  | 118 => ⟨S2048x1024, .f32⟩
  | 119 => ⟨S2048x8x128, .f32⟩
  | 120 => ⟨S2048x8x128, .f32⟩
  | 121 => ⟨S2048x8x128, .f32⟩
  | 122 => ⟨S2048x1024, .f32⟩
  | 123 => ⟨S2048x1024, .f32⟩
  | 124 => ⟨S2048x8x128, .f32⟩
  | 125 => ⟨S_, .f32⟩
  | 126 => ⟨S8x128, .f32⟩
  | 127 => ⟨S1x8x128, .f32⟩
  | _ => ⟨S2048x1024, .f32⟩

abbrev hbmTy0_1 (i : Nat) : BufTy := match i % 128 with
  | 0 => ⟨S2048x8x128, .f32⟩
  | 1 => ⟨S2048x8x128, .f32⟩
  | 2 => ⟨S_, .f32⟩
  | 3 => ⟨S8x128, .f32⟩
  | 4 => ⟨S2048x8x128, .f32⟩
  | 5 => ⟨S_, .f32⟩
  | 6 => ⟨S2048x8, .f32⟩
  | 7 => ⟨S2048x8x1, .f32⟩
  | 8 => ⟨S2048x8x128, .f32⟩
  | 9 => ⟨S2048x8x128, .f32⟩
  | 10 => ⟨S2048x8x1, .f32⟩
  | 11 => ⟨S_, .f32⟩
  | 12 => ⟨S2048x8x1, .f32⟩
  | 13 => ⟨S2048x8x1, .f32⟩
  | 14 => ⟨S_, .f32⟩
  | 15 => ⟨S2048x8, .f32⟩
  | 16 => ⟨S2048x8x128, .f32⟩
  | 17 => ⟨S2048x8x128, .f32⟩
  | 18 => ⟨S2048x8x128, .f32⟩
  | 19 => ⟨S2048x8x128, .f32⟩
  | 20 => ⟨S2048x8x128, .f32⟩
  | 21 => ⟨S1x1024, .f32⟩
  | 22 => ⟨S2048x8x128, .f32⟩
  | 23 => ⟨S2048x8x128, .f32⟩
  | 24 => ⟨S2048x8x128, .f32⟩
  | 25 => ⟨S_, .f32⟩
  | 26 => ⟨S2048x8, .f32⟩
  | 27 => ⟨S2048x8x1, .f32⟩
  | 28 => ⟨S2048x8x1, .f32⟩
  | 29 => ⟨S2048x8x128, .f32⟩
  | 30 => ⟨S2048x8x128, .f32⟩
  | 31 => ⟨S_, .f32⟩
  | 32 => ⟨S2048x8, .f32⟩
  | 33 => ⟨S2048x8, .f32⟩
  | 34 => ⟨S_, .f32⟩
  | 35 => ⟨S2048x8, .f32⟩
  | 36 => ⟨S2048x8, .f32⟩
  | 37 => ⟨S2048x8, .f32⟩
  | 38 => ⟨S2048x8, .f32⟩
  | 39 => ⟨S2048x8, .f32⟩
  | 40 => ⟨S2048x2048x8, .f32⟩
  | 41 => ⟨S8x128x2048, .f32⟩
  | 42 => ⟨S8x2048x2048, .f32⟩
  | 43 => ⟨S2048x2048x8, .f32⟩
  | 44 => ⟨S2048x2048x8, .f32⟩
  | 45 => ⟨S8x128x2048, .f32⟩
  | 46 => ⟨S2048x8x128, .f32⟩
  | 47 => ⟨S2048x2048x8, .f32⟩
  | 48 => ⟨S8x2048x2048, .f32⟩
  | 49 => ⟨S8x2048x128, .f32⟩
  | 50 => ⟨S2048x8x128, .f32⟩
  | 51 => ⟨S8x2048x128, .f32⟩
  | 52 => ⟨S2048x8x128, .f32⟩
  | 53 => ⟨S_, .f32⟩
  | 54 => ⟨S2048x8x128, .f32⟩
  | 55 => ⟨S2048x8x128, .f32⟩
  | 56 => ⟨S2048x1024, .f32⟩
  | 57 => ⟨S2048x1024, .f32⟩
  | 58 => ⟨S2048x1024, .f32⟩
  | 59 => ⟨S2048x1024, .bf16⟩
  | 60 => ⟨S2048x1024, .bf16⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_call0_cst : Ref sig .tc := ⟨.hbm, 13, rfl⟩
abbrev main_call0_call0_v0 : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_call1_v0 : Ref sig .tc := ⟨.hbm, 18, rfl⟩
abbrev main_call1_c : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_call1_c_0 : Ref sig .tc := ⟨.hbm, 24, rfl⟩
abbrev main_call1_v5 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst : Ref sig .tc := ⟨.hbm, 36, rfl⟩
abbrev main_call2_v0 : Ref sig .tc := ⟨.hbm, 37, rfl⟩
abbrev main_call2_v1 : Ref sig .tc := ⟨.hbm, 38, rfl⟩
abbrev main_call2_v2 : Ref sig .tc := ⟨.hbm, 39, rfl⟩
abbrev main_v17 : Ref sig .tc := ⟨.hbm, 40, rfl⟩
abbrev main_cst_0 : Ref sig .tc := ⟨.hbm, 41, rfl⟩
abbrev main_v18 : Ref sig .tc := ⟨.hbm, 42, rfl⟩
abbrev main_v19 : Ref sig .tc := ⟨.hbm, 43, rfl⟩
abbrev main_cst_1 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_2 : Ref sig .tc := ⟨.hbm, 56, rfl⟩
abbrev main_v31 : Ref sig .tc := ⟨.hbm, 57, rfl⟩
abbrev main_v32 : Ref sig .tc := ⟨.hbm, 58, rfl⟩
abbrev main_cst_3 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_4 : Ref sig .tc := ⟨.hbm, 67, rfl⟩
abbrev main_v40 : Ref sig .tc := ⟨.hbm, 68, rfl⟩
abbrev main_cst_5 : Ref sig .tc := ⟨.hbm, 69, rfl⟩
abbrev main_v41 : Ref sig .tc := ⟨.hbm, 70, rfl⟩
abbrev main_cst_6 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_7 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_8 : Ref sig .tc := ⟨.hbm, 84, rfl⟩
abbrev main_v53 : Ref sig .tc := ⟨.hbm, 85, rfl⟩
abbrev main_v54 : Ref sig .tc := ⟨.hbm, 86, rfl⟩
abbrev main_cst_9 : Ref sig .tc := ⟨.hbm, 87, rfl⟩
abbrev main_v55 : Ref sig .tc := ⟨.hbm, 88, rfl⟩
abbrev main_v56 : Ref sig .tc := ⟨.hbm, 89, rfl⟩
abbrev main_cst_10 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_cst_11 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_cst_12 : Ref sig .tc := ⟨.hbm, 105, rfl⟩
abbrev main_v70 : Ref sig .tc := ⟨.hbm, 106, rfl⟩
abbrev main_v71 : Ref sig .tc := ⟨.hbm, 107, rfl⟩
abbrev main_cst_13 : Ref sig .tc := ⟨.hbm, 108, rfl⟩
abbrev main_v72 : Ref sig .tc := ⟨.hbm, 109, rfl⟩
abbrev main_v73 : Ref sig .tc := ⟨.hbm, 110, rfl⟩
abbrev main_cst_14 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_cst_15 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_cst_16 : Ref sig .tc := ⟨.hbm, 130, rfl⟩
abbrev main_v91 : Ref sig .tc := ⟨.hbm, 131, rfl⟩
abbrev main_v92 : Ref sig .tc := ⟨.hbm, 132, rfl⟩
abbrev main_cst_17 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_cst_18 : Ref sig .tc := ⟨.hbm, 139, rfl⟩
abbrev main_v98 : Ref sig .tc := ⟨.hbm, 140, rfl⟩
abbrev main_v99 : Ref sig .tc := ⟨.hbm, 141, rfl⟩
abbrev main_cst_19 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_cst_20 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_cst_21 : Ref sig .tc := ⟨.hbm, 159, rfl⟩
abbrev main_v115 : Ref sig .tc := ⟨.hbm, 160, rfl⟩
abbrev main_v116 : Ref sig .tc := ⟨.hbm, 161, rfl⟩
abbrev main_cst_22 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_cst_23 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩

abbrev nD : Nat := 1
abbrev τ : Topo := Topo.v7x

variable {F : FTy → Type} [FloatOps F]
-- ==== Proof.MlpIdeal.Products.lean ====
module

public import proofs.«01_k».proof.Proof.Gen.MlpIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.MlpIdeal

open Cert.MlpIdeal Cert.MlpIdeal.Gen

variable (V : (c : Dev nD) → (b : Ref sig .tc) → Buf (Elt Ideal) ((c : Thread nD τ).loc b))

/-- The pre-activation: the rows times the weights held as eight column pieces. -/
def pre (x : FVec Ideal S2048x2048 .bf16) (g : FVec Ideal S8x2048x1024 .bf16) : FVec Ideal S2048x8192 .f32 := fun i =>
  ∑ k : Fin 2048, x (ix2 (i 0) k) * g (ix3 ⟨(i 1).val / 1024, by have := (i 1).isLt; simp [S2048x8192] at this; omega⟩ k ⟨(i 1).val % 1024, Nat.mod_lt _ (by norm_num)⟩)

/-- The positive part of the pre-activation. -/
def relu (x : FVec Ideal S2048x2048 .bf16) (g : FVec Ideal S8x2048x1024 .bf16) : FVec Ideal S2048x8192 .bf16 := fun i =>
  max (pre x g i) 0

/-- The activation: the square of the positive part. -/
def act (x : FVec Ideal S2048x2048 .bf16) (g : FVec Ideal S8x2048x1024 .bf16) : FVec Ideal S2048x8192 .bf16 := fun i =>
  max (pre x g i) 0 * max (pre x g i) 0

/-- The activation times one half of the columns of the second weight. -/
def half (a : FVec Ideal S2048x8192 .bf16) (w : FVec Ideal S8192x1024 .bf16) : FVec Ideal S2048x2048 .f32 := fun i =>
  ∑ k : Fin 8192, a (ix2 (i 0) k) * w (ix2 k ⟨(i 1).val % 1024, Nat.mod_lt _ (by norm_num)⟩)

/-- The cotangent of the pre-activation, the contraction taken in two halves. -/
def dpre (d : FVec Ideal S2048x2048 .bf16) (lo : FVec Ideal S8192x1024 .bf16) (r : FVec Ideal S2048x8192 .bf16)
    (hi : FVec Ideal S8192x1024 .bf16) : FVec Ideal S2048x8192 .bf16 := fun i =>
  (∑ k : Fin 1024, d (ix2 (i 0) ⟨k.val, by omega⟩) * lo (ix2 (i 1) k)
    + ∑ k : Fin 1024, d (ix2 (i 0) ⟨1024 + k.val, by omega⟩) * hi (ix2 (i 1) k)) * (Ideal.ofBits FTy.f32 1073741824#32 * r i)

/-- The gradient of the second weight. -/
def gw2 (a : FVec Ideal S2048x8192 .bf16) (d : FVec Ideal S2048x2048 .bf16) : FVec Ideal S8192x2048 .bf16 := fun i =>
  ∑ k : Fin 2048, a (ix2 k (i 0)) * d (ix2 k (i 1))

/-- The cotangent of the rows, the contraction taken piece by piece. -/
def drows (a : FVec Ideal S2048x8192 .bf16) (g : FVec Ideal S8x2048x1024 .bf16) : FVec Ideal S2048x2048 .f32 := fun i =>
  ∑ p : Fin 8, ∑ k : Fin 1024, a (ix2 (i 0) ⟨p.val * 1024 + k.val, by omega⟩) * g (ix3 p (i 1) k)

/-- The gradient of the first weight, laid out as its eight column pieces. -/
def gw1 (x : FVec Ideal S2048x2048 .bf16) (a : FVec Ideal S2048x8192 .bf16) : FVec Ideal S8x2048x1024 .bf16 := fun i =>
  ∑ k : Fin 2048, x (ix2 k (i 1)) * a (ix2 k ⟨(i 0).val * 1024 + (i 2).val, by
    have h0 := (i 0).isLt; have h2 := (i 2).isLt; simp [S8x2048x1024] at h0 h2; omega⟩)

theorem idx0 : ∀ t : Fin cfg0.N, win0_0.index t = ![t.val / 8, 0] ∧ win0_1.index t = ![t.val % 8, 0, 0] ∧ win0_2.index t = ![t.val / 8, t.val % 8] ∧ win0_3.index t = ![t.val / 8, t.val % 8] ∧ t.val < 16 :=
  (by decide +kernel : ∀ t : Fin grid0.N, _)

theorem final0_2 (c : Dev nD) : (dat0 V c).arrAt 2 cfg0.N = relu (V c main_arg0) (V c main_v2) := by
  refine (dat0 V c).arrAt_eq_of_covers 2 _ (by decide +kernel) fun t _ y => ?_
  blk_simp
  rw [after0_2]; frame_out
  pointwise [k0_pay1, k0_pay2, pre, relu]
  blk_point [iblk0, idx0 t]

theorem final0_3 (c : Dev nD) : (dat0 V c).arrAt 3 cfg0.N = act (V c main_arg0) (V c main_v2) := by
  refine (dat0 V c).arrAt_eq_of_covers 3 _ (by decide +kernel) fun t _ y => ?_
  blk_simp
  rw [after0_3]; frame_out
  pointwise [k0_pay1, k0_pay3, pre, act]
  blk_point [iblk0, idx0 t]

theorem idx1 : ∀ t : Fin cfg1.N, win1_0.index t = ![t.val / 4, 0] ∧ win1_1.index t = ![0, t.val % 4] ∧ win1_2.index t = ![t.val / 4, t.val % 4] ∧ t.val < 8 :=
  (by decide +kernel : ∀ t : Fin grid1.N, _)

theorem final1 (c : Dev nD) : (dat1 V c).arrAt 2 cfg1.N
    = fun i => if (i 1).val < 1024 then half (V c main_v6_1) (V c main_v4) i else V c main_v7 i := by
  refine (dat1 V c).arrAt_eq_of_coversWhere 2 _ (fun β => β (1 : Fin 2) < 4) (by decide +kernel) (fun t _ y => ?_) (fun j => ?_)
  · blk_simp
    rw [after1_2]; frame_out
    pointwise [k1_pay1, half]
    blk_point [iblk1, idx1 t]
  · blk_simp [Pipeline.Window.cell_apply]; omega

theorem idx2 : ∀ t : Fin cfg2.N, win2_0.index t = ![t.val / 4, 0] ∧ win2_1.index t = ![0, t.val % 4] ∧ win2_2.index t = ![t.val / 4, 4 + t.val % 4] ∧ t.val < 8 :=
  (by decide +kernel : ∀ t : Fin grid2.N, _)

theorem final2 (c : Dev nD) : (dat2 V c).arrAt 2 cfg2.N
    = fun i => if 1024 ≤ (i 1).val then half (V c main_v6_1) (V c main_v5) i else V c main_v8 i := by
  refine (dat2 V c).arrAt_eq_of_coversWhere 2 _ (fun β => 4 ≤ β (1 : Fin 2)) (by decide +kernel) (fun t _ y => ?_) (fun j => ?_)
  · blk_simp
    rw [after2_2, outsAt2]; frame_out
    pointwise [k2_pay1, half]
    blk_point [iblk2, idx2 t]
  · blk_simp [Pipeline.Window.cell_apply]; omega

theorem idx3 : ∀ t : Fin cfg3.N, win3_0.index t = ![t.val / 8, 0] ∧ win3_1.index t = ![t.val % 8, 0] ∧ win3_2.index t = ![t.val / 8, t.val % 8] ∧ win3_3.index t = ![t.val % 8, 0] ∧ win3_4.index t = ![t.val / 8, t.val % 8] ∧ t.val < 16 :=
  (by decide +kernel : ∀ t : Fin grid3.N, _)

theorem final3 (c : Dev nD) : (dat3 V c).arrAt 4 cfg3.N = dpre (V c main_arg3) (V c main_v4) (V c main_v6_0) (V c main_v5) := by
  refine (dat3 V c).arrAt_eq_of_covers 4 _ (by decide +kernel) fun t _ y => ?_
  blk_simp
  rw [after3_4]; frame_out
  pointwise [k3_pay1, dpre]
  blk_point [iblk3, idx3 t]

theorem idx4 : ∀ t : Fin cfg4.N, win4_0.index t = ![0, t.val / 2] ∧ win4_1.index t = ![0, t.val % 2] ∧ win4_2.index t = ![t.val / 2, t.val % 2] ∧ t.val < 16 :=
  (by decide +kernel : ∀ t : Fin grid4.N, _)

theorem final4 (c : Dev nD) : (dat4 V c).arrAt 2 cfg4.N = gw2 (V c main_v6_1) (V c main_arg3) := by
  refine (dat4 V c).arrAt_eq_of_covers 2 _ (by decide +kernel) fun t _ y => ?_
  blk_simp
  rw [after4_2]; frame_out
  pointwise [k4_pay1, gw2]
  blk_point [iblk4, idx4 t]

theorem idx5 : ∀ t : Fin cfg5.N, win5_0.index t = ![t.val / 8, 0] ∧ win5_1.index t = ![0, t.val % 8, 0] ∧ win5_2.index t = ![t.val / 8, t.val % 8] ∧ t.val < 16 :=
  (by decide +kernel : ∀ t : Fin grid5.N, _)

set_option maxHeartbeats 1600000 in
theorem final5 (c : Dev nD) : (dat5 V c).arrAt 2 cfg5.N = drows (V c main_v9) (V c main_v2) := by
  refine (dat5 V c).arrAt_eq_of_covers 2 _ (by decide +kernel) fun t _ y => ?_
  blk_simp
  rw [after5_2, outsAt5]; frame_out
  simp only [drows, Fin.sum_univ_eight]
  pointwise [k5_pay1, k5_pay2, k5_pay3, k5_pay4]
  blk_point [iblk5, idx5 t]

theorem idx6 : ∀ t : Fin cfg6.N, win6_0.index t = ![0, t.val / 8] ∧ win6_1.index t = ![0, t.val % 8] ∧ win6_2.index t = ![t.val % 8, t.val / 8, 0] ∧ t.val < 16 :=
  (by decide +kernel : ∀ t : Fin grid6.N, _)

theorem final6 (c : Dev nD) : (dat6 V c).arrAt 2 cfg6.N = gw1 (V c main_arg0) (V c main_v9) := by
  refine (dat6 V c).arrAt_eq_of_covers 2 _ (by decide +kernel) fun t _ y => ?_
  blk_simp
  rw [after6_2]; frame_out
  pointwise [k6_pay1, gw1]
  blk_point [iblk6, idx6 t]

end Cert.Proof.MlpIdeal
-- ==== Proof.MlpIdeal.Chain.lean ====
module

public import proofs.«01_k».proof.Proof.MlpIdeal.Products
public import Idealize.ShloMosaic.Lib.StableHlo.ReadAt

@[expose] public section

set_option maxRecDepth 16384

noncomputable section

open Idealize.ShloMosaic Idealize.ShloMosaic.TcCoe Idealize.SL.Sem

namespace Cert.Proof.MlpIdeal

open Cert.MlpIdeal Cert.MlpIdeal.Gen

variable (m : (ℓ : Loc nD τ sig) → Buf (Elt Ideal) ℓ) (ρ : Dev nD → PrngReg)

/-- The first weight as its eight column pieces. -/
def pieces (w : FVec Ideal S2048x8192 .f32) : FVec Ideal S8x2048x1024 .bf16 := fun i =>
  w (ix2 (i 1) ⟨(i 0).val * 1024 + (i 2).val, by
    have h0 := (i 0).isLt; have h2 := (i 2).isLt; simp [S8x2048x1024] at h0 h2; omega⟩)

/-- The left half of the second weight's columns. -/
def left (w : FVec Ideal S8192x2048 .f32) : FVec Ideal S8192x1024 .bf16 := fun i =>
  w (ix2 (i 0) ⟨(i 1).val, by have h := (i 1).isLt; simp [S8192x1024] at h; omega⟩)

/-- The right half of the second weight's columns. -/
def right (w : FVec Ideal S8192x2048 .f32) : FVec Ideal S8192x1024 .bf16 := fun i =>
  w (ix2 (i 0) ⟨1024 + (i 1).val, by have h := (i 1).isLt; simp [S8192x1024] at h; omega⟩)

theorem entry_pieces (c : Dev nD) : W1 m ρ c (Proc.devRef .tc main_v2) = pieces (m ((c : Thread nD τ).loc main_arg1)) := by
  funext i
  unfold pieces W1 W0 hostOps0
  after_reads_at

theorem entry_left (c : Dev nD) : W1 m ρ c (Proc.devRef .tc main_v4) = left (m ((c : Thread nD τ).loc main_arg2)) := by
  funext i
  unfold left W1 W0 hostOps0
  after_reads_at

theorem entry_right (c : Dev nD) : W1 m ρ c (Proc.devRef .tc main_v5) = right (m ((c : Thread nD τ).loc main_arg2)) := by
  funext i
  unfold right W1 W0 hostOps0
  after_reads_at

/-- The positive part of the pre-activation over the program's arguments. -/
abbrev reluOf (c : Dev nD) : FVec Ideal S2048x8192 .bf16 :=
  relu (m ((c : Thread nD τ).loc main_arg0)) (pieces (m ((c : Thread nD τ).loc main_arg1)))

/-- The activation over the program's arguments. -/
abbrev actOf (c : Dev nD) : FVec Ideal S2048x8192 .bf16 :=
  act (m ((c : Thread nD τ).loc main_arg0)) (pieces (m ((c : Thread nD τ).loc main_arg1)))

/-- The cotangent of the pre-activation over the program's arguments. -/
abbrev dpreOf (c : Dev nD) : FVec Ideal S2048x8192 .bf16 :=
  dpre (m ((c : Thread nD τ).loc main_arg3)) (left (m ((c : Thread nD τ).loc main_arg2))) (reluOf m c)
    (right (m ((c : Thread nD τ).loc main_arg2)))

theorem w2_relu (c : Dev nD) : W2 m ρ c (Proc.devRef .tc main_v6_0) = reluOf m c :=
  (W2_arr m ρ c 2).trans ((final0_2 (V1 m ρ) c).trans (congrArg₂ relu (W1_args m ρ c main_arg0 (by decide)) (entry_pieces m ρ c)))

theorem w2_act (c : Dev nD) : W2 m ρ c (Proc.devRef .tc main_v6_1) = actOf m c :=
  (W2_arr m ρ c 3).trans ((final0_3 (V1 m ρ) c).trans (congrArg₂ act (W1_args m ρ c main_arg0 (by decide)) (entry_pieces m ρ c)))

theorem w3_act (c : Dev nD) : W3 m ρ c (Proc.devRef .tc main_v6_1) = actOf m c :=
  (W3_of m ρ c main_v6_1 (by decide)).trans (w2_act m ρ c)

theorem w2_left (c : Dev nD) : W2 m ρ c (Proc.devRef .tc main_v4) = left (m ((c : Thread nD τ).loc main_arg2)) :=
  (W2_of m ρ c main_v4 (by decide)).trans (entry_left m ρ c)

theorem w4_act (c : Dev nD) : W4 m ρ c (Proc.devRef .tc main_v6_1) = actOf m c :=
  (W4_of m ρ c main_v6_1 (by decide)).trans (w3_act m ρ c)

theorem w4_right (c : Dev nD) : W4 m ρ c (Proc.devRef .tc main_v5) = right (m ((c : Thread nD τ).loc main_arg2)) :=
  ((W4_of m ρ c main_v5 (by decide)).trans (W3_of m ρ c main_v5 (by decide))).trans ((W2_of m ρ c main_v5 (by decide)).trans (entry_right m ρ c))

theorem w4_copy (c : Dev nD) : W4 m ρ c (Proc.devRef .tc main_v8) = W3 m ρ c (Proc.devRef .tc main_v7) := by
  unfold W4 hostOps2
  after_reads_simp
  rfl

/-- The forward product over the program's arguments: its left half of columns, then its right half. -/
theorem w5_ff (c : Dev nD) : W5 m ρ c (Proc.devRef .tc main_v8)
    = fun i => if 1024 ≤ (i 1).val then half (actOf m c) (right (m ((c : Thread nD τ).loc main_arg2))) i
        else half (actOf m c) (left (m ((c : Thread nD τ).loc main_arg2))) i := by
  refine (W5_arr m ρ c 2).trans ((final2 (V4 m ρ) c).trans ?_)
  funext i
  split
  · exact congrArg₂ (fun a w => half a w i) (w4_act m ρ c) (w4_right m ρ c)
  · rename_i h
    refine (congrFun ((w4_copy m ρ c).trans ((W3_arr m ρ c 2).trans (final1 (V2 m ρ) c))) i).trans ?_
    refine (if_pos (by omega)).trans ?_
    exact congrArg₂ (fun a w => half a w i) (w2_act m ρ c) (w2_left m ρ c)

theorem w9_ff (c : Dev nD) : W9 m ρ c (Proc.devRef .tc main_v8)
    = fun i => if 1024 ≤ (i 1).val then half (actOf m c) (right (m ((c : Thread nD τ).loc main_arg2))) i
        else half (actOf m c) (left (m ((c : Thread nD τ).loc main_arg2))) i :=
  (W9_of m ρ c main_v8 (by decide)).trans ((W8_of m ρ c main_v8 (by decide)).trans ((W7_of m ρ c main_v8 (by decide)).trans
    ((W6_of m ρ c main_v8 (by decide)).trans (w5_ff m ρ c))))

theorem w5_keep (c : Dev nD) (r : Ref sig .tc) (h2 : ∀ w : Fin cfg2.W, Pipeline.arrRef spec2 w = r → (cfg2.win w).isOut = false)
    (hc : r ∉ hostOps2_W) (h1 : ∀ w : Fin cfg1.W, Pipeline.arrRef spec1 w = r → (cfg1.win w).isOut = false) :
    W5 m ρ c (Proc.devRef .tc r) = W2 m ρ c (Proc.devRef .tc r) :=
  (W5_of m ρ c r h2).trans ((W4_of m ρ c r hc).trans (W3_of m ρ c r h1))

theorem dpre_congr {d d' : FVec Ideal S2048x2048 .bf16} {lo lo' hi hi' : FVec Ideal S8192x1024 .bf16} {r r' : FVec Ideal S2048x8192 .bf16}
    (h1 : d = d') (h2 : lo = lo') (h3 : r = r') (h4 : hi = hi') : dpre d lo r hi = dpre d' lo' r' hi' := by
  subst h1 h2 h3 h4; rfl

theorem w6_dpre (c : Dev nD) : W6 m ρ c (Proc.devRef .tc main_v9) = dpreOf m c :=
  (W6_arr m ρ c 4).trans ((final3 (V5 m ρ) c).trans (dpre_congr (W5_args m ρ c main_arg3 (by decide))
    ((w5_keep m ρ c main_v4 (by decide) (by decide) (by decide)).trans (w2_left m ρ c))
    ((w5_keep m ρ c main_v6_0 (by decide) (by decide) (by decide)).trans (w2_relu m ρ c))
    ((W5_of m ρ c main_v5 (by decide)).trans (w4_right m ρ c))))

theorem w6_act (c : Dev nD) : W6 m ρ c (Proc.devRef .tc main_v6_1) = actOf m c :=
  (W6_of m ρ c main_v6_1 (by decide)).trans ((w5_keep m ρ c main_v6_1 (by decide) (by decide) (by decide)).trans (w2_act m ρ c))

theorem w7_gw2 (c : Dev nD) : W7 m ρ c (Proc.devRef .tc main_v10) = gw2 (actOf m c) (m ((c : Thread nD τ).loc main_arg3)) :=
  (W7_arr m ρ c 2).trans ((final4 (V6 m ρ) c).trans (congrArg₂ gw2 (w6_act m ρ c) (W6_args m ρ c main_arg3 (by decide))))

theorem w9_gw2 (c : Dev nD) : W9 m ρ c (Proc.devRef .tc main_v10) = gw2 (actOf m c) (m ((c : Thread nD τ).loc main_arg3)) :=
  (W9_of m ρ c main_v10 (by decide)).trans ((W8_of m ρ c main_v10 (by decide)).trans (w7_gw2 m ρ c))

theorem w7_pieces (c : Dev nD) : W7 m ρ c (Proc.devRef .tc main_v2) = pieces (m ((c : Thread nD τ).loc main_arg1)) :=
  (W7_of m ρ c main_v2 (by decide)).trans ((W6_of m ρ c main_v2 (by decide)).trans
    ((w5_keep m ρ c main_v2 (by decide) (by decide) (by decide)).trans ((W2_of m ρ c main_v2 (by decide)).trans (entry_pieces m ρ c))))

theorem w7_dpre (c : Dev nD) : W7 m ρ c (Proc.devRef .tc main_v9) = dpreOf m c :=
  (W7_of m ρ c main_v9 (by decide)).trans (w6_dpre m ρ c)

theorem w9_drows (c : Dev nD) : W9 m ρ c (Proc.devRef .tc main_v11) = drows (dpreOf m c) (pieces (m ((c : Thread nD τ).loc main_arg1))) :=
  (W9_of m ρ c main_v11 (by decide)).trans ((W8_arr m ρ c 2).trans ((final5 (V7 m ρ) c).trans
    (congrArg₂ drows (w7_dpre m ρ c) (w7_pieces m ρ c))))

theorem w9_gw1 (c : Dev nD) : W9 m ρ c (Proc.devRef .tc main_v12) = gw1 (m ((c : Thread nD τ).loc main_arg0)) (dpreOf m c) :=
  (W9_arr m ρ c 2).trans ((final6 (V8 m ρ) c).trans (congrArg₂ gw1 (W8_args m ρ c main_arg0 (by decide))
    ((W8_of m ρ c main_v9 (by decide)).trans (w7_dpre m ρ c))))

end Cert.Proof.MlpIdeal
-- ==== Proof.MlpIdeal.Run.lean ====
module

public import proofs.«01_k».proof.Proof.Gen.MlpIdeal.Frame

@[expose] public section

noncomputable section

namespace Cert.Proof.MlpIdeal

open Cert.MlpIdeal Cert.MlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

set_option backward.isDefEq.respectTransparency.types false in
/-- Every unscoped array ends at the contents the chain of calls leaves in it. -/
theorem run : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h hz => h)

end Cert.Proof.MlpIdeal
-- ==== Proof.MlpIdeal.Tie.lean ====
module

public import proofs.«01_k».proof.Proof.MlpIdeal.Chain
public import proofs.«01_k».proof.Proof.MlpIdeal.Run
public import proofs.«01_k».proof.Defs
public import proofs.«01_k».proof.Proof.Gen.MlpRefIdeal
public import proofs.«01_k».proof.Proof.Gen.MlpRefIdeal.Read

@[expose] public section

set_option maxRecDepth 16384

noncomputable section

open Idealize.ShloMosaic Idealize.ShloMosaic.TcCoe Idealize.SL.Sem

namespace Cert.Proof.MlpIdeal

open Cert.MlpIdeal Cert.MlpIdeal.Gen Cert.MlpRefIdeal.Read

variable (x : FVec Ideal S2048x2048 .bf16) (w : FVec Ideal S2048x8192 .f32) (u : FVec Ideal S8192x2048 .f32) (d : FVec Ideal S2048x2048 .bf16)

/-- The reference's pre-activation is the kernel's. -/
theorem ref_pre (i : S2048x8192.Idx) : val_main_v1 (F := Ideal) x w i = pre x (pieces w) i := by
  unfold pre pieces
  rw [val_main_v1_apply]
  refine Finset.sum_congr rfl fun k _ => ?_
  rw [val_main_v0_apply]
  pointwise
  blk_point

theorem ref_act (i : S2048x8192.Idx) : val_main_v6 (F := Ideal) x w i = act x (pieces w) i := by
  unfold act
  rw [val_main_v6_apply, val_main_v2_apply, ref_pre]
  pointwise [val_main_call0_v0, val_main_call0_cst]

/-- A sum over 2048 indices in two halves. -/
theorem sum_halves (f : Fin 2048 → EReal) :
    ∑ k, f k = ∑ k : Fin 1024, f ⟨k.val, by omega⟩ + ∑ k : Fin 1024, f ⟨1024 + k.val, by omega⟩ :=
  Fin.sum_univ_two_halves 1024 1024 rfl f

/-- A sum over 8192 indices in eight pieces. -/
theorem sum_pieces (f : Fin 8192 → EReal) :
    ∑ k, f k = ∑ p : Fin 8, ∑ k : Fin 1024, f ⟨p.val * 1024 + k.val, by omega⟩ := by
  rw [← Finset.sum_product' (f := fun (p : Fin 8) (k : Fin 1024) => f ⟨p.val * 1024 + k.val, by omega⟩), Finset.univ_product_univ]
  refine (Fintype.sum_equiv ((finProdFinEquiv (m := 8) (n := 1024)).trans (finCongr rfl)) _ _ fun q => ?_).symm
  exact congrArg f (Fin.ext (by simp [finProdFinEquiv]; ring))

/-- The reference's cotangent of the pre-activation is the kernel's. -/
theorem ref_dpre (i : S2048x8192.Idx) :
    val_main_v16 (F := Ideal) x w u d i = dpre d (left u) (relu x (pieces w)) (right u) i := by
  unfold dpre relu left right val_main_v16
  pointwise [val_main_v15, val_main_cst_2, val_main_v4, val_main_v3, val_main_cst, val_main_v14, val_main_v8, val_main_v7, val_main_cst_1,
    val_main_v13, val_main_v10, val_main_v2, val_main_call0_v0, val_main_call0_cst]
  rw [ref_pre, sum_halves]
  split
  · rfl
  · rename_i h
    rw [max_eq_right (not_lt.mp h), mul_zero, mul_zero]

/-- The reference's forward product is the kernel's. -/
theorem ref_ff : val_main_v9 (F := Ideal) x w u = fun i : S2048x2048.Idx =>
    if 1024 ≤ (i 1).val then half (act x (pieces w)) (right u) i else half (act x (pieces w)) (left u) i := by
  funext i
  rw [val_main_v9_apply]
  split
  · unfold half right
    refine Finset.sum_congr rfl fun k _ => ?_
    rw [ref_act]
    pointwise
    blk_point
  · unfold half left
    refine Finset.sum_congr rfl fun k _ => ?_
    rw [ref_act]
    pointwise
    blk_point

/-- The reference's gradient of the second weight is the kernel's. -/
theorem ref_gw2 : val_main_v23 (F := Ideal) x w d = gw2 (act x (pieces w)) d := by
  funext i
  unfold gw2
  rw [val_main_v23_apply, val_main_v12_apply, val_main_v11_apply]
  pointwise [val_main_v10]
  refine Finset.sum_congr rfl fun k _ => ?_
  rw [ref_act, mul_comm]
  blk_point

/-- The reference's cotangent of the rows is the kernel's. -/
theorem ref_drows : val_main_v19 (F := Ideal) x w u d = drows (dpre d (left u) (relu x (pieces w)) (right u)) (pieces w) := by
  funext i
  rw [val_main_v19_apply, sum_pieces]
  unfold drows
  refine Finset.sum_congr rfl fun p _ => Finset.sum_congr rfl fun k _ => ?_
  rw [ref_dpre]
  pointwise [pieces]
  blk_point

/-- The reference's gradient of the first weight is the kernel's. -/
theorem ref_gw1 : val_main_v22 (F := Ideal) x w u d = gw1 x (dpre d (left u) (relu x (pieces w)) (right u)) := by
  funext i
  unfold gw1
  rw [val_main_v22_apply, val_main_v21_apply, val_main_v20_apply, val_main_v18_apply, val_main_v17_apply]
  pointwise [val_main_v0]
  refine Finset.sum_congr rfl fun k _ => ?_
  rw [ref_dpre, mul_comm]
  blk_point

/-- The reference runs, keeps its arguments and declares no semaphore. -/
theorem frame_ref : Cert.quiescent_MlpRefIdeal := fun m ρ _ =>
  (θ_run Cert.MlpRefIdeal.defs _ _).mono
    (fun r h => ⟨fun c => (h c).2.2.2.2, sem_eq_zero_of_no_sems (by decide) r.2⟩)
    (Cert.MlpRefIdeal.Value.run (F := Ideal) m ρ)

/-- From agreeing arguments the kernel's four results are the reference's. -/
theorem algebraic : Cert.algebraic_MlpIdeal_MlpRefIdeal := by
  intro m g m' g' _ hagree
  refine ⟨_, _, _, _, (θ_run _ _ _).mono (fun r h c =>
      ⟨(h c _ (mem_uc main_v8 (by decide))).trans (w9_ff m g c),
       (h c _ (mem_uc main_v11 (by decide))).trans (w9_drows m g c),
       (h c _ (mem_uc main_v12 (by decide))).trans (w9_gw1 m g c),
       (h c _ (mem_uc main_v10 (by decide))).trans (w9_gw2 m g c),
       (h c _ (mem_uc main_arg0 (by decide))).trans (W9_main_arg0 m g c),
       (h c _ (mem_uc main_arg1 (by decide))).trans (W9_main_arg1 m g c),
       (h c _ (mem_uc main_arg2 (by decide))).trans (W9_main_arg2 m g c),
       (h c _ (mem_uc main_arg3 (by decide))).trans (W9_main_arg3 m g c),
       (h c _ (mem_uc main_arg4 (by decide))).trans (W9_main_arg4 m g c)⟩) (run m g), ?_⟩
  refine (θ_run _ _ _).mono (fun r h c => ?_) (Cert.MlpRefIdeal.Value.run (F := Ideal) m' g')
  obtain ⟨h0, h1, h2, h3, h4⟩ := hagree c
  obtain ⟨r0, r1, r2, r3, ra⟩ := h c
  refine ⟨r0.trans ?_, r1.trans ?_, r2.trans ?_, r3.trans ?_, ra⟩
  · rw [h0, h1, h2]; exact (val_main_v9_eq _ _ _).trans (ref_ff _ _ _)
  · rw [h0, h1, h2, h3]; exact (val_main_v19_eq _ _ _ _).trans (ref_drows _ _ _ _)
  · rw [h0, h1, h2, h3]; exact (val_main_v22_eq _ _ _ _).trans (ref_gw1 _ _ _ _)
  · rw [h0, h1, h3]; exact (val_main_v23_eq _ _ _).trans (ref_gw2 _ _ _)

end Cert.Proof.MlpIdeal
-- ==== Proof.OutIdeal.Products.lean ====
module

public import proofs.«01_k».proof.Proof.Gen.OutIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.OutIdeal

open Cert.OutIdeal Cert.OutIdeal.Gen

variable (V : (c : Dev nD) → (b : Ref sig .tc) → Buf (Elt Ideal) ((c : Thread nD τ).loc b))

/-- The rows times the output weight. -/
def mixOut (a : FVec Ideal S2048x2048 .bf16) (b : FVec Ideal S2048x2048 .bf16) : FVec Ideal S2048x2048 .f32 := fun i =>
  ∑ k : Fin 2048, a (ix2 (i 0) k) * b (ix2 k (i 1))

/-- The cotangent times the transposed weight. -/
def dRows (a : FVec Ideal S2048x2048 .bf16) (b : FVec Ideal S2048x2048 .bf16) : FVec Ideal S2048x2048 .f32 := fun i =>
  ∑ k : Fin 2048, a (ix2 (i 0) k) * b (ix2 (i 1) k)

/-- The transposed rows times the cotangent. -/
def gw (a : FVec Ideal S2048x2048 .bf16) (b : FVec Ideal S2048x2048 .bf16) : FVec Ideal S2048x2048 .bf16 := fun i =>
  ∑ k : Fin 2048, a (ix2 k (i 0)) * b (ix2 k (i 1))

theorem idx0 : ∀ t : Fin cfg0.N, win0_0.index t = ![t.val / 2, 0] ∧ win0_1.index t = ![0, t.val % 2] ∧ win0_2.index t = ![t.val / 2, t.val % 2] ∧ t.val < 4 :=
  (by decide +kernel : ∀ t : Fin grid0.N, _)

theorem final0 (c : Dev nD) : (dat0 V c).arrAt 2 cfg0.N = mixOut (V c main_arg0) (V c main_v0) := by
  refine (dat0 V c).arrAt_eq_of_covers 2 _ (by decide +kernel) fun t _ y => ?_
  blk_simp
  rw [after0_2]; frame_out
  pointwise [k0_pay1, mixOut]
  blk_point [iblk0, idx0 t]

theorem idx1 : ∀ t : Fin cfg1.N, win1_0.index t = ![t.val / 2, 0] ∧ win1_1.index t = ![t.val % 2, 0] ∧ win1_2.index t = ![t.val / 2, t.val % 2] ∧ t.val < 4 :=
  (by decide +kernel : ∀ t : Fin grid1.N, _)

theorem final1 (c : Dev nD) : (dat1 V c).arrAt 2 cfg1.N = dRows (V c main_arg2) (V c main_v0) := by
  refine (dat1 V c).arrAt_eq_of_covers 2 _ (by decide +kernel) fun t _ y => ?_
  blk_simp
  rw [after1_2]; frame_out
  pointwise [k1_pay1, dRows]
  blk_point [iblk1, idx1 t]

theorem idx2 : ∀ t : Fin cfg2.N, win2_0.index t = ![0, t.val / 2] ∧ win2_1.index t = ![0, t.val % 2] ∧ win2_2.index t = ![t.val / 2, t.val % 2] ∧ t.val < 4 :=
  (by decide +kernel : ∀ t : Fin grid2.N, _)

theorem final2 (c : Dev nD) : (dat2 V c).arrAt 2 cfg2.N = gw (V c main_arg0) (V c main_arg2) := by
  refine (dat2 V c).arrAt_eq_of_covers 2 _ (by decide +kernel) fun t _ y => ?_
  blk_simp
  rw [after2_2, outsAt2]; frame_out
  pointwise [k2_pay1, gw]
  blk_point [iblk2, idx2 t]

end Cert.Proof.OutIdeal
-- ==== Proof.OutIdeal.Chain.lean ====
module

public import proofs.«01_k».proof.Proof.OutIdeal.Products
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Proof.OutIdeal

open Cert.OutIdeal Cert.OutIdeal.Gen

variable (m : (ℓ : Loc nD τ sig) → Buf (Elt Ideal) ℓ) (ρ : Dev nD → PrngReg)

theorem entry_weight (c : Dev nD) : W1 m ρ c (Proc.devRef .tc main_v0) = (m ((c : Thread nD τ).loc main_arg1)) := by
  funext i
  unfold  W1 W0 hostOps0
  after_reads_at

theorem out_v1 (c : Dev nD) : W2 m ρ c (Proc.devRef .tc main_v1) = mixOut (m ((c : Thread nD τ).loc main_arg0)) (m ((c : Thread nD τ).loc main_arg1)) :=
  (W2_arr m ρ c 2).trans ((final0 (V1 m ρ) c).trans (congrArg₂ mixOut (W1_args m ρ c main_arg0 (by decide)) (entry_weight m ρ c)))

theorem last_v1 (c : Dev nD) : W4 m ρ c (Proc.devRef .tc main_v1) = mixOut (m ((c : Thread nD τ).loc main_arg0)) (m ((c : Thread nD τ).loc main_arg1)) :=
  (W4_of m ρ c main_v1 (by decide)).trans ((W3_of m ρ c main_v1 (by decide)).trans (out_v1 m ρ c))

theorem out_v2 (c : Dev nD) : W3 m ρ c (Proc.devRef .tc main_v2) = dRows (m ((c : Thread nD τ).loc main_arg2)) (m ((c : Thread nD τ).loc main_arg1)) :=
  (W3_arr m ρ c 2).trans ((final1 (V2 m ρ) c).trans (congrArg₂ dRows (W2_args m ρ c main_arg2 (by decide)) ((W2_of m ρ c main_v0 (by decide)).trans (entry_weight m ρ c))))

theorem last_v2 (c : Dev nD) : W4 m ρ c (Proc.devRef .tc main_v2) = dRows (m ((c : Thread nD τ).loc main_arg2)) (m ((c : Thread nD τ).loc main_arg1)) :=
  (W4_of m ρ c main_v2 (by decide)).trans (out_v2 m ρ c)

theorem last_v3 (c : Dev nD) : W4 m ρ c (Proc.devRef .tc main_v3) = gw (m ((c : Thread nD τ).loc main_arg0)) (m ((c : Thread nD τ).loc main_arg2)) :=
  (W4_arr m ρ c 2).trans ((final2 (V3 m ρ) c).trans (congrArg₂ gw (W3_args m ρ c main_arg0 (by decide)) (W3_args m ρ c main_arg2 (by decide))))

end Cert.Proof.OutIdeal
-- ==== Proof.OutIdeal.Run.lean ====
module

public import proofs.«01_k».proof.Proof.Gen.OutIdeal.Frame

@[expose] public section

noncomputable section

namespace Cert.Proof.OutIdeal

open Cert.OutIdeal Cert.OutIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

set_option backward.isDefEq.respectTransparency.types false in
/-- Every unscoped array ends at the contents the chain of calls leaves in it. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => h)

end Cert.Proof.OutIdeal
-- ==== Proof.OutIdeal.Tie.lean ====
module

public import proofs.«01_k».proof.Proof.OutIdeal.Chain
public import proofs.«01_k».proof.Proof.OutIdeal.Run
public import proofs.«01_k».proof.Defs
public import proofs.«01_k».proof.Proof.Gen.OutRefIdeal
public import proofs.«01_k».proof.Proof.Gen.OutRefIdeal.Read

@[expose] public section

set_option maxRecDepth 16384

noncomputable section

open Idealize.ShloMosaic Idealize.ShloMosaic.TcCoe Idealize.SL.Sem
open Idealize.ShloMosaic.Pipeline (Dat)

namespace Cert.Proof.OutIdeal

open Cert.OutIdeal Cert.OutIdeal.Gen Cert.OutRefIdeal.Read

variable (x : FVec Ideal S2048x2048 .bf16) (w : FVec Ideal S2048x2048 .f32) (d : FVec Ideal S2048x2048 .bf16)

/-- The reference's forward product is the kernel's. -/
theorem ref_mix : val_main_v1 (F := Ideal) x w = mixOut x w := by
  funext i
  unfold mixOut
  rw [val_main_v1_apply]
  refine Finset.sum_congr rfl fun k _ => ?_
  rw [val_main_v0_apply]
  pointwise
  blk_point

/-- The reference's cotangent of the rows is the kernel's. -/
theorem ref_rows : val_main_v5 (F := Ideal) w d = dRows d w := by
  funext i
  unfold dRows
  rw [val_main_v5_apply]
  refine Finset.sum_congr rfl fun k _ => ?_
  rw [val_main_v2_apply]
  pointwise
  blk_point

/-- The reference's gradient of the weight is the kernel's. -/
theorem ref_gw : val_main_v6 (F := Ideal) x d = gw x d := by
  funext i
  unfold gw
  rw [val_main_v6_apply, val_main_v4_apply, val_main_v3_apply]
  pointwise [val_main_v0, val_main_v2]
  refine Finset.sum_congr rfl fun k _ => ?_
  rw [mul_comm]
  pointwise
  blk_point

/-- The reference runs, keeps its arguments and declares no semaphore. -/
theorem frame_ref : Cert.quiescent_OutRefIdeal := fun m ρ _ =>
  (θ_run Cert.OutRefIdeal.defs _ _).mono
    (fun r h => ⟨fun c => (h c).2.2.2, sem_eq_zero_of_no_sems (by decide) r.2⟩)
    (Cert.OutRefIdeal.Value.run (F := Ideal) m ρ)

/-- From agreeing arguments the kernel's results are the reference's. -/
theorem algebraic : Cert.algebraic_OutIdeal_OutRefIdeal := by
  intro m g m' g' _ hagree
  refine ⟨_, _, _, (θ_run _ _ _).mono (fun r h c =>
      ⟨(h c _ (mem_uc main_v1 (by decide))).trans (last_v1 m g c),
       (h c _ (mem_uc main_v2 (by decide))).trans (last_v2 m g c),
       (h c _ (mem_uc main_v3 (by decide))).trans (last_v3 m g c),
       (h c _ (mem_uc main_arg0 (by decide))).trans (W4_main_arg0 m g c),
       (h c _ (mem_uc main_arg1 (by decide))).trans (W4_main_arg1 m g c),
       (h c _ (mem_uc main_arg2 (by decide))).trans (W4_main_arg2 m g c),
       (h c _ (mem_uc main_arg3 (by decide))).trans (W4_main_arg3 m g c)⟩) (run m g), ?_⟩
  refine (θ_run _ _ _).mono (fun r h c => ?_) (Cert.OutRefIdeal.Value.run (F := Ideal) m' g')
  obtain ⟨h0, h1, h2, h3⟩ := hagree c
  obtain ⟨r0, r1, r2, ra⟩ := h c
  refine ⟨r0.trans ?_, r1.trans ?_, r2.trans ?_, ra⟩
  · rw [h0, h1]; exact (val_main_v1_eq _ _).trans (ref_mix _ _)
  · rw [h1, h2]; exact (val_main_v5_eq _ _).trans (ref_rows _ _)
  · rw [h0, h2]; exact (val_main_v6_eq _ _).trans (ref_gw _ _)

end Cert.Proof.OutIdeal
-- ==== Proof.PleIdeal.Products.lean ====
module

public import proofs.«01_k».proof.Proof.Gen.PleIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.PleIdeal

open Cert.PleIdeal Cert.PleIdeal.Gen

variable (V : (c : Dev nD) → (b : Ref sig .tc) → Buf (Elt Ideal) ((c : Thread nD τ).loc b))

/-- The embeddings times the projection held as eight column pieces. -/
def embed (a : FVec Ideal S2048x256 .f32) (g : FVec Ideal S8x256x256 .bf16) : FVec Ideal S2048x2048 .f32 := fun i =>
  ∑ k : Fin 256, a (ix2 (i 0) k) * g (ix3 ⟨(i 1).val / 256, by have := (i 1).isLt; simp [S2048x2048] at this; omega⟩ k ⟨(i 1).val % 256, Nat.mod_lt _ (by norm_num)⟩)

/-- The gradient of the projection, laid out as its eight column pieces. -/
def gwProj (a : FVec Ideal S2048x256 .f32) (d : FVec Ideal S2048x2048 .bf16) : FVec Ideal S8x256x256 .bf16 := fun i =>
  ∑ k : Fin 2048, a (ix2 k (i 1)) * d (ix2 k ⟨(i 0).val * 256 + (i 2).val, by
    have h0 := (i 0).isLt; have h2 := (i 2).isLt; simp [S8x256x256] at h0 h2; omega⟩)

/-- The rows times the gate's weight. -/
def gate (a : FVec Ideal S2048x2048 .bf16) (b : FVec Ideal S2048x2048 .bf16) : FVec Ideal S2048x2048 .f32 := fun i =>
  ∑ k : Fin 2048, a (ix2 (i 0) k) * b (ix2 k (i 1))

/-- The cotangent times the transposed weight. -/
def dRows (a : FVec Ideal S2048x2048 .bf16) (b : FVec Ideal S2048x2048 .bf16) : FVec Ideal S2048x2048 .f32 := fun i =>
  ∑ k : Fin 2048, a (ix2 (i 0) k) * b (ix2 (i 1) k)

/-- The transposed rows times the cotangent. -/
def gwGate (a : FVec Ideal S2048x2048 .bf16) (b : FVec Ideal S2048x2048 .bf16) : FVec Ideal S2048x2048 .bf16 := fun i =>
  ∑ k : Fin 2048, a (ix2 k (i 0)) * b (ix2 k (i 1))

theorem idx0 : ∀ t : Fin cfg0.N, win0_0.index t = ![t.val / 8, 0] ∧ win0_1.index t = ![t.val % 8, 0, 0] ∧ win0_2.index t = ![t.val / 8, t.val % 8] ∧ t.val < 16 :=
  (by decide +kernel : ∀ t : Fin grid0.N, _)

theorem final0 (c : Dev nD) : (dat0 V c).arrAt 2 cfg0.N = embed (V c main_arg0) (V c main_v2) := by
  refine (dat0 V c).arrAt_eq_of_covers 2 _ (by decide +kernel) fun t _ y => ?_
  blk_simp
  rw [after0_2]; frame_out
  pointwise [k0_pay1, embed]
  blk_point [iblk0, idx0 t]

theorem idx1 : ∀ t : Fin cfg1.N, win1_0.index t = ![t.val / 2, 0] ∧ win1_1.index t = ![0, t.val % 2] ∧ win1_2.index t = ![t.val / 2, t.val % 2] ∧ t.val < 4 :=
  (by decide +kernel : ∀ t : Fin grid1.N, _)

theorem final1 (c : Dev nD) : (dat1 V c).arrAt 2 cfg1.N = gate (V c main_arg2) (V c main_v3) := by
  refine (dat1 V c).arrAt_eq_of_covers 2 _ (by decide +kernel) fun t _ y => ?_
  blk_simp
  rw [after1_2]; frame_out
  pointwise [k1_pay1, gate]
  blk_point [iblk1, idx1 t]

theorem idx2 : ∀ t : Fin cfg2.N, win2_0.index t = ![t.val / 2, 0] ∧ win2_1.index t = ![t.val % 2, 0] ∧ win2_2.index t = ![t.val / 2, t.val % 2] ∧ t.val < 4 :=
  (by decide +kernel : ∀ t : Fin grid2.N, _)

theorem final2 (c : Dev nD) : (dat2 V c).arrAt 2 cfg2.N = dRows (V c main_arg4) (V c main_v3) := by
  refine (dat2 V c).arrAt_eq_of_covers 2 _ (by decide +kernel) fun t _ y => ?_
  blk_simp
  rw [after2_2]; frame_out
  pointwise [k2_pay1, dRows]
  blk_point [iblk2, idx2 t]

theorem idx3 : ∀ t : Fin cfg3.N, win3_0.index t = ![0, t.val / 2] ∧ win3_1.index t = ![0, t.val % 2] ∧ win3_2.index t = ![t.val / 2, t.val % 2] ∧ t.val < 4 :=
  (by decide +kernel : ∀ t : Fin grid3.N, _)

theorem final3 (c : Dev nD) : (dat3 V c).arrAt 2 cfg3.N = gwGate (V c main_arg2) (V c main_arg4) := by
  refine (dat3 V c).arrAt_eq_of_covers 2 _ (by decide +kernel) fun t _ y => ?_
  blk_simp
  rw [after3_2]; frame_out
  pointwise [k3_pay1, gwGate]
  blk_point [iblk3, idx3 t]

theorem idx4 : ∀ t : Fin cfg4.N, win4_0.index t = ![0, 0] ∧ win4_1.index t = ![0, t.val] ∧ win4_2.index t = ![t.val, 0, 0] ∧ t.val < 8 :=
  (by decide +kernel : ∀ t : Fin grid4.N, _)

theorem final4 (c : Dev nD) : (dat4 V c).arrAt 2 cfg4.N = gwProj (V c main_arg0) (V c main_arg5) := by
  refine (dat4 V c).arrAt_eq_of_covers 2 _ (by decide +kernel) fun t _ y => ?_
  blk_simp
  rw [after4_2]; frame_out
  pointwise [k4_pay1, gwProj]
  blk_point [iblk4, idx4 t]

end Cert.Proof.PleIdeal
-- ==== Proof.PleIdeal.Chain.lean ====
module

public import proofs.«01_k».proof.Proof.PleIdeal.Products
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Proof.PleIdeal

open Cert.PleIdeal Cert.PleIdeal.Gen

variable (m : (ℓ : Loc nD τ sig) → Buf (Elt Ideal) ℓ) (ρ : Dev nD → PrngReg)

/-- The projection as its eight column pieces. -/
def pieces (w : FVec Ideal S256x2048 .f32) : FVec Ideal S8x256x256 .bf16 := fun i =>
  w (ix2 (i 1) ⟨(i 0).val * 256 + (i 2).val, by
    have h0 := (i 0).isLt; have h2 := (i 2).isLt; simp [S8x256x256] at h0 h2; omega⟩)

theorem entry_pieces (c : Dev nD) : W1 m ρ c (Proc.devRef .tc main_v2) = pieces (m ((c : Thread nD τ).loc main_arg1)) := by
  funext i
  unfold pieces W1 W0 hostOps0
  after_reads_at

theorem entry_gate (c : Dev nD) : W1 m ρ c (Proc.devRef .tc main_v3) = (m ((c : Thread nD τ).loc main_arg3)) := by
  funext i
  unfold  W1 W0 hostOps0
  after_reads_at

theorem out_v4 (c : Dev nD) : W2 m ρ c (Proc.devRef .tc main_v4) = embed (m ((c : Thread nD τ).loc main_arg0)) (pieces (m ((c : Thread nD τ).loc main_arg1))) :=
  (W2_arr m ρ c 2).trans ((final0 (V1 m ρ) c).trans (congrArg₂ embed (W1_args m ρ c main_arg0 (by decide)) (entry_pieces m ρ c)))

theorem last_v4 (c : Dev nD) : W6 m ρ c (Proc.devRef .tc main_v4) = embed (m ((c : Thread nD τ).loc main_arg0)) (pieces (m ((c : Thread nD τ).loc main_arg1))) :=
  (W6_of m ρ c main_v4 (by decide)).trans ((W5_of m ρ c main_v4 (by decide)).trans ((W4_of m ρ c main_v4 (by decide)).trans ((W3_of m ρ c main_v4 (by decide)).trans (out_v4 m ρ c))))

theorem out_v5 (c : Dev nD) : W3 m ρ c (Proc.devRef .tc main_v5) = gate (m ((c : Thread nD τ).loc main_arg2)) (m ((c : Thread nD τ).loc main_arg3)) :=
  (W3_arr m ρ c 2).trans ((final1 (V2 m ρ) c).trans (congrArg₂ gate (W2_args m ρ c main_arg2 (by decide)) ((W2_of m ρ c main_v3 (by decide)).trans (entry_gate m ρ c))))

theorem last_v5 (c : Dev nD) : W6 m ρ c (Proc.devRef .tc main_v5) = gate (m ((c : Thread nD τ).loc main_arg2)) (m ((c : Thread nD τ).loc main_arg3)) :=
  (W6_of m ρ c main_v5 (by decide)).trans ((W5_of m ρ c main_v5 (by decide)).trans ((W4_of m ρ c main_v5 (by decide)).trans (out_v5 m ρ c)))

theorem out_v6 (c : Dev nD) : W4 m ρ c (Proc.devRef .tc main_v6) = dRows (m ((c : Thread nD τ).loc main_arg4)) (m ((c : Thread nD τ).loc main_arg3)) :=
  (W4_arr m ρ c 2).trans ((final2 (V3 m ρ) c).trans (congrArg₂ dRows (W3_args m ρ c main_arg4 (by decide)) ((W3_of m ρ c main_v3 (by decide)).trans ((W2_of m ρ c main_v3 (by decide)).trans (entry_gate m ρ c)))))

theorem last_v6 (c : Dev nD) : W6 m ρ c (Proc.devRef .tc main_v6) = dRows (m ((c : Thread nD τ).loc main_arg4)) (m ((c : Thread nD τ).loc main_arg3)) :=
  (W6_of m ρ c main_v6 (by decide)).trans ((W5_of m ρ c main_v6 (by decide)).trans (out_v6 m ρ c))

theorem out_v7 (c : Dev nD) : W5 m ρ c (Proc.devRef .tc main_v7) = gwGate (m ((c : Thread nD τ).loc main_arg2)) (m ((c : Thread nD τ).loc main_arg4)) :=
  (W5_arr m ρ c 2).trans ((final3 (V4 m ρ) c).trans (congrArg₂ gwGate (W4_args m ρ c main_arg2 (by decide)) (W4_args m ρ c main_arg4 (by decide))))

theorem last_v7 (c : Dev nD) : W6 m ρ c (Proc.devRef .tc main_v7) = gwGate (m ((c : Thread nD τ).loc main_arg2)) (m ((c : Thread nD τ).loc main_arg4)) :=
  (W6_of m ρ c main_v7 (by decide)).trans (out_v7 m ρ c)

theorem last_v8 (c : Dev nD) : W6 m ρ c (Proc.devRef .tc main_v8) = gwProj (m ((c : Thread nD τ).loc main_arg0)) (m ((c : Thread nD τ).loc main_arg5)) :=
  (W6_arr m ρ c 2).trans ((final4 (V5 m ρ) c).trans (congrArg₂ gwProj (W5_args m ρ c main_arg0 (by decide)) (W5_args m ρ c main_arg5 (by decide))))

end Cert.Proof.PleIdeal
-- ==== Proof.PleIdeal.Run.lean ====
module

public import proofs.«01_k».proof.Proof.Gen.PleIdeal.Frame

@[expose] public section

noncomputable section

namespace Cert.Proof.PleIdeal

open Cert.PleIdeal Cert.PleIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

set_option backward.isDefEq.respectTransparency.types false in
/-- Every unscoped array ends at the contents the chain of calls leaves in it. -/
theorem run : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => h)

end Cert.Proof.PleIdeal
-- ==== Proof.PleIdeal.Tie.lean ====
module

public import proofs.«01_k».proof.Proof.PleIdeal.Chain
public import proofs.«01_k».proof.Proof.PleIdeal.Run
public import proofs.«01_k».proof.Defs
public import proofs.«01_k».proof.Proof.Gen.PleRefIdeal
public import proofs.«01_k».proof.Proof.Gen.PleRefIdeal.Read

@[expose] public section

set_option maxRecDepth 16384

noncomputable section

open Idealize.ShloMosaic Idealize.ShloMosaic.TcCoe Idealize.SL.Sem
open Idealize.ShloMosaic.Pipeline (Dat)

namespace Cert.Proof.PleIdeal

open Cert.PleIdeal Cert.PleIdeal.Gen Cert.PleRefIdeal.Read

variable (p : FVec Ideal S2048x256 .f32) (w : FVec Ideal S256x2048 .f32) (x : FVec Ideal S2048x2048 .bf16) (u : FVec Ideal S2048x2048 .f32)
  (d : FVec Ideal S2048x2048 .bf16) (e : FVec Ideal S2048x2048 .bf16)

/-- The reference's projected embeddings are the kernel's. -/
theorem ref_embed : val_main_v0 (F := Ideal) p w = embed p (pieces w) := by
  funext i
  unfold embed pieces
  rw [val_main_v0_apply]
  refine Finset.sum_congr rfl fun k _ => ?_
  pointwise
  blk_point

/-- The reference's gate product is the kernel's. -/
theorem ref_gate : val_main_v2 (F := Ideal) x u = gate x u := by
  funext i
  unfold gate
  rw [val_main_v2_apply]
  refine Finset.sum_congr rfl fun k _ => ?_
  rw [val_main_v1_apply]
  pointwise
  blk_point

/-- The reference's cotangent of the rows is the kernel's. -/
theorem ref_rows : val_main_v6 (F := Ideal) u d = dRows d u := by
  funext i
  unfold dRows
  rw [val_main_v6_apply]
  refine Finset.sum_congr rfl fun k _ => ?_
  rw [val_main_v3_apply]
  pointwise
  blk_point

/-- The reference's gradient of the gate's weight is the kernel's. -/
theorem ref_gwGate : val_main_v10 (F := Ideal) x d = gwGate x d := by
  funext i
  unfold gwGate
  rw [val_main_v10_apply, val_main_v5_apply, val_main_v4_apply]
  pointwise [val_main_v1, val_main_v3]
  refine Finset.sum_congr rfl fun k _ => ?_
  rw [mul_comm]
  pointwise
  blk_point

/-- The reference's gradient of the projection is the kernel's. -/
theorem ref_gwProj : val_main_v13 (F := Ideal) p e = gwProj p e := by
  funext i
  unfold gwProj
  rw [val_main_v13_apply, val_main_v12_apply, val_main_v11_apply, val_main_v9_apply, val_main_v8_apply]
  pointwise [val_main_v7]
  refine Finset.sum_congr rfl fun k _ => ?_
  rw [mul_comm]
  pointwise
  blk_point

/-- The reference runs, keeps its arguments and declares no semaphore. -/
theorem frame_ref : Cert.quiescent_PleRefIdeal := fun m ρ _ =>
  (θ_run Cert.PleRefIdeal.defs _ _).mono
    (fun r h => ⟨fun c => (h c).2.2.2.2.2, sem_eq_zero_of_no_sems (by decide) r.2⟩)
    (Cert.PleRefIdeal.Value.run (F := Ideal) m ρ)

/-- From agreeing arguments the kernel's results are the reference's. -/
theorem algebraic : Cert.algebraic_PleIdeal_PleRefIdeal := by
  intro m g m' g' _ hagree
  refine ⟨_, _, _, _, _, (θ_run _ _ _).mono (fun r h c =>
      ⟨(h c _ (mem_uc main_v4 (by decide))).trans (last_v4 m g c),
       (h c _ (mem_uc main_v5 (by decide))).trans (last_v5 m g c),
       (h c _ (mem_uc main_v6 (by decide))).trans (last_v6 m g c),
       (h c _ (mem_uc main_v7 (by decide))).trans (last_v7 m g c),
       (h c _ (mem_uc main_v8 (by decide))).trans (last_v8 m g c),
       (h c _ (mem_uc main_arg0 (by decide))).trans (W6_main_arg0 m g c),
       (h c _ (mem_uc main_arg1 (by decide))).trans (W6_main_arg1 m g c),
       (h c _ (mem_uc main_arg2 (by decide))).trans (W6_main_arg2 m g c),
       (h c _ (mem_uc main_arg3 (by decide))).trans (W6_main_arg3 m g c),
       (h c _ (mem_uc main_arg4 (by decide))).trans (W6_main_arg4 m g c),
       (h c _ (mem_uc main_arg5 (by decide))).trans (W6_main_arg5 m g c)⟩) (run m g), ?_⟩
  refine (θ_run _ _ _).mono (fun r h c => ?_) (Cert.PleRefIdeal.Value.run (F := Ideal) m' g')
  obtain ⟨h0, h1, h2, h3, h4, h5⟩ := hagree c
  obtain ⟨r0, r1, r2, r3, r4, ra⟩ := h c
  refine ⟨r0.trans ?_, r1.trans ?_, r2.trans ?_, r3.trans ?_, r4.trans ?_, ra⟩
  · rw [h0, h1]; exact (val_main_v0_eq _ _).trans (ref_embed _ _)
  · rw [h2, h3]; exact (val_main_v2_eq _ _).trans (ref_gate _ _)
  · rw [h3, h4]; exact (val_main_v6_eq _ _).trans (ref_rows _ _)
  · rw [h2, h4]; exact (val_main_v10_eq _ _).trans (ref_gwGate _ _)
  · rw [h0, h5]; exact (val_main_v13_eq _ _).trans (ref_gwProj _ _)

end Cert.Proof.PleIdeal
-- ==== Proof.InIdeal.Products.lean ====
module

public import proofs.«01_k».proof.Proof.Gen.InIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.InIdeal

open Cert.InIdeal Cert.InIdeal.Gen

variable (V : (c : Dev nD) → (b : Ref sig .tc) → Buf (Elt Ideal) ((c : Thread nD τ).loc b))

/-- The rows times the transposed main rows of the weight. -/
def projA (a : FVec Ideal S2048x2048 .bf16) (b : FVec Ideal S4096x2048 .bf16) : FVec Ideal S2048x4096 .f32 := fun i =>
  ∑ k : Fin 2048, a (ix2 (i 0) k) * b (ix2 (i 1) k)

/-- The rows times the transposed further rows of the weight. -/
def projB (a : FVec Ideal S2048x2048 .bf16) (b : FVec Ideal S1152x2048 .bf16) : FVec Ideal S2048x1152 .f32 := fun i =>
  ∑ k : Fin 2048, a (ix2 (i 0) k) * b (ix2 (i 1) k)

/-- The gradient of the main rows of the weight. -/
def gwA (a : FVec Ideal S2048x4096 .bf16) (b : FVec Ideal S2048x2048 .bf16) : FVec Ideal S4096x2048 .bf16 := fun i =>
  ∑ k : Fin 2048, a (ix2 k (i 0)) * b (ix2 k (i 1))

/-- The gradient of the further rows of the weight. -/
def gwB (a : FVec Ideal S2048x1152 .bf16) (b : FVec Ideal S2048x2048 .bf16) : FVec Ideal S1152x2048 .bf16 := fun i =>
  ∑ k : Fin 2048, a (ix2 k (i 0)) * b (ix2 k (i 1))

/-- The further columns' part of the cotangent of the rows. -/
def dB (a : FVec Ideal S2048x1152 .bf16) (b : FVec Ideal S1152x2048 .bf16) : FVec Ideal S2048x2048 .f32 := fun i =>
  ∑ k : Fin 1152, a (ix2 (i 0) k) * b (ix2 k (i 1))

/-- The cotangent of the rows: the main columns' part added to the further ones'. -/
def dRows (a : FVec Ideal S2048x4096 .bf16) (b : FVec Ideal S4096x2048 .bf16) (p : FVec Ideal S2048x2048 .f32) : FVec Ideal S2048x2048 .f32 := fun i =>
  ∑ k : Fin 4096, a (ix2 (i 0) k) * b (ix2 k (i 1)) + p i

theorem idx0 : ∀ t : Fin cfg0.N, win0_0.index t = ![t.val / 4, 0] ∧ win0_1.index t = ![t.val % 4, 0] ∧ win0_2.index t = ![t.val / 4, t.val % 4] ∧ t.val < 8 :=
  (by decide +kernel : ∀ t : Fin grid0.N, _)

theorem final0 (c : Dev nD) : (dat0 V c).arrAt 2 cfg0.N = projA (V c main_arg0) (V c main_v2) := by
  refine (dat0 V c).arrAt_eq_of_covers 2 _ (by decide +kernel) fun t _ y => ?_
  blk_simp
  rw [after0_2]; frame_out
  pointwise [k0_pay1, projA]
  blk_point [iblk0, idx0 t]

theorem idx1 : ∀ t : Fin cfg1.N, win1_0.index t = ![t.val / 3, 0] ∧ win1_1.index t = ![t.val % 3, 0] ∧ win1_2.index t = ![t.val / 3, t.val % 3] ∧ t.val < 6 :=
  (by decide +kernel : ∀ t : Fin grid1.N, _)

theorem final1 (c : Dev nD) : (dat1 V c).arrAt 2 cfg1.N = projB (V c main_arg0) (V c main_v6) := by
  refine (dat1 V c).arrAt_eq_of_covers 2 _ (by decide +kernel) fun t _ y => ?_
  blk_simp
  rw [after1_2]; frame_out
  pointwise [k1_pay1, projB]
  blk_point [iblk1, idx1 t]

theorem idx2 : ∀ t : Fin cfg2.N, win2_0.index t = ![0, t.val / 2] ∧ win2_1.index t = ![0, t.val % 2] ∧ win2_2.index t = ![t.val / 2, t.val % 2] ∧ t.val < 8 :=
  (by decide +kernel : ∀ t : Fin grid2.N, _)

theorem final2 (c : Dev nD) : (dat2 V c).arrAt 2 cfg2.N = gwA (V c main_arg2) (V c main_arg0) := by
  refine (dat2 V c).arrAt_eq_of_covers 2 _ (by decide +kernel) fun t _ y => ?_
  blk_simp
  rw [after2_2]; frame_out
  pointwise [k2_pay1, gwA]
  blk_point [iblk2, idx2 t]

theorem idx3 : ∀ t : Fin cfg3.N, win3_0.index t = ![0, t.val / 2] ∧ win3_1.index t = ![0, t.val % 2] ∧ win3_2.index t = ![t.val / 2, t.val % 2] ∧ t.val < 6 :=
  (by decide +kernel : ∀ t : Fin grid3.N, _)

theorem final3 (c : Dev nD) : (dat3 V c).arrAt 2 cfg3.N = gwB (V c main_v8) (V c main_arg0) := by
  refine (dat3 V c).arrAt_eq_of_covers 2 _ (by decide +kernel) fun t _ y => ?_
  blk_simp
  rw [after3_2]; frame_out
  pointwise [k3_pay1, gwB]
  blk_point [iblk3, idx3 t]

theorem idx4 : ∀ t : Fin cfg4.N, win4_0.index t = ![t.val / 2, 0] ∧ win4_1.index t = ![0, t.val % 2] ∧ win4_2.index t = ![t.val / 2, t.val % 2] ∧ t.val < 4 :=
  (by decide +kernel : ∀ t : Fin grid4.N, _)

theorem final4 (c : Dev nD) : (dat4 V c).arrAt 2 cfg4.N = dB (V c main_v8) (V c main_v6) := by
  refine (dat4 V c).arrAt_eq_of_covers 2 _ (by decide +kernel) fun t _ y => ?_
  blk_simp
  rw [after4_2, outsAt4]; frame_out
  pointwise [k4_pay1, dB]
  blk_point [iblk4, idx4 t]

theorem idx5 : ∀ t : Fin cfg5.N, win5_0.index t = ![t.val / 4, 0] ∧ win5_1.index t = ![0, t.val % 4] ∧ win5_2.index t = ![t.val / 4, t.val % 4] ∧ win5_3.index t = ![t.val / 4, t.val % 4] ∧ t.val < 8 :=
  (by decide +kernel : ∀ t : Fin grid5.N, _)

theorem final5 (c : Dev nD) : (dat5 V c).arrAt 3 cfg5.N = dRows (V c main_arg2) (V c main_v2) (V c main_v13) := by
  refine (dat5 V c).arrAt_eq_of_covers 3 _ (by decide +kernel) fun t _ y => ?_
  blk_simp
  rw [after5_3, outsAt5]; frame_out
  pointwise [k5_pay1, dRows]
  blk_point [iblk5, idx5 t]

end Cert.Proof.InIdeal
-- ==== Proof.InIdeal.Chain.lean ====
module

public import proofs.«01_k».proof.Proof.InIdeal.Products
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Proof.InIdeal

open Cert.InIdeal Cert.InIdeal.Gen

variable (m : (ℓ : Loc nD τ sig) → Buf (Elt Ideal) ℓ) (ρ : Dev nD → PrngReg)

/-- The weight's main columns, as rows. -/
def mainRows (w : FVec Ideal S2048x5136 .f32) : FVec Ideal S4096x2048 .bf16 := fun i =>
  w (ix2 (i 1) ⟨(i 0).val, by have h := (i 0).isLt; simp [S4096x2048] at h; omega⟩)

/-- The weight's further columns, as rows: the pooled columns, then the gates, then zeros. -/
def moreRows (w : FVec Ideal S2048x5136 .f32) : FVec Ideal S1152x2048 .bf16 := fun i =>
  if h : (i 0).val < 1024 then w (ix2 (i 1) ⟨4112 + (i 0).val, by omega⟩)
  else if h' : (i 0).val - 1024 < 16 then w (ix2 (i 1) ⟨4096 + ((i 0).val - 1024), by omega⟩)
  else (0 : EReal)

/-- The cotangent's further columns: the pooled columns, then the gates, then zeros. -/
def moreCols (g : FVec Ideal S2048x16 .bf16) (u : FVec Ideal S2048x1024 .bf16) : FVec Ideal S2048x1152 .bf16 := fun i =>
  if h : (i 1).val < 1024 then u (ix2 (i 0) ⟨(i 1).val, h⟩)
  else if h' : (i 1).val - 1024 < 16 then g (ix2 (i 0) ⟨(i 1).val - 1024, by omega⟩)
  else (0 : EReal)

theorem entry_main (c : Dev nD) : W1 m ρ c (Proc.devRef .tc main_v2) = mainRows (m ((c : Thread nD τ).loc main_arg1)) := by
  funext i
  unfold mainRows W1 W0 hostOps0
  after_reads_at

theorem entry_rows (c : Dev nD) : W1 m ρ c (Proc.devRef .tc main_v6) = moreRows (m ((c : Thread nD τ).loc main_arg1)) := by
  funext i
  unfold moreRows W1 W0 hostOps0
  after_reads_at
  after_reads_at

theorem entry_cols (c : Dev nD) : W1 m ρ c (Proc.devRef .tc main_v8) = moreCols (m ((c : Thread nD τ).loc main_arg3)) (m ((c : Thread nD τ).loc main_arg4)) := by
  funext i
  unfold moreCols W1 W0 hostOps0
  after_reads_at
  after_reads_at

theorem dRows_congr {a a' : FVec Ideal S2048x4096 .bf16} {b b' : FVec Ideal S4096x2048 .bf16} {p p' : FVec Ideal S2048x2048 .f32}
    (h1 : a = a') (h2 : b = b') (h3 : p = p') : dRows a b p = dRows a' b' p' := by
  subst h1 h2 h3; rfl

theorem out_v9 (c : Dev nD) : W2 m ρ c (Proc.devRef .tc main_v9) = projA (m ((c : Thread nD τ).loc main_arg0)) (mainRows (m ((c : Thread nD τ).loc main_arg1))) :=
  (W2_arr m ρ c 2).trans ((final0 (V1 m ρ) c).trans (congrArg₂ projA (W1_args m ρ c main_arg0 (by decide)) (entry_main m ρ c)))

theorem last_v9 (c : Dev nD) : W8 m ρ c (Proc.devRef .tc main_v9) = projA (m ((c : Thread nD τ).loc main_arg0)) (mainRows (m ((c : Thread nD τ).loc main_arg1))) :=
  (W8_of m ρ c main_v9 (by decide)).trans ((W7_of m ρ c main_v9 (by decide)).trans ((W6_of m ρ c main_v9 (by decide)).trans ((W5_of m ρ c main_v9 (by decide)).trans ((W4_of m ρ c main_v9 (by decide)).trans ((W3_of m ρ c main_v9 (by decide)).trans (out_v9 m ρ c))))))

theorem out_v10 (c : Dev nD) : W3 m ρ c (Proc.devRef .tc main_v10) = projB (m ((c : Thread nD τ).loc main_arg0)) (moreRows (m ((c : Thread nD τ).loc main_arg1))) :=
  (W3_arr m ρ c 2).trans ((final1 (V2 m ρ) c).trans (congrArg₂ projB (W2_args m ρ c main_arg0 (by decide)) ((W2_of m ρ c main_v6 (by decide)).trans (entry_rows m ρ c))))

theorem last_v10 (c : Dev nD) : W8 m ρ c (Proc.devRef .tc main_v10) = projB (m ((c : Thread nD τ).loc main_arg0)) (moreRows (m ((c : Thread nD τ).loc main_arg1))) :=
  (W8_of m ρ c main_v10 (by decide)).trans ((W7_of m ρ c main_v10 (by decide)).trans ((W6_of m ρ c main_v10 (by decide)).trans ((W5_of m ρ c main_v10 (by decide)).trans ((W4_of m ρ c main_v10 (by decide)).trans (out_v10 m ρ c)))))

theorem out_v11 (c : Dev nD) : W4 m ρ c (Proc.devRef .tc main_v11) = gwA (m ((c : Thread nD τ).loc main_arg2)) (m ((c : Thread nD τ).loc main_arg0)) :=
  (W4_arr m ρ c 2).trans ((final2 (V3 m ρ) c).trans (congrArg₂ gwA (W3_args m ρ c main_arg2 (by decide)) (W3_args m ρ c main_arg0 (by decide))))

theorem last_v11 (c : Dev nD) : W8 m ρ c (Proc.devRef .tc main_v11) = gwA (m ((c : Thread nD τ).loc main_arg2)) (m ((c : Thread nD τ).loc main_arg0)) :=
  (W8_of m ρ c main_v11 (by decide)).trans ((W7_of m ρ c main_v11 (by decide)).trans ((W6_of m ρ c main_v11 (by decide)).trans ((W5_of m ρ c main_v11 (by decide)).trans (out_v11 m ρ c))))

theorem out_v12 (c : Dev nD) : W5 m ρ c (Proc.devRef .tc main_v12) = gwB (moreCols (m ((c : Thread nD τ).loc main_arg3)) (m ((c : Thread nD τ).loc main_arg4))) (m ((c : Thread nD τ).loc main_arg0)) :=
  (W5_arr m ρ c 2).trans ((final3 (V4 m ρ) c).trans (congrArg₂ gwB ((W4_of m ρ c main_v8 (by decide)).trans ((W3_of m ρ c main_v8 (by decide)).trans ((W2_of m ρ c main_v8 (by decide)).trans (entry_cols m ρ c)))) (W4_args m ρ c main_arg0 (by decide))))

theorem last_v12 (c : Dev nD) : W8 m ρ c (Proc.devRef .tc main_v12) = gwB (moreCols (m ((c : Thread nD τ).loc main_arg3)) (m ((c : Thread nD τ).loc main_arg4))) (m ((c : Thread nD τ).loc main_arg0)) :=
  (W8_of m ρ c main_v12 (by decide)).trans ((W7_of m ρ c main_v12 (by decide)).trans ((W6_of m ρ c main_v12 (by decide)).trans (out_v12 m ρ c)))

theorem out_v13 (c : Dev nD) : W6 m ρ c (Proc.devRef .tc main_v13) = dB (moreCols (m ((c : Thread nD τ).loc main_arg3)) (m ((c : Thread nD τ).loc main_arg4))) (moreRows (m ((c : Thread nD τ).loc main_arg1))) :=
  (W6_arr m ρ c 2).trans ((final4 (V5 m ρ) c).trans (congrArg₂ dB ((W5_of m ρ c main_v8 (by decide)).trans ((W4_of m ρ c main_v8 (by decide)).trans ((W3_of m ρ c main_v8 (by decide)).trans ((W2_of m ρ c main_v8 (by decide)).trans (entry_cols m ρ c))))) ((W5_of m ρ c main_v6 (by decide)).trans ((W4_of m ρ c main_v6 (by decide)).trans ((W3_of m ρ c main_v6 (by decide)).trans ((W2_of m ρ c main_v6 (by decide)).trans (entry_rows m ρ c)))))))

theorem last_v13 (c : Dev nD) : W8 m ρ c (Proc.devRef .tc main_v13) = dB (moreCols (m ((c : Thread nD τ).loc main_arg3)) (m ((c : Thread nD τ).loc main_arg4))) (moreRows (m ((c : Thread nD τ).loc main_arg1))) :=
  (W8_of m ρ c main_v13 (by decide)).trans ((W7_of m ρ c main_v13 (by decide)).trans (out_v13 m ρ c))

theorem out_v14 (c : Dev nD) : W7 m ρ c (Proc.devRef .tc main_v14) = dRows (m ((c : Thread nD τ).loc main_arg2)) (mainRows (m ((c : Thread nD τ).loc main_arg1))) (dB (moreCols (m ((c : Thread nD τ).loc main_arg3)) (m ((c : Thread nD τ).loc main_arg4))) (moreRows (m ((c : Thread nD τ).loc main_arg1)))) :=
  (W7_arr m ρ c 3).trans ((final5 (V6 m ρ) c).trans (dRows_congr (W6_args m ρ c main_arg2 (by decide)) ((W6_of m ρ c main_v2 (by decide)).trans ((W5_of m ρ c main_v2 (by decide)).trans ((W4_of m ρ c main_v2 (by decide)).trans ((W3_of m ρ c main_v2 (by decide)).trans ((W2_of m ρ c main_v2 (by decide)).trans (entry_main m ρ c)))))) (out_v13 m ρ c)))

theorem last_v14 (c : Dev nD) : W8 m ρ c (Proc.devRef .tc main_v14) = dRows (m ((c : Thread nD τ).loc main_arg2)) (mainRows (m ((c : Thread nD τ).loc main_arg1))) (dB (moreCols (m ((c : Thread nD τ).loc main_arg3)) (m ((c : Thread nD τ).loc main_arg4))) (moreRows (m ((c : Thread nD τ).loc main_arg1)))) :=
  (W8_of m ρ c main_v14 (by decide)).trans (out_v14 m ρ c)

theorem last_v15 (c : Dev nD) : W8 m ρ c (Proc.devRef .tc main_v15)
    = (fun i => projB (m ((c : Thread nD τ).loc main_arg0)) (moreRows (m ((c : Thread nD τ).loc main_arg1))) (ix2 (i 0) ⟨(i 1).val, by have h := (i 1).isLt; simp [S2048x1024] at h; omega⟩) : FVec Ideal S2048x1024 .f32) := by
  funext i
  refine Eq.trans ?_ (congrFun ((W7_of m ρ c main_v10 (by decide)).trans ((W6_of m ρ c main_v10 (by decide)).trans ((W5_of m ρ c main_v10 (by decide)).trans ((W4_of m ρ c main_v10 (by decide)).trans (out_v10 m ρ c))))) _)
  unfold W8 hostOps6
  after_reads_at

theorem last_v16 (c : Dev nD) : W8 m ρ c (Proc.devRef .tc main_v16)
    = (fun i => projB (m ((c : Thread nD τ).loc main_arg0)) (moreRows (m ((c : Thread nD τ).loc main_arg1))) (ix2 (i 0) ⟨1024 + (i 1).val, by have h := (i 1).isLt; simp [S2048x16] at h; omega⟩) : FVec Ideal S2048x16 .f32) := by
  funext i
  refine Eq.trans ?_ (congrFun ((W7_of m ρ c main_v10 (by decide)).trans ((W6_of m ρ c main_v10 (by decide)).trans ((W5_of m ρ c main_v10 (by decide)).trans ((W4_of m ρ c main_v10 (by decide)).trans (out_v10 m ρ c))))) _)
  unfold W8 hostOps6
  after_reads_at

theorem last_v17 (c : Dev nD) : W8 m ρ c (Proc.devRef .tc main_v17)
    = (fun i => gwB (moreCols (m ((c : Thread nD τ).loc main_arg3)) (m ((c : Thread nD τ).loc main_arg4))) (m ((c : Thread nD τ).loc main_arg0)) (ix2 ⟨(i 0).val, by have h := (i 0).isLt; simp [S1024x2048] at h; omega⟩ (i 1)) : FVec Ideal S1024x2048 .bf16) := by
  funext i
  refine Eq.trans ?_ (congrFun ((W7_of m ρ c main_v12 (by decide)).trans ((W6_of m ρ c main_v12 (by decide)).trans (out_v12 m ρ c))) _)
  unfold W8 hostOps6
  after_reads_at

theorem last_v18 (c : Dev nD) : W8 m ρ c (Proc.devRef .tc main_v18)
    = (fun i => gwB (moreCols (m ((c : Thread nD τ).loc main_arg3)) (m ((c : Thread nD τ).loc main_arg4))) (m ((c : Thread nD τ).loc main_arg0)) (ix2 ⟨1024 + (i 0).val, by have h := (i 0).isLt; simp [S16x2048] at h; omega⟩ (i 1)) : FVec Ideal S16x2048 .bf16) := by
  funext i
  refine Eq.trans ?_ (congrFun ((W7_of m ρ c main_v12 (by decide)).trans ((W6_of m ρ c main_v12 (by decide)).trans (out_v12 m ρ c))) _)
  unfold W8 hostOps6
  after_reads_at

end Cert.Proof.InIdeal
-- ==== Proof.InIdeal.Run.lean ====
module

public import proofs.«01_k».proof.Proof.Gen.InIdeal.Frame

@[expose] public section

noncomputable section

namespace Cert.Proof.InIdeal

open Cert.InIdeal Cert.InIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

set_option backward.isDefEq.respectTransparency.types false in
/-- Every unscoped array ends at the contents the chain of calls leaves in it. -/
theorem run : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => h)

end Cert.Proof.InIdeal
-- ==== Proof.InIdeal.Tie.lean ====
module

public import proofs.«01_k».proof.Proof.InIdeal.Chain
public import proofs.«01_k».proof.Proof.InIdeal.Run
public import proofs.«01_k».proof.Defs
public import proofs.«01_k».proof.Proof.Gen.InRefIdeal
public import proofs.«01_k».proof.Proof.Gen.InRefIdeal.Read

@[expose] public section

set_option maxRecDepth 16384

noncomputable section

open Idealize.ShloMosaic Idealize.ShloMosaic.TcCoe Idealize.SL.Sem
open Idealize.ShloMosaic.Pipeline (Dat)

namespace Cert.Proof.InIdeal

open Cert.InIdeal Cert.InIdeal.Gen Cert.InRefIdeal.Read

variable (x : FVec Ideal S2048x2048 .bf16) (w : FVec Ideal S2048x5136 .f32) (a : FVec Ideal S2048x4096 .bf16)
  (g : FVec Ideal S2048x16 .bf16) (u : FVec Ideal S2048x1024 .bf16)

theorem moreRows_pool (r : Fin 1152) (h : r.val < 1024) (k : Fin 2048) : moreRows w (ix2 r k) = w (ix2 k ⟨4112 + r.val, by omega⟩) :=
  dif_pos h

theorem moreRows_gate (r : Fin 1152) (h : ¬r.val < 1024) (h' : r.val - 1024 < 16) (k : Fin 2048) :
    moreRows w (ix2 r k) = w (ix2 k ⟨4096 + (r.val - 1024), by omega⟩) :=
  (dif_neg h).trans (dif_pos h')

theorem moreRows_zero (r : Fin 1152) (h : ¬r.val < 1024) (h' : ¬r.val - 1024 < 16) (k : Fin 2048) :
    moreRows w (ix2 r k) = (0 : EReal) :=
  (dif_neg h).trans (dif_neg h')

theorem moreCols_pool (k : Fin 2048) (r : Fin 1152) (h : r.val < 1024) : moreCols g u (ix2 k r) = u (ix2 k ⟨r.val, h⟩) :=
  dif_pos h

theorem moreCols_gate (k : Fin 2048) (r : Fin 1152) (h : ¬r.val < 1024) (h' : r.val - 1024 < 16) :
    moreCols g u (ix2 k r) = g (ix2 k ⟨r.val - 1024, h'⟩) :=
  (dif_neg h).trans (dif_pos h')

/-- The reference's joined cotangent at a main column. -/
theorem cat_main (k : Fin 2048) (r : Fin 5136) (h : r.val < 4096) : val_main_v2 (F := Ideal) a g u (ix2 k r) = a (ix2 k ⟨r.val, h⟩) := by
  pointwise [val_main_v2]
  rw [dif_pos h]

/-- The reference's joined cotangent at a gate's column. -/
theorem cat_gate (k : Fin 2048) (r : Fin 5136) (h : ¬r.val < 4096) (h' : r.val - 4096 < 16) :
    val_main_v2 (F := Ideal) a g u (ix2 k r) = g (ix2 k ⟨r.val - 4096, h'⟩) := by
  pointwise [val_main_v2]
  rw [dif_neg h, dif_pos h']

/-- The reference's joined cotangent at a pooled column. -/
theorem cat_pool (k : Fin 2048) (r : Fin 5136) (h : ¬r.val < 4096) (h' : ¬r.val - 4096 < 16) :
    val_main_v2 (F := Ideal) a g u (ix2 k r) = u (ix2 k ⟨r.val - 4096 - 16, by omega⟩) := by
  pointwise [val_main_v2]
  rw [dif_neg h, dif_neg h']

/-- The reference's main projection is the kernel's. -/
theorem ref_main : val_main_v7 (F := Ideal) x w = projA x (mainRows w) := by
  funext i
  unfold projA mainRows
  rw [val_main_v7_apply, val_main_v1_apply]
  refine Finset.sum_congr rfl fun k _ => ?_
  rw [val_main_v0_apply]
  pointwise
  blk_point

/-- The reference's pooled projection is the kernel's. -/
theorem ref_pool : val_main_v9 (F := Ideal) x w = (fun i => projB x (moreRows w) (ix2 (i 0) ⟨(i 1).val, by have h := (i 1).isLt; simp [S2048x1024] at h; omega⟩) : FVec Ideal S2048x1024 .f32) := by
  funext i
  have hi : (i 1).val < 1024 := (i 1).isLt
  unfold projB
  rw [val_main_v9_apply, val_main_v1_apply]
  refine Finset.sum_congr rfl fun k _ => ?_
  refine Eq.trans ?_ (congrArg (x (ix2 (i 0) k) * ·) (moreRows_pool w _ hi k)).symm
  rw [val_main_v0_apply]
  pointwise
  blk_point

/-- The reference's gates are the kernel's. -/
theorem ref_gate : val_main_v8 (F := Ideal) x w = (fun i => projB x (moreRows w) (ix2 (i 0) ⟨1024 + (i 1).val, by have h := (i 1).isLt; simp [S2048x16] at h; omega⟩) : FVec Ideal S2048x16 .f32) := by
  funext i
  have hi : (i 1).val < 16 := (i 1).isLt
  unfold projB
  rw [val_main_v8_apply, val_main_v1_apply]
  refine Finset.sum_congr rfl fun k _ => ?_
  refine Eq.trans ?_ (congrArg (x (ix2 (i 0) k) * ·) (moreRows_gate w ⟨1024 + (i 1).val, by omega⟩ (show ¬1024 + (i 1).val < 1024 by omega) (show 1024 + (i 1).val - 1024 < 16 by omega) k)).symm
  rw [val_main_v0_apply]
  pointwise
  blk_point

/-- The reference's gradient of the weight at a row, before its rows are parted. -/
theorem ref_dw (i : S5136x2048.Idx) : val_main_v11 (F := Ideal) x a g u i = ∑ k : Fin 2048, val_main_v2 (F := Ideal) a g u (ix2 k (i 0)) * x (ix2 k (i 1)) := by
  rw [val_main_v11_apply, val_main_v10_apply, val_main_v5_apply, val_main_v4_apply]
  pointwise [val_main_v0, val_main_v3]
  refine Finset.sum_congr rfl fun k _ => ?_
  blk_point

/-- The reference's gradient of the main rows is the kernel's. -/
theorem ref_dw_main : val_main_v12 (F := Ideal) x a g u = gwA a x := by
  funext i
  have hi : (i 0).val < 4096 := (i 0).isLt
  unfold gwA
  rw [val_main_v12_apply, ref_dw]
  refine Finset.sum_congr rfl fun k _ => congrArg₂ (fun p q : EReal => p * q) (cat_main a g u k _ hi) ?_
  blk_point

/-- The reference's gradient of the pooled rows is the kernel's. -/
theorem ref_dw_pool : val_main_v14 (F := Ideal) x a g u = (fun i => gwB (moreCols g u) x (ix2 ⟨(i 0).val, by have h := (i 0).isLt; simp [S1024x2048] at h; omega⟩ (i 1)) : FVec Ideal S1024x2048 .bf16) := by
  funext i
  have hi : (i 0).val < 1024 := (i 0).isLt
  unfold gwB
  rw [val_main_v14_apply, ref_dw]
  refine Finset.sum_congr rfl fun k _ => congrArg₂ (fun p q : EReal => p * q) ((cat_pool a g u k ⟨4112 + (i 0).val, by omega⟩ (show ¬4112 + (i 0).val < 4096 by omega) (show ¬4112 + (i 0).val - 4096 < 16 by omega)).trans (Eq.trans ?_ (moreCols_pool g u k _ hi).symm)) ?_
  · blk_point
  · blk_point

/-- The reference's gradient of the gates' rows is the kernel's. -/
theorem ref_dw_gate : val_main_v13 (F := Ideal) x a g u = (fun i => gwB (moreCols g u) x (ix2 ⟨1024 + (i 0).val, by have h := (i 0).isLt; simp [S16x2048] at h; omega⟩ (i 1)) : FVec Ideal S16x2048 .bf16) := by
  funext i
  have hi : (i 0).val < 16 := (i 0).isLt
  unfold gwB
  rw [val_main_v13_apply, ref_dw]
  refine Finset.sum_congr rfl fun k _ => congrArg₂ (fun p q : EReal => p * q) ((cat_gate a g u k ⟨4096 + (i 0).val, by omega⟩ (show ¬4096 + (i 0).val < 4096 by omega) (show 4096 + (i 0).val - 4096 < 16 by omega)).trans (Eq.trans ?_ (moreCols_gate g u k ⟨1024 + (i 0).val, by omega⟩ (show ¬1024 + (i 0).val < 1024 by omega) (show 1024 + (i 0).val - 1024 < 16 by omega)).symm)) ?_
  · blk_point
  · blk_point

/-- A sum over the reference's columns: the main ones, the gates, the pooled ones. -/
theorem sum_cols (f : Fin 5136 → EReal) : ∑ k, f k = ∑ k : Fin 4096, f ⟨k.val, by omega⟩
    + (∑ k : Fin 16, f ⟨4096 + k.val, by omega⟩ + ∑ k : Fin 1024, f ⟨4112 + k.val, by omega⟩) := by
  rw [Fin.sum_univ_two_halves 4096 1040 rfl f]
  refine congrArg (_ + ·) ?_
  rw [Fin.sum_univ_two_halves 16 1024 rfl fun k : Fin 1040 => f ⟨4096 + k.val, by omega⟩]
  refine congrArg (_ + ·) (Finset.sum_congr rfl fun k _ => congrArg f (Fin.ext ?_))
  show 4096 + (16 + k.val) = 4112 + k.val
  omega

/-- A sum over the kernel's further columns: the pooled ones, the gates, the rest. -/
theorem sum_more (f : Fin 1152 → EReal) : ∑ k, f k = ∑ k : Fin 1024, f ⟨k.val, by omega⟩
    + (∑ k : Fin 16, f ⟨1024 + k.val, by omega⟩ + ∑ k : Fin 112, f ⟨1040 + k.val, by omega⟩) := by
  rw [Fin.sum_univ_two_halves 1024 128 rfl f]
  refine congrArg (_ + ·) ?_
  rw [Fin.sum_univ_two_halves 16 112 rfl fun k : Fin 128 => f ⟨1024 + k.val, by omega⟩]
  refine congrArg (_ + ·) (Finset.sum_congr rfl fun k _ => congrArg f (Fin.ext ?_))
  show 1024 + (16 + k.val) = 1040 + k.val
  omega

/-- The kernel's further part of the cotangent of the rows: the zero columns add nothing. -/
theorem dB_eq (i : S2048x2048.Idx) : dB (moreCols g u) (moreRows w) i
    = ∑ k : Fin 1024, u (ix2 (i 0) k) * w (ix2 (i 1) ⟨4112 + k.val, by omega⟩)
      + ∑ k : Fin 16, g (ix2 (i 0) k) * w (ix2 (i 1) ⟨4096 + k.val, by omega⟩) := by
  unfold dB
  rw [sum_more]
  refine congrArg₂ (fun p q : EReal => p + q) (Finset.sum_congr rfl fun k _ => ?_) (Eq.trans (congrArg₂ (fun p q : EReal => p + q)
    (Finset.sum_congr rfl fun k _ => ?_) (Finset.sum_eq_zero fun k _ => ?_)) (add_zero _))
  · exact congrArg₂ (fun p q : EReal => p * q) (moreCols_pool g u _ _ k.isLt) (moreRows_pool w _ k.isLt _)
  · refine congrArg₂ (fun p q : EReal => p * q)
      ((moreCols_gate g u (i 0) ⟨1024 + k.val, by omega⟩ (show ¬1024 + k.val < 1024 by omega) (show 1024 + k.val - 1024 < 16 by omega)).trans ?_)
      ((moreRows_gate w ⟨1024 + k.val, by omega⟩ (show ¬1024 + k.val < 1024 by omega) (show 1024 + k.val - 1024 < 16 by omega) (i 1)).trans ?_)
    · blk_point
    · blk_point
  · refine Eq.trans (congrArg (_ * ·) (moreRows_zero w ⟨1040 + k.val, by omega⟩ (show ¬1040 + k.val < 1024 by omega)
      (show ¬1040 + k.val - 1024 < 16 by omega) (i 1))) (mul_zero _)

/-- The reference's cotangent of the rows is the kernel's. -/
theorem ref_rows : val_main_v6 (F := Ideal) w a g u = dRows a (mainRows w) (dB (moreCols g u) (moreRows w)) := by
  funext i
  unfold dRows
  rw [dB_eq, val_main_v6_apply, sum_cols, add_comm (∑ k : Fin 1024, _)]
  pointwise [val_main_v3]
  refine congrArg₂ (fun p q : EReal => p + q) (Finset.sum_congr rfl fun k _ => ?_) (congrArg₂ (fun p q : EReal => p + q)
    (Finset.sum_congr rfl fun k _ => ?_) (Finset.sum_congr rfl fun k _ => ?_))
  · refine congrArg₂ (fun p q : EReal => p * q) (Eq.trans ?_ (cat_main a g u (i 0) ⟨k.val, by omega⟩ k.isLt)) ?_
    · blk_point
    · unfold mainRows; blk_point
  · refine congrArg₂ (fun p q : EReal => p * q) (Eq.trans ?_ ((cat_gate a g u (i 0) ⟨4096 + k.val, by omega⟩
      (show ¬4096 + k.val < 4096 by omega) (show 4096 + k.val - 4096 < 16 by omega)).trans ?_)) ?_
    · blk_point
    · blk_point
    · blk_point
  · refine congrArg₂ (fun p q : EReal => p * q) (Eq.trans ?_ ((cat_pool a g u (i 0) ⟨4112 + k.val, by omega⟩
      (show ¬4112 + k.val < 4096 by omega) (show ¬4112 + k.val - 4096 < 16 by omega)).trans ?_)) ?_
    · blk_point
    · blk_point
    · blk_point

/-- The reference runs, keeps its arguments and declares no semaphore. -/
theorem frame_ref : Cert.quiescent_InRefIdeal := fun m ρ _ =>
  (θ_run Cert.InRefIdeal.defs _ _).mono
    (fun r h => ⟨fun c => (h c).2.2.2.2.2.2.2, sem_eq_zero_of_no_sems (by decide) r.2⟩)
    (Cert.InRefIdeal.Value.run (F := Ideal) m ρ)

/-- From agreeing arguments the kernel's results are the reference's. -/
theorem algebraic : Cert.algebraic_InIdeal_InRefIdeal := by
  intro m g m' g' _ hagree
  refine ⟨_, _, _, _, _, _, _, (θ_run _ _ _).mono (fun r h c =>
      ⟨(h c _ (mem_uc main_v9 (by decide))).trans (last_v9 m g c),
       (h c _ (mem_uc main_v15 (by decide))).trans (last_v15 m g c),
       (h c _ (mem_uc main_v16 (by decide))).trans (last_v16 m g c),
       (h c _ (mem_uc main_v11 (by decide))).trans (last_v11 m g c),
       (h c _ (mem_uc main_v17 (by decide))).trans (last_v17 m g c),
       (h c _ (mem_uc main_v18 (by decide))).trans (last_v18 m g c),
       (h c _ (mem_uc main_v14 (by decide))).trans (last_v14 m g c),
       (h c _ (mem_uc main_arg0 (by decide))).trans (W8_main_arg0 m g c),
       (h c _ (mem_uc main_arg1 (by decide))).trans (W8_main_arg1 m g c),
       (h c _ (mem_uc main_arg2 (by decide))).trans (W8_main_arg2 m g c),
       (h c _ (mem_uc main_arg3 (by decide))).trans (W8_main_arg3 m g c),
       (h c _ (mem_uc main_arg4 (by decide))).trans (W8_main_arg4 m g c),
       (h c _ (mem_uc main_arg5 (by decide))).trans (W8_main_arg5 m g c)⟩) (run m g), ?_⟩
  refine (θ_run _ _ _).mono (fun r h c => ?_) (Cert.InRefIdeal.Value.run (F := Ideal) m' g')
  obtain ⟨h0, h1, h2, h3, h4, h5⟩ := hagree c
  obtain ⟨r0, r1, r2, r3, r4, r5, r6, ra⟩ := h c
  refine ⟨r0.trans ?_, r1.trans ?_, r2.trans ?_, r3.trans ?_, r4.trans ?_, r5.trans ?_, r6.trans ?_, ra⟩
  · rw [h0, h1]; exact (val_main_v7_eq _ _).trans (ref_main _ _)
  · rw [h0, h1]; exact (val_main_v9_eq _ _).trans (ref_pool _ _)
  · rw [h0, h1]; exact (val_main_v8_eq _ _).trans (ref_gate _ _)
  · rw [h0, h2, h3, h4]; exact (val_main_v12_eq _ _ _ _).trans (ref_dw_main _ _ _ _)
  · rw [h0, h2, h3, h4]; exact (val_main_v14_eq _ _ _ _).trans (ref_dw_pool _ _ _ _)
  · rw [h0, h2, h3, h4]; exact (val_main_v13_eq _ _ _ _).trans (ref_dw_gate _ _ _ _)
  · rw [h1, h2, h3, h4]; exact (val_main_v6_eq _ _ _ _).trans (ref_rows _ _ _ _)

end Cert.Proof.InIdeal
-- ==== Proof.NormIdeal.Products.lean ====
module

public import proofs.«01_k».proof.Proof.Gen.NormIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof.NormIdeal

open Cert.NormIdeal Cert.NormIdeal.Gen

variable (V : (c : Dev nD) → (b : Ref sig .tc) → Buf (Elt Ideal) ((c : Thread nD τ).loc b))

/-- An entry `u` of the row `x`, divided by the row's root mean square and multiplied by its gain `v`. -/
def rmsAt (x : Fin 2048 → EReal) (u v : EReal) : EReal :=
  u * Ideal.rsqrt (Ideal.div (∑ k, x k * x k) (Ideal.ofBits .f32 0x45000000#32) + Ideal.ofBits .f32 0x358637BD#32) * v

theorem rmsAt_congr {x x' : Fin 2048 → EReal} {u u' v v' : EReal} (hx : ∀ k, x k = x' k) (hu : u = u') (hv : v = v') :
    rmsAt x u v = rmsAt x' u' v' := by
  rw [funext hx, hu, hv]

/-- Every row divided by its root mean square and multiplied by the gains. -/
def rms {φ : FTy} (x : FVec Ideal S2048x2048 .f32) (g : FVec Ideal S1x2048 .f32) : FVec Ideal S2048x2048 φ := fun i =>
  rmsAt (fun k => x (ix2 (i 0) k)) (x i) (g (ix2 0 (i 1)))

/-- The residual stream plus the normalised rows. -/
def resid (x y : FVec Ideal S2048x2048 .f32) (g : FVec Ideal S1x2048 .f32) : FVec Ideal S2048x2048 .f32 := fun i =>
  (fun p q : EReal => p + q) (x i) (rms (φ := .f32) y g i)

theorem pay0 (x : Vec Ideal S256x2048 .f32) (g : Vec Ideal S1x2048 .f32) (y : S256x2048.Idx) :
    k0_pay1 (F := Ideal) x g y = rmsAt (fun k => x (ix2 (y 0) k)) (x y) (g (ix2 0 (y 1))) := by
  rw [eq_ix2 y]
  pointwise [k0_pay1, rmsAt]

theorem pay1 (x z : Vec Ideal S256x2048 .f32) (g : Vec Ideal S1x2048 .f32) (y : S256x2048.Idx) :
    k1_pay1 (F := Ideal) x z g y = (fun p q : EReal => p + q) (x y) (rmsAt (fun k => z (ix2 (y 0) k)) (z y) (g (ix2 0 (y 1)))) := by
  rw [eq_ix2 y]
  pointwise [k1_pay1, rmsAt]

theorem pay2 (x z : Vec Ideal S256x2048 .f32) (g g' : Vec Ideal S1x2048 .f32) (y : S256x2048.Idx) :
    k1_pay2 (F := Ideal) x z g g' y
      = rmsAt (fun k => k1_pay1 (F := Ideal) x z g (ix2 (y 0) k)) (k1_pay1 (F := Ideal) x z g y) (g' (ix2 0 (y 1))) := by
  rw [eq_ix2 y]
  pointwise [k1_pay2, rmsAt]

/-- The second residual's block is computed as the first's. -/
theorem pay3 (x z : Vec Ideal S256x2048 .f32) (g : Vec Ideal S1x2048 .f32) : k2_pay1 (F := Ideal) x z g = k1_pay1 x z g := by
  funext y
  rw [eq_ix2 y]
  pointwise [k1_pay1, k2_pay1]
theorem pay4 (x z : Vec Ideal S256x2048 .f32) (g g' : Vec Ideal S1x2048 .f32) : k2_pay2 (F := Ideal) x z g g' = k1_pay2 x z g g' := by
  funext y
  rw [eq_ix2 y]
  pointwise [k1_pay2, k2_pay2, k1_pay1, k2_pay1]

theorem idx0 : ∀ t : Fin cfg0.N, win0_0.index t = ![t.val, 0] ∧ win0_1.index t = ![0, 0] ∧ win0_2.index t = ![t.val, 0] ∧ t.val < 8 :=
  (by decide +kernel : ∀ t : Fin grid0.N, _)

theorem final0 (c : Dev nD) : (dat0 V c).arrAt 2 cfg0.N = rms (φ := .bf16) (V c main_arg0) (V c main_arg3) := by
  refine (dat0 V c).arrAt_eq_of_covers 2 _ (by decide +kernel) fun t _ y => ?_
  blk_simp
  rw [after0_2, outsAt0]; frame_out
  refine (pay0 _ _ y).trans (rmsAt_congr (fun k => ?_) ?_ ?_) <;> blk_point [iblk0, idx0 t]

theorem idx1 : ∀ t : Fin cfg1.N, win1_0.index t = ![t.val, 0] ∧ win1_1.index t = ![t.val, 0] ∧ win1_2.index t = ![0, 0] ∧ win1_3.index t = ![0, 0]
    ∧ win1_4.index t = ![t.val, 0] ∧ win1_5.index t = ![t.val, 0] ∧ t.val < 8 :=
  (by decide +kernel : ∀ t : Fin grid1.N, _)

theorem final1_4 (c : Dev nD) : (dat1 V c).arrAt 4 cfg1.N = resid (V c main_arg0) (V c main_arg1) (V c main_arg4) := by
  refine (dat1 V c).arrAt_eq_of_covers 4 _ (by decide +kernel) fun t _ y => ?_
  blk_simp
  rw [after1_4, outsAt1]; frame_out
  refine (pay1 _ _ _ y).trans (congrArg₂ _ ?_ (rmsAt_congr (fun k => ?_) ?_ ?_)) <;> blk_point [iblk1, idx1 t]

theorem final1_5 (c : Dev nD) : (dat1 V c).arrAt 5 cfg1.N = rms (φ := .bf16) (resid (V c main_arg0) (V c main_arg1) (V c main_arg4)) (V c main_arg5) := by
  refine (dat1 V c).arrAt_eq_of_covers 5 _ (by decide +kernel) fun t _ y => ?_
  blk_simp
  rw [after1_5, outsAt1]; frame_out
  refine (pay2 _ _ _ _ y).trans (rmsAt_congr (fun j => (pay1 _ _ _ _).trans (congrArg₂ _ ?_ (rmsAt_congr (fun k => ?_) ?_ ?_)))
    ((pay1 _ _ _ _).trans (congrArg₂ _ ?_ (rmsAt_congr (fun k => ?_) ?_ ?_))) ?_) <;> blk_point [iblk1, idx1 t]

theorem idx2 : ∀ t : Fin cfg2.N, win2_0.index t = ![t.val, 0] ∧ win2_1.index t = ![t.val, 0] ∧ win2_2.index t = ![0, 0] ∧ win2_3.index t = ![0, 0]
    ∧ win2_4.index t = ![t.val, 0] ∧ win2_5.index t = ![t.val, 0] ∧ t.val < 8 :=
  (by decide +kernel : ∀ t : Fin grid2.N, _)

theorem final2_4 (c : Dev nD) : (dat2 V c).arrAt 4 cfg2.N = resid (V c main_v1_0) (V c main_arg2) (V c main_arg6) := by
  refine (dat2 V c).arrAt_eq_of_covers 4 _ (by decide +kernel) fun t _ y => ?_
  blk_simp
  rw [after2_4, outsAt2]; frame_out
  rw [pay3]
  refine (pay1 _ _ _ y).trans (congrArg₂ _ ?_ (rmsAt_congr (fun k => ?_) ?_ ?_)) <;> blk_point [iblk2, idx2 t]

theorem final2_5 (c : Dev nD) : (dat2 V c).arrAt 5 cfg2.N = rms (φ := .bf16) (resid (V c main_v1_0) (V c main_arg2) (V c main_arg6)) (V c main_arg7) := by
  refine (dat2 V c).arrAt_eq_of_covers 5 _ (by decide +kernel) fun t _ y => ?_
  blk_simp
  rw [after2_5, outsAt2]; frame_out
  rw [pay4]
  refine (pay2 _ _ _ _ y).trans (rmsAt_congr (fun j => (pay1 _ _ _ _).trans (congrArg₂ _ ?_ (rmsAt_congr (fun k => ?_) ?_ ?_)))
    ((pay1 _ _ _ _).trans (congrArg₂ _ ?_ (rmsAt_congr (fun k => ?_) ?_ ?_))) ?_) <;> blk_point [iblk2, idx2 t]

end Cert.Proof.NormIdeal
-- ==== Proof.NormIdeal.Chain.lean ====
module

public import proofs.«01_k».proof.Proof.NormIdeal.Products

@[expose] public section

set_option maxRecDepth 16384

noncomputable section

open Idealize.ShloMosaic Idealize.ShloMosaic.TcCoe Idealize.SL.Sem
open Idealize.ShloMosaic.Pipeline (Dat)

namespace Cert.Proof.NormIdeal

open Cert.NormIdeal Cert.NormIdeal.Gen

variable (m : (ℓ : Loc nD τ sig) → Buf (Elt Ideal) ℓ) (ρ : Dev nD → PrngReg) (c : Dev nD)

/-- The residual stream after the mixing. -/
abbrev h1 : FVec Ideal S2048x2048 .f32 := resid (m ((c : Thread nD τ).loc main_arg0)) (m ((c : Thread nD τ).loc main_arg1)) (m ((c : Thread nD τ).loc main_arg4))
/-- The residual stream after the feed-forward part. -/
abbrev h2 : FVec Ideal S2048x2048 .f32 := resid (h1 m c) (m ((c : Thread nD τ).loc main_arg2)) (m ((c : Thread nD τ).loc main_arg6))

theorem last_v0 : W3 m ρ c (Proc.devRef .tc main_v0) = rms (φ := .bf16) (m ((c : Thread nD τ).loc main_arg0)) (m ((c : Thread nD τ).loc main_arg3)) :=
  (W3_of m ρ c main_v0 (by decide)).trans ((W2_of m ρ c main_v0 (by decide)).trans ((W1_arr m ρ c 2).trans (final0 (V0 m ρ) c)))

/-- The first residual call reads the arguments. -/
theorem entry1 : resid (V1 m ρ c main_arg0) (V1 m ρ c main_arg1) (V1 m ρ c main_arg4) = h1 m c :=
  congr (congrArg₂ resid (W1_args m ρ c main_arg0 (by decide)) (W1_args m ρ c main_arg1 (by decide))) (W1_args m ρ c main_arg4 (by decide))

theorem out_v1_0 : W2 m ρ c (Proc.devRef .tc main_v1_0) = h1 m c :=
  (W2_arr m ρ c 4).trans ((final1_4 (V1 m ρ) c).trans (entry1 m ρ c))

theorem last_v1_0 : W3 m ρ c (Proc.devRef .tc main_v1_0) = h1 m c :=
  (W3_of m ρ c main_v1_0 (by decide)).trans (out_v1_0 m ρ c)

theorem last_v1_1 : W3 m ρ c (Proc.devRef .tc main_v1_1) = rms (φ := .bf16) (h1 m c) (m ((c : Thread nD τ).loc main_arg5)) :=
  (W3_of m ρ c main_v1_1 (by decide)).trans ((W2_arr m ρ c 5).trans ((final1_5 (V1 m ρ) c).trans
    (congrArg₂ rms (entry1 m ρ c) (W1_args m ρ c main_arg5 (by decide)))))

/-- The second residual call reads the first's result. -/
theorem entry2 : resid (V2 m ρ c main_v1_0) (V2 m ρ c main_arg2) (V2 m ρ c main_arg6) = h2 m c :=
  congr (congrArg₂ resid (out_v1_0 m ρ c) (W2_args m ρ c main_arg2 (by decide))) (W2_args m ρ c main_arg6 (by decide))

theorem last_v2_0 : W3 m ρ c (Proc.devRef .tc main_v2_0) = h2 m c :=
  (W3_arr m ρ c 4).trans ((final2_4 (V2 m ρ) c).trans (entry2 m ρ c))

theorem last_v2_1 : W3 m ρ c (Proc.devRef .tc main_v2_1) = rms (φ := .bf16) (h2 m c) (m ((c : Thread nD τ).loc main_arg7)) :=
  (W3_arr m ρ c 5).trans ((final2_5 (V2 m ρ) c).trans (congrArg₂ rms (entry2 m ρ c) (W2_args m ρ c main_arg7 (by decide))))

end Cert.Proof.NormIdeal
-- ==== Proof.NormIdeal.Run.lean ====
module

public import proofs.«01_k».proof.Proof.Gen.NormIdeal.Frame

@[expose] public section

noncomputable section

namespace Cert.Proof.NormIdeal

open Cert.NormIdeal Cert.NormIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

set_option backward.isDefEq.respectTransparency.types false in
/-- Every unscoped array ends at the contents the chain of calls leaves in it. -/
theorem run : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => h)

end Cert.Proof.NormIdeal
-- ==== Proof.NormIdeal.Tie.lean ====
module

public import proofs.«01_k».proof.Proof.NormIdeal.Chain
public import proofs.«01_k».proof.Proof.NormIdeal.Run
public import proofs.«01_k».proof.Defs
public import proofs.«01_k».proof.Proof.Gen.NormRefIdeal
public import proofs.«01_k».proof.Proof.Gen.NormRefIdeal.Read

@[expose] public section

set_option maxRecDepth 16384

noncomputable section

open Idealize.ShloMosaic Idealize.ShloMosaic.TcCoe Idealize.SL.Sem
open Idealize.ShloMosaic.Pipeline (Dat)

namespace Cert.Proof.NormIdeal

open Cert.NormIdeal Cert.NormIdeal.Gen Cert.NormRefIdeal.Read

variable (x y z : FVec Ideal S2048x2048 .f32) (g g' g'' : FVec Ideal S1x2048 .f32)

/-- The reference's first norm is the kernel's. -/
theorem ref_norm : val_main_v62 (F := Ideal) x g = rms (φ := .bf16) x g := by
  funext i
  rw [eq_ix2 i]
  pointwise [rms, rmsAt, val_main_v0, val_main_v1, val_main_v2, val_main_v3, val_main_v4, val_main_v5, val_main_v6, val_main_v7, val_main_v8, val_main_v9, val_main_v10, val_main_v11, val_main_cst, val_main_cst_0, val_main_cst_1, val_main_v62]

/-- The reference's residual stream after the mixing is the kernel's. -/
theorem ref_mix : val_main_v24 (F := Ideal) x y g = resid x y g := by
  funext i
  rw [eq_ix2 i]
  pointwise [resid, rms, rmsAt, val_main_v12, val_main_v13, val_main_v14, val_main_v15, val_main_v16, val_main_v17, val_main_v18, val_main_v19, val_main_v20, val_main_v21, val_main_v22, val_main_v23, val_main_v24, val_main_cst_2, val_main_cst_3, val_main_cst_4]

/-- The reference's norm of that stream is the kernel's. -/
theorem ref_mix_norm : val_main_v63 (F := Ideal) x y g g' = rms (φ := .bf16) (val_main_v24 (F := Ideal) x y g) g' := by
  funext i
  rw [eq_ix2 i]
  pointwise [rms, rmsAt, val_main_v25, val_main_v26, val_main_v27, val_main_v28, val_main_v29, val_main_v30, val_main_v31, val_main_v32, val_main_v33, val_main_v34, val_main_v35, val_main_v36, val_main_cst_5, val_main_cst_6, val_main_cst_7, val_main_v63]

/-- The reference's residual stream after the feed-forward part is the kernel's. -/
theorem ref_ff : val_main_v49 (F := Ideal) x y z g g' = resid (val_main_v24 (F := Ideal) x y g) z g' := by
  funext i
  rw [eq_ix2 i]
  pointwise [resid, rms, rmsAt, val_main_v37, val_main_v38, val_main_v39, val_main_v40, val_main_v41, val_main_v42, val_main_v43, val_main_v44, val_main_v45, val_main_v46, val_main_v47, val_main_v48, val_main_v49, val_main_cst_8, val_main_cst_9, val_main_cst_10]

/-- The reference's norm of that stream is the kernel's. -/
theorem ref_ff_norm : val_main_v64 (F := Ideal) x y z g g' g'' = rms (φ := .bf16) (val_main_v49 (F := Ideal) x y z g g') g'' := by
  funext i
  rw [eq_ix2 i]
  pointwise [rms, rmsAt, val_main_v50, val_main_v51, val_main_v52, val_main_v53, val_main_v54, val_main_v55, val_main_v56, val_main_v57, val_main_v58, val_main_v59, val_main_v60, val_main_v61, val_main_cst_11, val_main_cst_12, val_main_cst_13, val_main_v64]

/-- The reference runs, keeps its arguments and declares no semaphore. -/
theorem frame_ref : Cert.quiescent_NormRefIdeal := fun m ρ _ =>
  (θ_run Cert.NormRefIdeal.defs _ _).mono
    (fun r h => ⟨fun c => (h c).2.2.2.2.2, sem_eq_zero_of_no_sems (by decide) r.2⟩)
    (Cert.NormRefIdeal.Value.run (F := Ideal) m ρ)

/-- From agreeing arguments the kernel's results are the reference's. -/
theorem algebraic : Cert.algebraic_NormIdeal_NormRefIdeal := by
  intro m g m' g' _ hagree
  refine ⟨_, _, _, _, _, (θ_run _ _ _).mono (fun r h c =>
      ⟨(h c _ (mem_uc main_v0 (by decide))).trans (last_v0 m g c),
       (h c _ (mem_uc main_v1_0 (by decide))).trans (last_v1_0 m g c),
       (h c _ (mem_uc main_v1_1 (by decide))).trans (last_v1_1 m g c),
       (h c _ (mem_uc main_v2_0 (by decide))).trans (last_v2_0 m g c),
       (h c _ (mem_uc main_v2_1 (by decide))).trans (last_v2_1 m g c),
       (h c _ (mem_uc main_arg0 (by decide))).trans (W3_main_arg0 m g c),
       (h c _ (mem_uc main_arg1 (by decide))).trans (W3_main_arg1 m g c),
       (h c _ (mem_uc main_arg2 (by decide))).trans (W3_main_arg2 m g c),
       (h c _ (mem_uc main_arg3 (by decide))).trans (W3_main_arg3 m g c),
       (h c _ (mem_uc main_arg4 (by decide))).trans (W3_main_arg4 m g c),
       (h c _ (mem_uc main_arg5 (by decide))).trans (W3_main_arg5 m g c),
       (h c _ (mem_uc main_arg6 (by decide))).trans (W3_main_arg6 m g c),
       (h c _ (mem_uc main_arg7 (by decide))).trans (W3_main_arg7 m g c),
       (h c _ (mem_uc main_arg8 (by decide))).trans (W3_main_arg8 m g c)⟩) (run m g), ?_⟩
  refine (θ_run _ _ _).mono (fun r h c => ?_) (Cert.NormRefIdeal.Value.run (F := Ideal) m' g')
  obtain ⟨e0, e1, e2, e3, e4, e5, e6, e7, e8⟩ := hagree c
  obtain ⟨r0, r1, r2, r3, r4, ra⟩ := h c
  refine ⟨r0.trans ?_, r1.trans ?_, r2.trans ?_, r3.trans ?_, r4.trans ?_, ra⟩
  · rw [e0, e3]; exact (val_main_v62_eq _ _).trans (ref_norm _ _)
  · unfold h1; rw [e0, e1, e4]; exact (val_main_v24_eq _ _ _).trans (ref_mix _ _ _)
  · unfold h1; rw [e0, e1, e4, e5]; exact (val_main_v63_eq _ _ _ _).trans ((ref_mix_norm _ _ _ _).trans (by rw [ref_mix]))
  · unfold h2 h1; rw [e0, e1, e2, e4, e6]; exact (val_main_v49_eq _ _ _ _ _).trans ((ref_ff _ _ _ _ _).trans (by rw [ref_mix]))
  · unfold h2 h1; refine (val_main_v64_eq m' c).trans ?_; rw [e0, e1, e2, e4, e6, e7]; exact (ref_ff_norm _ _ _ _ _ _).trans (by rw [ref_ff, ref_mix])

end Cert.Proof.NormIdeal
-- ==== Proof.Mlstm.Loop.lean ====
/- The loop over the sixteen chunks: what its region keeps from trip to trip (frame form). -/
module

public import proofs.«01_k».proof.Proof.Gen.Mlstm.Frame
public import proofs.«01_k».proof.Proof.Gen.Mlstm.Loops

@[expose] public section

set_option maxRecDepth 16384

noncomputable section

namespace Cert.Proof.Mlstm

open Cert.Mlstm Cert.Mlstm.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]
local notation "𝕄" => MT nD τ sig Unit (Elt F) ℕ (UR sig nD τ) ℕ

/-- What a trip finds and leaves: the blocks it only reads at their contents, those it stores into at some contents. -/
abbrev Trip (c : Dev nD) (arg1 : Memref sig .tc .vmem S2048x128 .f32) (arg2 : Memref sig .tc .vmem S2048x128 .f32) (arg3 : Memref sig .tc .vmem S128x2048 .bf16) (arg4 : Memref sig .tc .vmem S128x2048 .bf16) (arg5 : Memref sig .tc .vmem S2048x128 .f32) (arg6 : Memref sig .tc .vmem S2048x128 .f32) (arg7 : Memref sig .tc .vmem S1x2048x128 .f32) (arg8 : Memref sig .tc .vmem S1x2048x128 .f32) (arg9 : Memref sig .tc .vmem S16x1x2048 .f32) (arg11 : Memref sig .tc .vmem S1x16x128x128 .f32) (arg12 : Memref sig .tc .vmem S1x16x8x128 .f32) (arg13 : Memref sig .tc .vmem S2048x128 .f32) (arg15 : Memref sig .tc .vmem S2048x128 .f32) (arg16 : Memref sig .tc .vmem S2048x128 .f32) (arg17 : Memref sig .tc .vmem S2048x128 .bf16) (arg18 : Memref sig .tc .vmem S2048x128 .bf16) (arg19 : Memref sig .tc .vmem S2048x128 .f32) (arg20 : Memref sig .tc .vmem S8x1x2048 .f32) (arg21 : Memref sig .tc .vmem S1x128 .f32) (arg22 : Memref sig .tc .vmem S128x128 .f32) (arg23 : Memref sig .tc .vmem S8x128 .f32) (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f11 : Buf (Elt F) (arg11.view.loc (c : Thread nD τ))) (f12 : Buf (Elt F) (arg12.view.loc (c : Thread nD τ))) (f13 : Buf (Elt F) (arg13.view.loc (c : Thread nD τ))) : sProp 𝕄 :=
  iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)
    ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f)) ∗ (∃ f, (arg20.view.loc (c : Thread nD τ) ↦[arg20.view.set]{fullShare} f)) ∗ (∃ f, (arg21.view.loc (c : Thread nD τ) ↦[arg21.view.set]{fullShare} f)) ∗ (∃ f, (arg22.view.loc (c : Thread nD τ) ↦[arg22.view.set]{fullShare} f)) ∗ (∃ f, (arg23.view.loc (c : Thread nD τ) ↦[arg23.view.set]{fullShare} f)))

set_option maxHeartbeats 4000000 in
/-- One trip, at a symbolic trip. -/
theorem trip_sound (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S128x2048 .bf16) (harg3 : arg3.IsWhole) (arg4 : Memref sig .tc .vmem S128x2048 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S16x1x2048 .f32) (harg9 : arg9.IsWhole) (arg10 : Memref sig .tc .vmem S1x128 .f32) (harg10 : arg10.IsWhole) (arg11 : Memref sig .tc .vmem S1x16x128x128 .f32) (harg11 : arg11.IsWhole) (arg12 : Memref sig .tc .vmem S1x16x8x128 .f32) (harg12 : arg12.IsWhole) (arg13 : Memref sig .tc .vmem S2048x128 .f32) (harg13 : arg13.IsWhole) (arg14 : Memref sig .tc .hbm S8x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2048x128 .bf16) (harg17 : arg17.IsWhole) (arg18 : Memref sig .tc .vmem S2048x128 .bf16) (harg18 : arg18.IsWhole) (arg19 : Memref sig .tc .vmem S2048x128 .f32) (harg19 : arg19.IsWhole) (arg20 : Memref sig .tc .vmem S8x1x2048 .f32) (harg20 : arg20.IsWhole) (arg21 : Memref sig .tc .vmem S1x128 .f32) (harg21 : arg21.IsWhole) (arg22 : Memref sig .tc .vmem S128x128 .f32) (harg22 : arg22.IsWhole) (arg23 : Memref sig .tc .vmem S8x128 .f32) (harg23 : arg23.IsWhole) (arg0 : BitVec 32) (v0 : Vec F S1x128 .f32) (v14 : IVec S128x128 32) (v15 : IVec S128x128 32) (v19 : IVec S128x128 32) (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f11 : Buf (Elt F) (arg11.view.loc (c : Thread nD τ))) (f12 : Buf (Elt F) (arg12.view.loc (c : Thread nD τ))) (f13 : Buf (Elt F) (arg13.view.loc (c : Thread nD τ))) (k : Fin k0_t1_loop.trips) (acc : Unit) :
    Trip (F := F) c arg1 arg2 arg3 arg4 arg5 arg6 arg7 arg8 arg9 arg11 arg12 arg13 arg15 arg16 arg17 arg18 arg19 arg20 arg21 arg22 arg23 f1 f2 f3 f4 f5 f6 f7 f8 f9 f11 f12 f13
      ⊢ wp frame (wpE (defs₀ (F := F)) Variants.none c none) Set.univ (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v0 v14 v15 v19 k acc)
          (fun _ => Trip (F := F) c arg1 arg2 arg3 arg4 arg5 arg6 arg7 arg8 arg9 arg11 arg12 arg13 arg15 arg16 arg17 arg18 arg19 arg20 arg21 arg22 arg23 f1 f2 f3 f4 f5 f6 f7 f8 f9 f11 f12 f13) := by
  unfold k0_t1_body
  simp only [k0_part1_eq_skeleton, k0_part2_eq_skeleton, k0_part3_eq_skeleton, k0_part4_eq_skeleton, k0_part5_eq_skeleton, k0_part6_eq_skeleton, k0_part7_eq_skeleton]
  iintro ⟨H1, H2, H3, H4, H5, H6, H7, H8, H9, H11, H12, H13, ⟨%g15, H15⟩, ⟨%g16, H16⟩, ⟨%g17, H17⟩, ⟨%g18, H18⟩, ⟨%g19, H19⟩, ⟨%g20, H20⟩, ⟨%g21, H21⟩, ⟨%g22, H22⟩, ⟨%g23, H23⟩⟩
  sl_exec
  sl_step
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H11]; · iexact H11
  isplitl [H12]; · iexact H12
  isplitl [H13]; · iexact H13
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  iexists _; iexact H23

/-- The loop's invariant: every trip leaves what it found. -/
@[sl_loop] def loopInv (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S128x2048 .bf16) (harg3 : arg3.IsWhole) (arg4 : Memref sig .tc .vmem S128x2048 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S16x1x2048 .f32) (harg9 : arg9.IsWhole) (arg10 : Memref sig .tc .vmem S1x128 .f32) (harg10 : arg10.IsWhole) (arg11 : Memref sig .tc .vmem S1x16x128x128 .f32) (harg11 : arg11.IsWhole) (arg12 : Memref sig .tc .vmem S1x16x8x128 .f32) (harg12 : arg12.IsWhole) (arg13 : Memref sig .tc .vmem S2048x128 .f32) (harg13 : arg13.IsWhole) (arg14 : Memref sig .tc .hbm S8x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2048x128 .bf16) (harg17 : arg17.IsWhole) (arg18 : Memref sig .tc .vmem S2048x128 .bf16) (harg18 : arg18.IsWhole) (arg19 : Memref sig .tc .vmem S2048x128 .f32) (harg19 : arg19.IsWhole) (arg20 : Memref sig .tc .vmem S8x1x2048 .f32) (harg20 : arg20.IsWhole) (arg21 : Memref sig .tc .vmem S1x128 .f32) (harg21 : arg21.IsWhole) (arg22 : Memref sig .tc .vmem S128x128 .f32) (harg22 : arg22.IsWhole) (arg23 : Memref sig .tc .vmem S8x128 .f32) (harg23 : arg23.IsWhole) (arg0 : BitVec 32) (v0 : Vec F S1x128 .f32) (v14 : IVec S128x128 32) (v15 : IVec S128x128 32) (v19 : IVec S128x128 32) (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f11 : Buf (Elt F) (arg11.view.loc (c : Thread nD τ))) (f12 : Buf (Elt F) (arg12.view.loc (c : Thread nD τ))) (f13 : Buf (Elt F) (arg13.view.loc (c : Thread nD τ))) :
    LoopInvTy_k0_t1 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v0 v14 v15 v19 where
  inv := fun _ _ => Trip (F := F) c arg1 arg2 arg3 arg4 arg5 arg6 arg7 arg8 arg9 arg11 arg12 arg13 arg15 arg16 arg17 arg18 arg19 arg20 arg21 arg22 arg23 f1 f2 f3 f4 f5 f6 f7 f8 f9 f11 f12 f13
  step := fun k acc => trip_sound c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v0 v14 v15 v19 f1 f2 f3 f4 f5 f6 f7 f8 f9 f11 f12 f13 k acc

end Cert.Proof.Mlstm

end
-- ==== Proof.Mlstm.Frame.lean ====
/- One point of the grid (one head) and the launch: the arguments end unchanged and every semaphore at zero. -/
module

public import proofs.«01_k».proof.Proof.Mlstm.Loop
public import Idealize.ShloMosaic.Lib.Claim

@[expose] public section

set_option maxRecDepth 16384

noncomputable section

namespace Cert.Proof.Mlstm

open Cert.Mlstm Cert.Mlstm.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]
local notation "𝕄" => MT nD τ sig Unit (Elt F) ℕ (UR sig nD τ) ℕ

/-- The first head is the point at which the accumulated outputs are set to zero. -/
abbrev isFirst (i : grid0.Coords) : Prop :=
  Scalar.cmpi .ne (Scalar.extui (Scalar.cmpi .eq (BitVec.ofNat 32 (i 0).val) 0#32) : BitVec 32) 0#32 = 1#1

set_option maxHeartbeats 4000000 in
/-- One head: on whole blocks, the inputs' at their contents and everything stored into at anything, the body runs
    and hands the inputs back as they were. -/
theorem kernelRun (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S128x2048 .bf16) (harg3 : arg3.IsWhole) (arg4 : Memref sig .tc .vmem S128x2048 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S16x1x2048 .f32) (harg9 : arg9.IsWhole) (arg10 : Memref sig .tc .vmem S1x128 .f32) (harg10 : arg10.IsWhole) (arg11 : Memref sig .tc .vmem S1x16x128x128 .f32) (harg11 : arg11.IsWhole) (arg12 : Memref sig .tc .vmem S1x16x8x128 .f32) (harg12 : arg12.IsWhole) (arg13 : Memref sig .tc .vmem S2048x128 .f32) (harg13 : arg13.IsWhole) (arg14 : Memref sig .tc .hbm S8x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2048x128 .bf16) (harg17 : arg17.IsWhole) (arg18 : Memref sig .tc .vmem S2048x128 .bf16) (harg18 : arg18.IsWhole) (arg19 : Memref sig .tc .vmem S2048x128 .f32) (harg19 : arg19.IsWhole) (arg20 : Memref sig .tc .vmem S8x1x2048 .f32) (harg20 : arg20.IsWhole) (arg21 : Memref sig .tc .vmem S1x128 .f32) (harg21 : arg21.IsWhole) (arg22 : Memref sig .tc .vmem S128x128 .f32) (harg22 : arg22.IsWhole) (arg23 : Memref sig .tc .vmem S8x128 .f32) (harg23 : arg23.IsWhole) (x0 : Vec F S2048x128 .f32) (x1 : Vec F S2048x128 .f32) (x2 : Vec F S128x2048 .bf16) (x3 : Vec F S128x2048 .bf16) (x4 : Vec F S2048x128 .f32) (x5 : Vec F S2048x128 .f32) (x6 : Vec F S1x2048x128 .f32) (x7 : Vec F S1x2048x128 .f32) (x8 : Vec F S16x1x2048 .f32) (x9 : Vec F S1x128 .f32) (x10 : Vec F S1x16x128x128 .f32) (x11 : Vec F S1x16x8x128 .f32) (x12 : Vec F S2048x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)) -∗ K ⟨⟩))
      ⊢ wp frame (wpE (defs₀ (F := F)) Variants.none c none) Set.univ (cc0_d_mlstm i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0_d_mlstm_eq_skeleton]; unfold cc0_d_mlstm_skel
  by_cases hc : isFirst i
  all_goals
    unfold owns
    iintro ⟨⟨%f0, %hf0, H1⟩, ⟨%f1, %hf1, H2⟩, ⟨%f2, %hf2, H3⟩, ⟨%f3, %hf3, H4⟩, ⟨%f4, %hf4, H5⟩, ⟨%f5, %hf5, H6⟩, ⟨%f6, %hf6, H7⟩, ⟨%f7, %hf7, H8⟩, ⟨%f8, %hf8, H9⟩, ⟨%f9, %hf9, H10⟩, ⟨%f10, %hf10, H11⟩, ⟨%f11, %hf11, H12⟩, ⟨%f12, %hf12, H13⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
    sl_exec (disch := sl_exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    iexists _, _; isplitr; swap; · iexact H23
    ipureintro; rfl

variable (m : (ℓ : Loc nD τ sig) → Buf (Elt F) ℓ) (ρ : Dev nD → PrngReg)

/-- The output windows: nothing of what is left in them is named here. -/
def forgets : Fin 20 → Bool := fun w => decide (13 ≤ w.val)

/-- The proof data: the inputs stay at their blocks, the outputs are unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨j + 13, h⟩ => Pipeline.Dat.unnamed (cfg := cfg0) ⟨j + 13, h⟩ t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d

/-- The invariant between points: the two scratch memrefs at some contents and the generator's register. -/
theorem Phi_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]; try rfl

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ d, owns (c : Thread nD τ) (win0_4.stage (cfg0.slots t 4)) fullShare ((dats m 0 c).before 4 t d)) ∗ (∃ d, owns (c : Thread nD τ) (win0_5.stage (cfg0.slots t 5)) fullShare ((dats m 0 c).before 5 t d)) ∗ (∃ d, owns (c : Thread nD τ) (win0_6.stage (cfg0.slots t 6)) fullShare ((dats m 0 c).before 6 t d)) ∗ (∃ d, owns (c : Thread nD τ) (win0_7.stage (cfg0.slots t 7)) fullShare ((dats m 0 c).before 7 t d)) ∗ (∃ d, owns (c : Thread nD τ) (win0_8.stage (cfg0.slots t 8)) fullShare ((dats m 0 c).before 8 t d)) ∗ (∃ d, owns (c : Thread nD τ) (win0_9.stage (cfg0.slots t 9)) fullShare ((dats m 0 c).before 9 t d)) ∗ (∃ d, owns (c : Thread nD τ) (win0_10.stage (cfg0.slots t 10)) fullShare ((dats m 0 c).before 10 t d)) ∗ (∃ d, owns (c : Thread nD τ) (win0_11.stage (cfg0.slots t 11)) fullShare ((dats m 0 c).before 11 t d)) ∗ (∃ d, owns (c : Thread nD τ) (win0_12.stage (cfg0.slots t 12)) fullShare ((dats m 0 c).before 12 t d))
    ∗ (∃ d, owns (c : Thread nD τ) (win0_13.stage (cfg0.slots t 13)) fullShare d) ∗ (∃ d, owns (c : Thread nD τ) (win0_14.stage (cfg0.slots t 14)) fullShare d) ∗ (∃ d, owns (c : Thread nD τ) (win0_15.stage (cfg0.slots t 15)) fullShare d) ∗ (∃ d, owns (c : Thread nD τ) (win0_16.stage (cfg0.slots t 16)) fullShare d) ∗ (∃ d, owns (c : Thread nD τ) (win0_17.stage (cfg0.slots t 17)) fullShare d) ∗ (∃ d, owns (c : Thread nD τ) (win0_18.stage (cfg0.slots t 18)) fullShare d) ∗ (∃ d, owns (c : Thread nD τ) (win0_19.stage (cfg0.slots t 19)) fullShare d))

def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t) ∗ owns (c : Thread nD τ) (win0_1.stage (cfg0.slots t 1)) fullShare ((dats m 0 c).after 1 t) ∗ owns (c : Thread nD τ) (win0_2.stage (cfg0.slots t 2)) fullShare ((dats m 0 c).after 2 t) ∗ owns (c : Thread nD τ) (win0_3.stage (cfg0.slots t 3)) fullShare ((dats m 0 c).after 3 t) ∗ owns (c : Thread nD τ) (win0_4.stage (cfg0.slots t 4)) fullShare ((dats m 0 c).after 4 t) ∗ owns (c : Thread nD τ) (win0_5.stage (cfg0.slots t 5)) fullShare ((dats m 0 c).after 5 t) ∗ owns (c : Thread nD τ) (win0_6.stage (cfg0.slots t 6)) fullShare ((dats m 0 c).after 6 t) ∗ owns (c : Thread nD τ) (win0_7.stage (cfg0.slots t 7)) fullShare ((dats m 0 c).after 7 t) ∗ owns (c : Thread nD τ) (win0_8.stage (cfg0.slots t 8)) fullShare ((dats m 0 c).after 8 t) ∗ owns (c : Thread nD τ) (win0_9.stage (cfg0.slots t 9)) fullShare ((dats m 0 c).after 9 t) ∗ owns (c : Thread nD τ) (win0_10.stage (cfg0.slots t 10)) fullShare ((dats m 0 c).after 10 t) ∗ owns (c : Thread nD τ) (win0_11.stage (cfg0.slots t 11)) fullShare ((dats m 0 c).after 11 t) ∗ owns (c : Thread nD τ) (win0_12.stage (cfg0.slots t 12)) fullShare ((dats m 0 c).after 12 t)
    ∗ (∃ d, owns (c : Thread nD τ) (win0_13.stage (cfg0.slots t 13)) fullShare d) ∗ (∃ d, owns (c : Thread nD τ) (win0_14.stage (cfg0.slots t 14)) fullShare d) ∗ (∃ d, owns (c : Thread nD τ) (win0_15.stage (cfg0.slots t 15)) fullShare d) ∗ (∃ d, owns (c : Thread nD τ) (win0_16.stage (cfg0.slots t 16)) fullShare d) ∗ (∃ d, owns (c : Thread nD τ) (win0_17.stage (cfg0.slots t 17)) fullShare d) ∗ (∃ d, owns (c : Thread nD τ) (win0_18.stage (cfg0.slots t 18)) fullShare d) ∗ (∃ d, owns (c : Thread nD τ) (win0_19.stage (cfg0.slots t 19)) fullShare d))

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, Phi_eq,
    after_0, after_1, after_2, after_3, after_4, after_5, after_6, after_7, after_8, after_9, after_10, after_11, after_12]
  iintro ⟨⟨⟨S0, S1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply (kernelRun c (grid0.coords t) _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [S0]; · iexact S0
  isplitl [S1]; · iexact S1
  iintro ⟨H0, H1, H2, H3, H4, H5, H6, H7, H8, H9, H10, H11, H12, H13, H14, H15, H16, H17, H18, H19, S0, S1⟩
  isplitl [S0 S1 Hg]
  · isplitl [S0 S1]
    · isplitl [S0]; · iexact S0
      iexact S1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

set_option backward.isDefEq.respectTransparency.types false in
/-- The launch: every execution ends, the inputs' arrays as they were, every semaphore at zero. -/
theorem run_main : θ_run defs (onTc (τ := τ) (main (F := F))) (s₀ m ρ) (fun r => (Pipeline.RDat.FramePost (cfgs 0) (fun c => (dats m 0 c).toRForget forgets) (V m)) r ∧ r.2.sem = fun _ => 0) :=
  Pipeline.θ_run_frame_forget_shared (Q' := _) cfgs (dats m) (0 : Fin 1) launch₀0 defs₀ Variants.none forgets m ρ main
    (hbody := fun c => (body_obligation m c).loose) (hq := fun _ _ _ => rfl)
    (howed := fun _ _ => rfl) (V := V m) (hmain := hmain m Variants.none) (hA := A_eq m) (hΦ := fun _ _ => rfl)

set_option maxHeartbeats 4000000 in
/-- The frame: the argument arrays end unchanged, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨(Pipeline.RDat.FramePost.arr_in h.1 c 0 rfl).trans ((A_eq m c 0).trans (V_main_arg0 m c)), (Pipeline.RDat.FramePost.arr_in h.1 c 1 rfl).trans ((A_eq m c 1).trans (V_main_arg1 m c)), (Pipeline.RDat.FramePost.arr_in h.1 c 5 rfl).trans ((A_eq m c 5).trans (V_main_arg2 m c)), ((h.1 c).2 main_arg3 (Pipeline.mem_restRefs_of main_arg3 (by decide) (by decide))).trans (V_main_arg3 m c), ((h.1 c).2 main_arg4 (Pipeline.mem_restRefs_of main_arg4 (by decide) (by decide))).trans (V_main_arg4 m c), (Pipeline.RDat.FramePost.arr_in h.1 c 9 rfl).trans ((A_eq m c 9).trans (V_main_arg5 m c)), (Pipeline.RDat.FramePost.arr_in h.1 c 12 rfl).trans ((A_eq m c 12).trans (V_main_arg6 m c)), ((h.1 c).2 main_arg7 (Pipeline.mem_restRefs_of main_arg7 (by decide) (by decide))).trans (V_main_arg7 m c)⟩, h.2⟩) (run_main m ρ)

end Cert.Proof.Mlstm

end
-- ==== Proof.MlstmIdeal.Loop.lean ====
/- The loop over the sixteen chunks, with the values it stores. -/
module

public import proofs.«01_k».proof.Proof.Gen.MlstmIdeal.Frame
public import proofs.«01_k».proof.Proof.Gen.MlstmIdeal.Loops

@[expose] public section

set_option maxRecDepth 16384

noncomputable section

namespace Cert.Proof.MlstmIdeal

open Cert.MlstmIdeal Cert.MlstmIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ

/-- What one trip loads: the chunk's rows of the queries, keys, values, output gates and cotangents, its gate
    columns and rows, the transposed queries, and the state saved before the chunk. -/
structure Ld (F : FTy → Type) where
  q : Vec F S128x128 .f32
  k : Vec F S128x128 .f32
  v : Vec F S128x128 .f32
  li : Vec F S1x128x128 .f32
  b : Vec F S1x128x128 .f32
  lir : Vec F S1x1x128 .f32
  br : Vec F S1x1x128 .f32
  qt : Vec F S128x128 .bf16
  ct : Vec F S1x1x128x128 .f32
  n : Vec F S1x1x1x128 .f32
  m : Vec F S1x1x1x1 .f32
  o : Vec F S128x128 .f32
  dy : Vec F S128x128 .f32

namespace Ld

/-- The hidden state of the chunk's rows. -/
def h (L : Ld F) : FVec F S128x128 .f32 :=
  k0_pay30 L.q (k0_pay9 L.k) L.v (k0_pay11 L.b) (k0_pay12 L.lir) (k0_pay13 L.br) (k0_pay15 L.ct) (k0_pay16 L.n) L.m
/-- Its denominator. -/
def dn (L : Ld F) : FVec F S128x1 .f32 :=
  k0_pay29 L.q (k0_pay9 L.k) (k0_pay11 L.b) (k0_pay12 L.lir) (k0_pay13 L.br) (k0_pay16 L.n) L.m
/-- The gradient of the hidden state. -/
def dh (L : Ld F) (g : Vec F S1x128 .f32) : FVec F S128x128 .f32 := k0_pay36 g L.h L.o L.dy
/-- The chunk's own part of the gradient of the values. -/
def dvIn (L : Ld F) (g : Vec F S1x128 .f32) (rows cols : IVec S128x128 32) : FVec F S128x128 .f32 :=
  k0_pay50 (k0_pay38 L.dn (L.dh g)) (k0_pay43 rows cols L.q (k0_pay9 L.k) (k0_pay10 L.li) (k0_pay11 L.b) (k0_pay13 L.br)
    (k0_pay20 (k0_pay11 L.b) (k0_pay12 L.lir) (k0_pay13 L.br) L.m))
/-- The gradient of the values, the state's gradient behind the chunk being `D`. -/
def dv (L : Ld F) (g : Vec F S1x128 .f32) (rows cols : IVec S128x128 32) (D : Vec F S128x128 .f32) : FVec F S128x128 .bf16 :=
  k0_pay71 (k0_pay64 (k0_pay9 L.k) (k0_pay10 L.li) (k0_pay17 L.m) (L.dvIn g rows cols) (k0_pay54 (k0_pay11 L.b))
    (k0_pay55 (k0_pay11 L.b)) (k0_pay56 (k0_pay11 L.b)) D)
/-- The state's gradient before the chunk. -/
def dct (L : Ld F) (g : Vec F S1x128 .f32) (D : Vec F S128x128 .f32) : FVec F S128x128 .f32 :=
  k0_pay68 (k0_pay51 (k0_pay14 L.qt) (k0_pay40 (k0_pay22 (k0_pay11 L.b) (k0_pay12 L.lir) (k0_pay13 L.br) L.m) L.dn (L.dh g)))
    (k0_pay59 (k0_pay10 L.li) (k0_pay17 L.m) (k0_pay54 (k0_pay11 L.b)) (k0_pay55 (k0_pay11 L.b)) (k0_pay56 (k0_pay11 L.b))) D
/-- The gradient of the output gates. -/
def dO (L : Ld F) (g : Vec F S1x128 .f32) : FVec F S128x128 .bf16 := k0_pay35 g L.h L.o L.dy
/-- The norm's gradient with the chunk added. -/
def dg (L : Ld F) (a : Vec F S1x128 .f32) : FVec F S1x128 .f32 := k0_pay37 L.h L.o L.dy a
/-- The gradient of the score sum. -/
def dden (L : Ld F) (g : Vec F S1x128 .f32) : FVec F S128x1 .f32 :=
  k0_pay39 (k0_pay27 L.q (k0_pay9 L.k) (k0_pay11 L.b) (k0_pay12 L.lir) (k0_pay13 L.br) (k0_pay16 L.n) L.m)
    (k0_pay28 (k0_pay11 L.b) (k0_pay12 L.lir) (k0_pay13 L.br) L.m) L.dn L.h (L.dh g)
/-- The same through the state. -/
def idd (L : Ld F) (g : Vec F S1x128 .f32) : FVec F S128x1 .f32 :=
  k0_pay41 (k0_pay22 (k0_pay11 L.b) (k0_pay12 L.lir) (k0_pay13 L.br) L.m)
    (k0_pay27 L.q (k0_pay9 L.k) (k0_pay11 L.b) (k0_pay12 L.lir) (k0_pay13 L.br) (k0_pay16 L.n) L.m)
    (k0_pay28 (k0_pay11 L.b) (k0_pay12 L.lir) (k0_pay13 L.br) L.m) L.dn L.h (L.dh g)
/-- The gradient of the queries. -/
def dq (L : Ld F) (g : Vec F S1x128 .f32) : FVec F S128x128 .f32 :=
  k0_pay48 (k0_pay9 L.k) (k0_pay15 L.ct) (k0_pay16 L.n) (k0_pay21 (k0_pay11 L.b) (k0_pay12 L.lir) (k0_pay13 L.br) L.m)
    (k0_pay40 (k0_pay22 (k0_pay11 L.b) (k0_pay12 L.lir) (k0_pay13 L.br) L.m) L.dn (L.dh g)) (L.idd g) (k0_pay44 L.v L.dn (L.dh g))
    (k0_pay45 (k0_pay27 L.q (k0_pay9 L.k) (k0_pay11 L.b) (k0_pay12 L.lir) (k0_pay13 L.br) (k0_pay16 L.n) L.m)
      (k0_pay28 (k0_pay11 L.b) (k0_pay12 L.lir) (k0_pay13 L.br) L.m) L.dn L.h (L.dh g))
/-- The chunk's own part of the gradient of the scaled keys. -/
def dkIn (L : Ld F) (g : Vec F S1x128 .f32) (rows cols : IVec S128x128 32) : FVec F S128x128 .f32 :=
  k0_pay49 L.q L.v (k0_pay38 L.dn (L.dh g)) (L.dden g) (k0_pay42 rows cols (k0_pay10 L.li) (k0_pay11 L.b) (k0_pay13 L.br)
    (k0_pay20 (k0_pay11 L.b) (k0_pay12 L.lir) (k0_pay13 L.br) L.m))
/-- The gradient of the keys, the gradients of the state and of its normalizer behind the chunk being `D` and `E`. -/
def dk (L : Ld F) (g : Vec F S1x128 .f32) (rows cols : IVec S128x128 32) (D : Vec F S128x128 .f32) (E : Vec F S1x128 .f32) :
    FVec F S128x128 .f32 :=
  k0_pay70 (k0_pay62 L.v (k0_pay10 L.li) (k0_pay17 L.m) (L.dkIn g rows cols) (k0_pay54 (k0_pay11 L.b))
    (k0_pay55 (k0_pay11 L.b)) (k0_pay56 (k0_pay11 L.b)) D E)
/-- The gradient of the state's normalizer before the chunk. -/
def dnr (L : Ld F) (g : Vec F S1x128 .f32) (E : Vec F S1x128 .f32) : FVec F S1x128 .f32 :=
  k0_pay69 (k0_pay52 L.q (L.idd g))
    (k0_pay59 (k0_pay10 L.li) (k0_pay17 L.m) (k0_pay54 (k0_pay11 L.b)) (k0_pay55 (k0_pay11 L.b)) (k0_pay56 (k0_pay11 L.b))) E

end Ld

/-- Trip `k`'s loads. -/
def ld (c : Dev nD) (i : grid0.Coords) (arg1 : Memref sig .tc .vmem S2048x128 .f32) (arg2 : Memref sig .tc .vmem S2048x128 .f32) (arg3 : Memref sig .tc .vmem S128x2048 .bf16) (arg5 : Memref sig .tc .vmem S2048x128 .f32) (arg6 : Memref sig .tc .vmem S2048x128 .f32) (arg7 : Memref sig .tc .vmem S1x2048x128 .f32) (arg8 : Memref sig .tc .vmem S1x2048x128 .f32) (arg9 : Memref sig .tc .vmem S16x1x2048 .f32) (arg11 : Memref sig .tc .vmem S1x16x128x128 .f32) (arg12 : Memref sig .tc .vmem S1x16x8x128 .f32) (arg13 : Memref sig .tc .vmem S2048x128 .f32) (f1 : Buf (Elt F) (arg1.view.loc (c : Thread nD τ))) (f2 : Buf (Elt F) (arg2.view.loc (c : Thread nD τ))) (f3 : Buf (Elt F) (arg3.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f11 : Buf (Elt F) (arg11.view.loc (c : Thread nD τ))) (f12 : Buf (Elt F) (arg12.view.loc (c : Thread nD τ))) (f13 : Buf (Elt F) (arg13.view.loc (c : Thread nD τ))) (k : Fin k0_t1_loop.trips) : Ld F where
  q := View.readAt (Elt F) arg1.view (Rect.unit (s := S2048x128) (k0_off1 k) S128x128.size (k0_off1_inb k)).toLoadRect f1
  k := View.readAt (Elt F) arg2.view (Rect.unit (s := S2048x128) (k0_off1 k) S128x128.size (k0_off1_inb k)).toLoadRect f2
  v := View.readAt (Elt F) arg5.view (Rect.unit (s := S2048x128) (k0_off1 k) S128x128.size (k0_off1_inb k)).toLoadRect f5
  li := View.readAt (Elt F) arg7.view (Rect.unit (s := S1x2048x128) (k0_off2 k) S1x128x128.size (k0_off2_inb k)).toLoadRect f7
  b := View.readAt (Elt F) arg8.view (Rect.unit (s := S1x2048x128) (k0_off2 k) S1x128x128.size (k0_off2_inb k)).toLoadRect f8
  lir := View.readAt (Elt F) arg9.view (Rect.unit (s := S16x1x2048) (k0_off3 i k) S1x1x128.size (k0_off3_inb i k)).toLoadRect f9
  br := View.readAt (Elt F) arg9.view (Rect.unit (s := S16x1x2048) (k0_off4 i k) S1x1x128.size (k0_off4_inb i k)).toLoadRect f9
  qt := View.readAt (Elt F) arg3.view (Rect.unit (s := S128x2048) (k0_off5 k) S128x128.size (k0_off5_inb k)).toLoadRect f3
  ct := View.readAt (Elt F) arg11.view (Rect.unit (s := S1x16x128x128) (k0_off6 k) S1x1x128x128.size (k0_off6_inb k)).toLoadRect f11
  n := View.readAt (Elt F) arg12.view (Rect.unit (s := S1x16x8x128) (k0_off7 k) S1x1x1x128.size (k0_off7_inb k)).toLoadRect f12
  m := View.readAt (Elt F) arg12.view (Rect.unit (s := S1x16x8x128) (k0_off8 k) S1x1x1x1.size (k0_off8_inb k)).toLoadRect f12
  o := View.readAt (Elt F) arg6.view (Rect.unit (s := S2048x128) (k0_off1 k) S128x128.size (k0_off1_inb k)).toLoadRect f6
  dy := View.readAt (Elt F) arg13.view (Rect.unit (s := S2048x128) (k0_off1 k) S128x128.size (k0_off1_inb k)).toLoadRect f13

section States

variable (c : Dev nD) (L : Fin k0_t1_loop.trips → Ld F) (g : Vec F S1x128 .f32) (rows cols : IVec S128x128 32)
  (arg17 : Memref sig .tc .vmem S2048x128 .bf16) (arg18 : Memref sig .tc .vmem S2048x128 .bf16) (arg21 : Memref sig .tc .vmem S1x128 .f32) (arg22 : Memref sig .tc .vmem S128x128 .f32)
  (arg15 : Memref sig .tc .vmem S2048x128 .f32) (arg16 : Memref sig .tc .vmem S2048x128 .f32) (arg23 : Memref sig .tc .vmem S8x128 .f32)
  (G17 : Buf (Elt F) (arg17.view.loc (c : Thread nD τ))) (G18 : Buf (Elt F) (arg18.view.loc (c : Thread nD τ)))
  (G21 : Buf (Elt F) (arg21.view.loc (c : Thread nD τ))) (G22 : Buf (Elt F) (arg22.view.loc (c : Thread nD τ))) (G15 : Buf (Elt F) (arg15.view.loc (c : Thread nD τ))) (G16 : Buf (Elt F) (arg16.view.loc (c : Thread nD τ))) (G23 : Buf (Elt F) (arg23.view.loc (c : Thread nD τ)))

/-- The state's gradient after `n` trips. -/
def st22 : ℕ → Buf (Elt F) (arg22.view.loc (c : Thread nD τ))
  | 0 => G22
  | n + 1 => if h : n < k0_t1_loop.trips then
      arg22.view.writes (Elt F) (st22 n) [⟨Rect.unit ![0, 0] S128x128.size inb_S128x128_S128x128_0_0,
        (L ⟨n, h⟩).dct g (View.readAt (Elt F) arg22.view (Rect.unit (s := S128x128) ![0, 0] S128x128.size inb_S128x128_S128x128_0_0).toLoadRect (st22 n))⟩]
    else st22 n
/-- The norm's gradient after `n` trips. -/
def st21 : ℕ → Buf (Elt F) (arg21.view.loc (c : Thread nD τ))
  | 0 => G21
  | n + 1 => if h : n < k0_t1_loop.trips then
      arg21.view.writes (Elt F) (st21 n) [⟨Rect.unit ![0, 0] S1x128.size inb_S1x128_S1x128_0_0,
        (L ⟨n, h⟩).dg (View.readAt (Elt F) arg21.view (Rect.unit (s := S1x128) ![0, 0] S1x128.size inb_S1x128_S1x128_0_0).toLoadRect (st21 n))⟩]
    else st21 n
/-- The gradient of the output gates after `n` trips. -/
def st18 : ℕ → Buf (Elt F) (arg18.view.loc (c : Thread nD τ))
  | 0 => G18
  | n + 1 => if h : n < k0_t1_loop.trips then
      arg18.view.writes (Elt F) (st18 n) [⟨Rect.unit (k0_off1 ⟨n, h⟩) S128x128.size (k0_off1_inb ⟨n, h⟩), (L ⟨n, h⟩).dO g⟩]
    else st18 n
/-- The gradient of the values after `n` trips. -/
def st17 : ℕ → Buf (Elt F) (arg17.view.loc (c : Thread nD τ))
  | 0 => G17
  | n + 1 => if h : n < k0_t1_loop.trips then
      arg17.view.writes (Elt F) (st17 n) [⟨Rect.unit (k0_off1 ⟨n, h⟩) S128x128.size (k0_off1_inb ⟨n, h⟩),
        (L ⟨n, h⟩).dv g rows cols (View.readAt (Elt F) arg22.view (Rect.unit (s := S128x128) ![0, 0] S128x128.size inb_S128x128_S128x128_0_0).toLoadRect (st22 c L g arg22 G22 n))⟩]
    else st17 n
/-- The gradient of the state's normalizer after `n` trips. -/
def st23 : ℕ → Buf (Elt F) (arg23.view.loc (c : Thread nD τ))
  | 0 => G23
  | n + 1 => if h : n < k0_t1_loop.trips then
      arg23.view.writes (Elt F) (st23 n) [⟨Rect.unit ![0, 0] S1x128.size inb_S8x128_S1x128_0_0,
        (L ⟨n, h⟩).dnr g (View.readAt (Elt F) arg23.view (Rect.unit (s := S8x128) ![0, 0] S1x128.size inb_S8x128_S1x128_0_0).toLoadRect (st23 n))⟩]
    else st23 n
/-- The gradient of the queries after `n` trips. -/
def st15 : ℕ → Buf (Elt F) (arg15.view.loc (c : Thread nD τ))
  | 0 => G15
  | n + 1 => if h : n < k0_t1_loop.trips then
      arg15.view.writes (Elt F) (st15 n) [⟨Rect.unit (k0_off1 ⟨n, h⟩) S128x128.size (k0_off1_inb ⟨n, h⟩), (L ⟨n, h⟩).dq g⟩]
    else st15 n
/-- The gradient of the keys after `n` trips. -/
def st16 : ℕ → Buf (Elt F) (arg16.view.loc (c : Thread nD τ))
  | 0 => G16
  | n + 1 => if h : n < k0_t1_loop.trips then
      arg16.view.writes (Elt F) (st16 n) [⟨Rect.unit (k0_off1 ⟨n, h⟩) S128x128.size (k0_off1_inb ⟨n, h⟩),
        (L ⟨n, h⟩).dk g rows cols (View.readAt (Elt F) arg22.view (Rect.unit (s := S128x128) ![0, 0] S128x128.size inb_S128x128_S128x128_0_0).toLoadRect (st22 c L g arg22 G22 n))
          (View.readAt (Elt F) arg23.view (Rect.unit (s := S8x128) ![0, 0] S1x128.size inb_S8x128_S1x128_0_0).toLoadRect (st23 c L g arg23 G23 n))⟩]
    else st16 n

end States

/-- What is held before trip `n`: the blocks only read at their contents, the tracked memrefs at their contents
    after `n` trips, the others stored into at some contents. -/
abbrev Trip (c : Dev nD) (i : grid0.Coords) (arg1 : Memref sig .tc .vmem S2048x128 .f32) (arg2 : Memref sig .tc .vmem S2048x128 .f32) (arg3 : Memref sig .tc .vmem S128x2048 .bf16) (arg4 : Memref sig .tc .vmem S128x2048 .bf16) (arg5 : Memref sig .tc .vmem S2048x128 .f32) (arg6 : Memref sig .tc .vmem S2048x128 .f32) (arg7 : Memref sig .tc .vmem S1x2048x128 .f32) (arg8 : Memref sig .tc .vmem S1x2048x128 .f32) (arg9 : Memref sig .tc .vmem S16x1x2048 .f32) (arg11 : Memref sig .tc .vmem S1x16x128x128 .f32) (arg12 : Memref sig .tc .vmem S1x16x8x128 .f32) (arg13 : Memref sig .tc .vmem S2048x128 .f32) (arg17 : Memref sig .tc .vmem S2048x128 .bf16) (arg18 : Memref sig .tc .vmem S2048x128 .bf16) (arg21 : Memref sig .tc .vmem S1x128 .f32) (arg22 : Memref sig .tc .vmem S128x128 .f32) (arg15 : Memref sig .tc .vmem S2048x128 .f32) (arg16 : Memref sig .tc .vmem S2048x128 .f32) (arg19 : Memref sig .tc .vmem S2048x128 .f32) (arg20 : Memref sig .tc .vmem S8x1x2048 .f32) (arg23 : Memref sig .tc .vmem S8x128 .f32) (v0 : Vec F S1x128 .f32) (v14 v15 : IVec S128x128 32) (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f11 : Buf (Elt F) (arg11.view.loc (c : Thread nD τ))) (f12 : Buf (Elt F) (arg12.view.loc (c : Thread nD τ))) (f13 : Buf (Elt F) (arg13.view.loc (c : Thread nD τ)))
    (G17 : Buf (Elt F) (arg17.view.loc (c : Thread nD τ))) (G18 : Buf (Elt F) (arg18.view.loc (c : Thread nD τ)))
    (G21 : Buf (Elt F) (arg21.view.loc (c : Thread nD τ))) (G22 : Buf (Elt F) (arg22.view.loc (c : Thread nD τ))) (G15 : Buf (Elt F) (arg15.view.loc (c : Thread nD τ))) (G16 : Buf (Elt F) (arg16.view.loc (c : Thread nD τ))) (G23 : Buf (Elt F) (arg23.view.loc (c : Thread nD τ))) (n : ℕ) : sProp 𝕄 :=
  iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)
    ∗ (∃ f, (arg19.view.loc (c : Thread nD τ) ↦[arg19.view.set]{fullShare} f)) ∗ (∃ f, (arg20.view.loc (c : Thread nD τ) ↦[arg20.view.set]{fullShare} f))
    ∗ (∃ f, (arg17.view.loc (c : Thread nD τ) ↦[arg17.view.set]{fullShare} f) ∗ ⌜f = st17 c (ld c i arg1 arg2 arg3 arg5 arg6 arg7 arg8 arg9 arg11 arg12 arg13 f1 f2 f3 f5 f6 f7 f8 f9 f11 f12 f13) v0 v14 v15 arg17 arg22 G17 G22 n⌝)
    ∗ (∃ f, (arg18.view.loc (c : Thread nD τ) ↦[arg18.view.set]{fullShare} f) ∗ ⌜f = st18 c (ld c i arg1 arg2 arg3 arg5 arg6 arg7 arg8 arg9 arg11 arg12 arg13 f1 f2 f3 f5 f6 f7 f8 f9 f11 f12 f13) v0 arg18 G18 n⌝)
    ∗ (∃ f, (arg21.view.loc (c : Thread nD τ) ↦[arg21.view.set]{fullShare} f) ∗ ⌜f = st21 c (ld c i arg1 arg2 arg3 arg5 arg6 arg7 arg8 arg9 arg11 arg12 arg13 f1 f2 f3 f5 f6 f7 f8 f9 f11 f12 f13) arg21 G21 n⌝)
    ∗ (∃ f, (arg22.view.loc (c : Thread nD τ) ↦[arg22.view.set]{fullShare} f) ∗ ⌜f = st22 c (ld c i arg1 arg2 arg3 arg5 arg6 arg7 arg8 arg9 arg11 arg12 arg13 f1 f2 f3 f5 f6 f7 f8 f9 f11 f12 f13) v0 arg22 G22 n⌝)
    ∗ (∃ f, (arg15.view.loc (c : Thread nD τ) ↦[arg15.view.set]{fullShare} f) ∗ ⌜f = st15 c (ld c i arg1 arg2 arg3 arg5 arg6 arg7 arg8 arg9 arg11 arg12 arg13 f1 f2 f3 f5 f6 f7 f8 f9 f11 f12 f13) v0 arg15 G15 n⌝)
    ∗ (∃ f, (arg16.view.loc (c : Thread nD τ) ↦[arg16.view.set]{fullShare} f) ∗ ⌜f = st16 c (ld c i arg1 arg2 arg3 arg5 arg6 arg7 arg8 arg9 arg11 arg12 arg13 f1 f2 f3 f5 f6 f7 f8 f9 f11 f12 f13) v0 v14 v15 arg22 arg16 arg23 G22 G16 G23 n⌝)
    ∗ (∃ f, (arg23.view.loc (c : Thread nD τ) ↦[arg23.view.set]{fullShare} f) ∗ ⌜f = st23 c (ld c i arg1 arg2 arg3 arg5 arg6 arg7 arg8 arg9 arg11 arg12 arg13 f1 f2 f3 f5 f6 f7 f8 f9 f11 f12 f13) v0 arg23 G23 n⌝))

set_option maxHeartbeats 4000000 in
/-- One trip, at a symbolic trip. -/
theorem trip_sound (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S128x2048 .bf16) (harg3 : arg3.IsWhole) (arg4 : Memref sig .tc .vmem S128x2048 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S16x1x2048 .f32) (harg9 : arg9.IsWhole) (arg10 : Memref sig .tc .vmem S1x128 .f32) (harg10 : arg10.IsWhole) (arg11 : Memref sig .tc .vmem S1x16x128x128 .f32) (harg11 : arg11.IsWhole) (arg12 : Memref sig .tc .vmem S1x16x8x128 .f32) (harg12 : arg12.IsWhole) (arg13 : Memref sig .tc .vmem S2048x128 .f32) (harg13 : arg13.IsWhole) (arg14 : Memref sig .tc .hbm S8x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2048x128 .bf16) (harg17 : arg17.IsWhole) (arg18 : Memref sig .tc .vmem S2048x128 .bf16) (harg18 : arg18.IsWhole) (arg19 : Memref sig .tc .vmem S2048x128 .f32) (harg19 : arg19.IsWhole) (arg20 : Memref sig .tc .vmem S8x1x2048 .f32) (harg20 : arg20.IsWhole) (arg21 : Memref sig .tc .vmem S1x128 .f32) (harg21 : arg21.IsWhole) (arg22 : Memref sig .tc .vmem S128x128 .f32) (harg22 : arg22.IsWhole) (arg23 : Memref sig .tc .vmem S8x128 .f32) (harg23 : arg23.IsWhole) (arg0 : BitVec 32) (v0 : Vec F S1x128 .f32) (v14 : IVec S128x128 32) (v15 : IVec S128x128 32) (v19 : IVec S128x128 32) (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f11 : Buf (Elt F) (arg11.view.loc (c : Thread nD τ))) (f12 : Buf (Elt F) (arg12.view.loc (c : Thread nD τ))) (f13 : Buf (Elt F) (arg13.view.loc (c : Thread nD τ))) (G17 : Buf (Elt F) (arg17.view.loc (c : Thread nD τ))) (G18 : Buf (Elt F) (arg18.view.loc (c : Thread nD τ))) (G21 : Buf (Elt F) (arg21.view.loc (c : Thread nD τ))) (G22 : Buf (Elt F) (arg22.view.loc (c : Thread nD τ))) (G15 : Buf (Elt F) (arg15.view.loc (c : Thread nD τ))) (G16 : Buf (Elt F) (arg16.view.loc (c : Thread nD τ))) (G23 : Buf (Elt F) (arg23.view.loc (c : Thread nD τ))) (k : Fin k0_t1_loop.trips) (acc : Unit) :
    Trip (F := F) c i arg1 arg2 arg3 arg4 arg5 arg6 arg7 arg8 arg9 arg11 arg12 arg13 arg17 arg18 arg21 arg22 arg15 arg16 arg19 arg20 arg23 v0 v14 v15 f1 f2 f3 f4 f5 f6 f7 f8 f9 f11 f12 f13 G17 G18 G21 G22 G15 G16 G23 k.val
      ⊢ wp frame (wpE (defs₀ (F := F)) Variants.none c none) Set.univ (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v0 v14 v15 v19 k acc)
          (fun _ => Trip (F := F) c i arg1 arg2 arg3 arg4 arg5 arg6 arg7 arg8 arg9 arg11 arg12 arg13 arg17 arg18 arg21 arg22 arg15 arg16 arg19 arg20 arg23 v0 v14 v15 f1 f2 f3 f4 f5 f6 f7 f8 f9 f11 f12 f13 G17 G18 G21 G22 G15 G16 G23 (k.val + 1)) := by
  unfold k0_t1_body
  simp only [k0_part1_eq_skeleton, k0_part2_eq_skeleton, k0_part3_eq_skeleton, k0_part4_eq_skeleton, k0_part5_eq_skeleton, k0_part6_eq_skeleton, k0_part7_eq_skeleton]
  iintro ⟨H1, H2, H3, H4, H5, H6, H7, H8, H9, H11, H12, H13, ⟨%g19, H19⟩, ⟨%g20, H20⟩, ⟨%g17, H17, %e17⟩, ⟨%g18, H18, %e18⟩, ⟨%g21, H21, %e21⟩, ⟨%g22, H22, %e22⟩, ⟨%g15, H15, %e15⟩, ⟨%g16, H16, %e16⟩, ⟨%g23, H23, %e23⟩⟩
  sl_exec
  sl_step
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H11]; · iexact H11
  isplitl [H12]; · iexact H12
  isplitl [H13]; · iexact H13
  isplitl [H19]; · iexists _; iexact H19
  isplitl [H20]; · iexists _; iexact H20
  isplitl [H17]
  · iexists _; isplitl; · iexact H17
    ipureintro; subst e17 e18 e21 e22 e15 e16 e23; rw [st17, dif_pos k.isLt]; rfl
  isplitl [H18]
  · iexists _; isplitl; · iexact H18
    ipureintro; subst e17 e18 e21 e22 e15 e16 e23; rw [st18, dif_pos k.isLt]; rfl
  isplitl [H21]
  · iexists _; isplitl; · iexact H21
    ipureintro; subst e17 e18 e21 e22 e15 e16 e23; rw [st21, dif_pos k.isLt]; rfl
  isplitl [H22]
  · iexists _; isplitl; · iexact H22
    ipureintro; subst e17 e18 e21 e22 e15 e16 e23; rw [st22, dif_pos k.isLt]; rfl
  isplitl [H15]
  · iexists _; isplitl; · iexact H15
    ipureintro; subst e17 e18 e21 e22 e15 e16 e23; rw [st15, dif_pos k.isLt]; rfl
  isplitl [H16]
  · iexists _; isplitl; · iexact H16
    ipureintro; subst e17 e18 e21 e22 e15 e16 e23; rw [st16, dif_pos k.isLt]; rfl
  iexists _; isplitl; · iexact H23
  ipureintro; subst e17 e18 e21 e22 e15 e16 e23; rw [st23, dif_pos k.isLt]; rfl

/-- The loop's invariant. -/
@[sl_loop] def loopInv (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S128x2048 .bf16) (harg3 : arg3.IsWhole) (arg4 : Memref sig .tc .vmem S128x2048 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S16x1x2048 .f32) (harg9 : arg9.IsWhole) (arg10 : Memref sig .tc .vmem S1x128 .f32) (harg10 : arg10.IsWhole) (arg11 : Memref sig .tc .vmem S1x16x128x128 .f32) (harg11 : arg11.IsWhole) (arg12 : Memref sig .tc .vmem S1x16x8x128 .f32) (harg12 : arg12.IsWhole) (arg13 : Memref sig .tc .vmem S2048x128 .f32) (harg13 : arg13.IsWhole) (arg14 : Memref sig .tc .hbm S8x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2048x128 .bf16) (harg17 : arg17.IsWhole) (arg18 : Memref sig .tc .vmem S2048x128 .bf16) (harg18 : arg18.IsWhole) (arg19 : Memref sig .tc .vmem S2048x128 .f32) (harg19 : arg19.IsWhole) (arg20 : Memref sig .tc .vmem S8x1x2048 .f32) (harg20 : arg20.IsWhole) (arg21 : Memref sig .tc .vmem S1x128 .f32) (harg21 : arg21.IsWhole) (arg22 : Memref sig .tc .vmem S128x128 .f32) (harg22 : arg22.IsWhole) (arg23 : Memref sig .tc .vmem S8x128 .f32) (harg23 : arg23.IsWhole) (arg0 : BitVec 32) (v0 : Vec F S1x128 .f32) (v14 : IVec S128x128 32) (v15 : IVec S128x128 32) (v19 : IVec S128x128 32) (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f11 : Buf (Elt F) (arg11.view.loc (c : Thread nD τ))) (f12 : Buf (Elt F) (arg12.view.loc (c : Thread nD τ))) (f13 : Buf (Elt F) (arg13.view.loc (c : Thread nD τ))) (G17 : Buf (Elt F) (arg17.view.loc (c : Thread nD τ))) (G18 : Buf (Elt F) (arg18.view.loc (c : Thread nD τ))) (G21 : Buf (Elt F) (arg21.view.loc (c : Thread nD τ))) (G22 : Buf (Elt F) (arg22.view.loc (c : Thread nD τ))) (G15 : Buf (Elt F) (arg15.view.loc (c : Thread nD τ))) (G16 : Buf (Elt F) (arg16.view.loc (c : Thread nD τ))) (G23 : Buf (Elt F) (arg23.view.loc (c : Thread nD τ))) :
    LoopInvTy_k0_t1 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v0 v14 v15 v19 where
  inv := fun n _ => Trip (F := F) c i arg1 arg2 arg3 arg4 arg5 arg6 arg7 arg8 arg9 arg11 arg12 arg13 arg17 arg18 arg21 arg22 arg15 arg16 arg19 arg20 arg23 v0 v14 v15 f1 f2 f3 f4 f5 f6 f7 f8 f9 f11 f12 f13 G17 G18 G21 G22 G15 G16 G23 n
  step := fun k acc => trip_sound c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v0 v14 v15 v19 f1 f2 f3 f4 f5 f6 f7 f8 f9 f11 f12 f13 G17 G18 G21 G22 G15 G16 G23 k acc

end Cert.Proof.MlstmIdeal

end
-- ==== Proof.MlstmIdeal.Spec.lean ====
/- What one head leaves in its blocks, over the blocks it reads. -/
module

public import proofs.«01_k».proof.Proof.MlstmIdeal.Loop
public import Idealize.ShloMosaic.Lib.WholeRead
public import Idealize.ShloMosaic.Lib.ValueIdxCore
public import Idealize.ShloMosaic.Lib.Pipeline.ValueKit
public import Idealize.ShloMosaic.Lib.VecWindow

@[expose] public section

set_option maxRecDepth 16384

noncomputable section

namespace Cert.Proof.MlstmIdeal

open Cert.MlstmIdeal Cert.MlstmIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Row `a` of the chunk of trip `k`. -/
def row (k : Fin k0_t1_loop.trips) (a : Fin 128) : Fin 2048 := ⟨1920 - 128 * k.val + a.val, by have := a.isLt; omega⟩

/-- The chunk of trip `k`: the chunks are walked from the last to the first. -/
def chunk (k : Fin k0_t1_loop.trips) : Fin 16 := ⟨15 - k.val, by omega⟩

/-- Trip `k`'s loads over the blocks. -/
def ldx (i : grid0.Coords) (x0 x1 : Vec F S2048x128 .f32) (x2 : Vec F S128x2048 .bf16) (x4 x5 : Vec F S2048x128 .f32) (x6 x7 : Vec F S1x2048x128 .f32) (x8 : Vec F S16x1x2048 .f32) (x10 : Vec F S1x16x128x128 .f32) (x11 : Vec F S1x16x8x128 .f32) (x12 : Vec F S2048x128 .f32) (k : Fin k0_t1_loop.trips) : Ld F where
  q := fun j => x0 (ix2 (row k (j 0)) (j 1))
  k := fun j => x1 (ix2 (row k (j 0)) (j 1))
  v := fun j => x4 (ix2 (row k (j 0)) (j 1))
  li := fun j => x6 (ix3 (j 0) (row k (j 1)) (j 2))
  b := fun j => x7 (ix3 (j 0) (row k (j 1)) (j 2))
  lir := fun j => x8 (ix3 ⟨(i 0).val, by have h : (i 0).val < 8 := (i 0).isLt; omega⟩ (j 1) (row k (j 2)))
  br := fun j => x8 (ix3 ⟨(i 0).val + 8, by have h : (i 0).val < 8 := (i 0).isLt; omega⟩ (j 1) (row k (j 2)))
  qt := fun j => x2 (ix2 (j 0) (row k (j 1)))
  ct := fun j => x10 (ix4 (j 0) (chunk k) (j 2) (j 3))
  n := fun j => x11 (ix4 (j 0) (chunk k) 0 (j 3))
  m := fun j => x11 (ix4 (j 0) (chunk k) 1 0)
  o := fun j => x5 (ix2 (row k (j 0)) (j 1))
  dy := fun j => x12 (ix2 (row k (j 0)) (j 1))

/-- A load through a unit rectangle of a block held whole reads the block at the offsets plus the index. -/
theorem readAt_at {sg : RefSig} {κ : Kind} {sp : Space} {sh : Shape} {e : EltTy} {Val : EltTy → Type} {mr : Memref sg κ sp sh e}
    (hm : mr.IsWhole) (X : sh.Idx → Val e) {off off' size : Fin sh.rank → ℕ} {inb : ∀ a, off a + size a ≤ sh.size a} (heq : off = off')
    (j : (Rect.unit off size inb).toLoadRect.shape.Idx) (y : sh.Idx) (hy : ∀ a : Fin sh.rank, (y a).val = off' a + (j a).val) :
    View.readAt Val mr.view (Rect.unit off size inb).toLoadRect (hm.unread X) j = X y := by
  subst heq
  refine (hm.readAt_unread X _ j).trans (congrArg X (funext fun a => Fin.ext ?_))
  rw [hy a]
  show off a + 1 * (j a).val = _
  rw [Nat.one_mul]

theorem one_axis (n : ℕ) (a : Fin 1) : n = n + a.val := by omega

theorem ld_eq (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S128x2048 .bf16) (harg3 : arg3.IsWhole) (arg5 : Memref sig .tc .vmem S2048x128 .f32) (harg5 : arg5.IsWhole) (arg6 : Memref sig .tc .vmem S2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S16x1x2048 .f32) (harg9 : arg9.IsWhole) (arg11 : Memref sig .tc .vmem S1x16x128x128 .f32) (harg11 : arg11.IsWhole) (arg12 : Memref sig .tc .vmem S1x16x8x128 .f32) (harg12 : arg12.IsWhole) (arg13 : Memref sig .tc .vmem S2048x128 .f32) (harg13 : arg13.IsWhole) (x0 x1 : Vec F S2048x128 .f32) (x2 : Vec F S128x2048 .bf16) (x4 x5 : Vec F S2048x128 .f32) (x6 x7 : Vec F S1x2048x128 .f32) (x8 : Vec F S16x1x2048 .f32) (x10 : Vec F S1x16x128x128 .f32) (x11 : Vec F S1x16x8x128 .f32) (x12 : Vec F S2048x128 .f32) :
    ld c i arg1 arg2 arg3 arg5 arg6 arg7 arg8 arg9 arg11 arg12 arg13 (harg1.unread x0) (harg2.unread x1) (harg3.unread x2) (harg5.unread x4) (harg6.unread x5) (harg7.unread x6) (harg8.unread x7) (harg9.unread x8) (harg11.unread x10) (harg12.unread x11) (harg13.unread x12) = ldx i x0 x1 x2 x4 x5 x6 x7 x8 x10 x11 x12 := by
  funext k
  unfold ld ldx
  congr 1
  · funext j
    exact readAt_at harg1 _ (k0_off1_eq k) j _ (Fin.forall_fin_two.mpr ⟨rfl, (Nat.zero_add _).symm⟩)
  · funext j
    exact readAt_at harg2 _ (k0_off1_eq k) j _ (Fin.forall_fin_two.mpr ⟨rfl, (Nat.zero_add _).symm⟩)
  · funext j
    exact readAt_at harg5 _ (k0_off1_eq k) j _ (Fin.forall_fin_two.mpr ⟨rfl, (Nat.zero_add _).symm⟩)
  · funext j
    exact readAt_at harg7 _ (k0_off2_eq k) j _ (Fin.forall_fin_succ.mpr ⟨(Nat.zero_add _).symm, Fin.forall_fin_two.mpr ⟨rfl, (Nat.zero_add _).symm⟩⟩)
  · funext j
    exact readAt_at harg8 _ (k0_off2_eq k) j _ (Fin.forall_fin_succ.mpr ⟨(Nat.zero_add _).symm, Fin.forall_fin_two.mpr ⟨rfl, (Nat.zero_add _).symm⟩⟩)
  · funext j
    exact readAt_at harg9 _ (k0_off3_eq i k) j _ (Fin.forall_fin_succ.mpr ⟨one_axis (i 0).val (j 0), Fin.forall_fin_two.mpr ⟨(Nat.zero_add _).symm, rfl⟩⟩)
  · funext j
    exact readAt_at harg9 _ (k0_off4_eq i k) j _ (Fin.forall_fin_succ.mpr ⟨one_axis ((i 0).val + 8) (j 0), Fin.forall_fin_two.mpr ⟨(Nat.zero_add _).symm, rfl⟩⟩)
  · funext j
    exact readAt_at harg3 _ (k0_off5_eq k) j _ (Fin.forall_fin_two.mpr ⟨(Nat.zero_add _).symm, rfl⟩)
  · funext j
    exact readAt_at harg11 _ (k0_off6_eq k) j _ (Fin.forall_fin_succ.mpr ⟨(Nat.zero_add _).symm, Fin.forall_fin_succ.mpr ⟨one_axis (15 - k.val) (j 1), Fin.forall_fin_two.mpr ⟨(Nat.zero_add _).symm, (Nat.zero_add _).symm⟩⟩⟩)
  · funext j
    exact readAt_at harg12 _ (k0_off7_eq k) j _ (Fin.forall_fin_succ.mpr ⟨(Nat.zero_add _).symm, Fin.forall_fin_succ.mpr ⟨one_axis (15 - k.val) (j 1), Fin.forall_fin_two.mpr ⟨one_axis 0 (j 2), (Nat.zero_add _).symm⟩⟩⟩)
  · funext j
    exact readAt_at harg12 _ (k0_off8_eq k) j _ (Fin.forall_fin_succ.mpr ⟨(Nat.zero_add _).symm, Fin.forall_fin_succ.mpr ⟨one_axis (15 - k.val) (j 1), Fin.forall_fin_two.mpr ⟨one_axis 1 (j 2), one_axis 0 (j 3)⟩⟩⟩)
  · funext j
    exact readAt_at harg6 _ (k0_off1_eq k) j _ (Fin.forall_fin_two.mpr ⟨rfl, (Nat.zero_add _).symm⟩)
  · funext j
    exact readAt_at harg13 _ (k0_off1_eq k) j _ (Fin.forall_fin_two.mpr ⟨rfl, (Nat.zero_add _).symm⟩)

section Values

variable (L : Fin k0_t1_loop.trips → Ld F) (g : Vec F S1x128 .f32) (rows cols : IVec S128x128 32)

/-- The state's gradient behind the chunk of trip `n`. -/
def D : ℕ → Vec F S128x128 .f32
  | 0 => k0_pay3
  | n + 1 => if h : n < k0_t1_loop.trips then (L ⟨n, h⟩).dct g (D n) else D n

/-- The first row of the zeros the gradient of the state's normalizer starts from. -/
def zeroRow : Vec F S1x128 .f32 := fun y => k0_pay4 (ix2 0 (y 1))
/-- The gradient of the state's normalizer behind the chunk of trip `n`. -/
def DN : ℕ → Vec F S1x128 .f32
  | 0 => zeroRow
  | n + 1 => if h : n < k0_t1_loop.trips then (L ⟨n, h⟩).dnr g (DN n) else DN n

/-- The norm's gradient over the chunks of the trips before `n`. -/
def DG : ℕ → Vec F S1x128 .f32
  | 0 => k0_pay5
  | n + 1 => if h : n < k0_t1_loop.trips then (L ⟨n, h⟩).dg (DG n) else DG n

/-- The trip that computes row `r`. -/
def tripOf (r : Fin 2048) : Fin k0_t1_loop.trips := ⟨15 - r.val / 128, by show _ < 16; omega⟩
/-- Row `r` within its chunk. -/
def loc (r : Fin 2048) : Fin 128 := ⟨r.val % 128, Nat.mod_lt _ (by omega)⟩

/-- The head's gradient of the values. -/
def dvAll : Vec F S2048x128 .bf16 := fun y =>
  (L (tripOf (y 0))).dv g rows cols (D L g (tripOf (y 0)).val) (ix2 (loc (y 0)) (y 1))
/-- The head's gradient of the output gates. -/
def doAll : Vec F S2048x128 .bf16 := fun y => (L (tripOf (y 0))).dO g (ix2 (loc (y 0)) (y 1))

/-- The head's gradient of the queries. -/
def dqAll : Vec F S2048x128 .f32 := fun y => (L (tripOf (y 0))).dq g (ix2 (loc (y 0)) (y 1))
/-- The head's gradient of the keys. -/
def dkAll : Vec F S2048x128 .f32 := fun y =>
  (L (tripOf (y 0))).dk g rows cols (D L g (tripOf (y 0)).val) (DN L g (tripOf (y 0)).val) (ix2 (loc (y 0)) (y 1))

/-- Sixteen stores of a chunk's rows each, the last chunk first, leave every row. -/
theorem rows_filled {sg : RefSig} {κ : Kind} {sp : Space} {e : EltTy} {Val : EltTy → Type} (v : View sg κ sp S2048x128 e)
    (st : ℕ → v.ty.Contents Val) (w : Fin k0_t1_loop.trips → S128x128.Idx → Val e)
    (hs : ∀ n (h : n < k0_t1_loop.trips), st (n + 1) = v.writes Val (st n)
      [⟨Rect.unit (s := S2048x128) (k0_off1 ⟨n, h⟩) S128x128.size (k0_off1_inb ⟨n, h⟩), w ⟨n, h⟩⟩])
    (n : ℕ) (hn : n ≤ 16) (y : S2048x128.Idx) (hy : 2048 - 128 * n ≤ (y 0).val) :
    v.read Val (st n) y = w (tripOf (y 0)) (ix2 (loc (y 0)) (y 1)) := by
  have hlt : (y 0).val < 2048 := (y 0).isLt
  induction n with
  | zero => omega
  | succ n ih =>
    have h : n < k0_t1_loop.trips := hn
    rw [hs n h]
    by_cases hm : 2048 - 128 * n ≤ (y 0).val
    · rw [View.read_writes_cons_rows_of_not_mem v (st n) (k0_off1_inb ⟨n, h⟩) (w ⟨n, h⟩) [] y (k0_off1_eq ⟨n, h⟩) (W := 128) rfl (Or.inr (by show 1920 - 128 * n + 128 ≤ _; omega))]
      exact ih (by omega) hm
    · have ht : tripOf (y 0) = ⟨n, h⟩ := Fin.ext (by show 15 - (y 0).val / 128 = n; omega)
      rw [ht]
      exact View.read_writes_cons_rows_of_mem v (st n) (k0_off1_inb ⟨n, h⟩) (w ⟨n, h⟩) [] y (ix2 (loc (y 0)) (y 1)) (k0_off1_eq ⟨n, h⟩)
        (by show (y 0).val = 1920 - 128 * n + (y 0).val % 128; omega) rfl

variable (c : Dev nD)
  (arg17 : Memref sig .tc .vmem S2048x128 .bf16) (arg18 : Memref sig .tc .vmem S2048x128 .bf16) (arg21 : Memref sig .tc .vmem S1x128 .f32) (arg22 : Memref sig .tc .vmem S128x128 .f32)
  (G17 : Buf (Elt F) (arg17.view.loc (c : Thread nD τ))) (G18 : Buf (Elt F) (arg18.view.loc (c : Thread nD τ)))
  (G21 : Buf (Elt F) (arg21.view.loc (c : Thread nD τ))) (G22 : Buf (Elt F) (arg22.view.loc (c : Thread nD τ)))
  (arg15 : Memref sig .tc .vmem S2048x128 .f32) (arg16 : Memref sig .tc .vmem S2048x128 .f32) (arg23 : Memref sig .tc .vmem S8x128 .f32)
  (G15 : Buf (Elt F) (arg15.view.loc (c : Thread nD τ))) (G16 : Buf (Elt F) (arg16.view.loc (c : Thread nD τ))) (G23 : Buf (Elt F) (arg23.view.loc (c : Thread nD τ)))

theorem read_st22 (h0 : arg22.view.read (Elt F) G22 = k0_pay3) (n : ℕ) : arg22.view.read (Elt F) (st22 c L g arg22 G22 n) = D L g n := by
  induction n with
  | zero => exact h0
  | succ n ih =>
    rw [st22, D]
    split
    · rw [View.readAt_full, ih]; exact View.read_writes_full _ _ inb_S128x128_S128x128_0_0 _ _
    · exact ih

theorem read_st21 (h0 : arg21.view.read (Elt F) G21 = k0_pay5) (n : ℕ) : arg21.view.read (Elt F) (st21 c L arg21 G21 n) = DG L n := by
  induction n with
  | zero => exact h0
  | succ n ih =>
    rw [st21, DG]
    split
    · rw [View.readAt_full, ih]; exact View.read_writes_full _ _ inb_S1x128_S1x128_0_0 _ _
    · exact ih

theorem read_st18 : arg18.view.read (Elt F) (st18 c L g arg18 G18 16) = doAll L g := by
  funext y
  exact rows_filled arg18.view (st18 c L g arg18 G18) (fun k => (L k).dO g) (fun n h => by rw [st18, dif_pos h]) 16 le_rfl y (Nat.zero_le _)

theorem read_st17 (h0 : arg22.view.read (Elt F) G22 = k0_pay3) :
    arg17.view.read (Elt F) (st17 c L g rows cols arg17 arg22 G17 G22 16) = dvAll L g rows cols := by
  funext y
  refine (rows_filled arg17.view (st17 c L g rows cols arg17 arg22 G17 G22) (fun k => (L k).dv g rows cols (D L g k.val))
    (fun n h => ?_) 16 le_rfl y (Nat.zero_le _)).trans rfl
  rw [st17, dif_pos h, View.readAt_full, read_st22 L g c arg22 G22 h0]

theorem read_st23 (h0 : arg23.view.read (Elt F) G23 = k0_pay4) (n : ℕ) :
    View.readAt (Elt F) arg23.view (Rect.unit (s := S8x128) ![0, 0] S1x128.size inb_S8x128_S1x128_0_0).toLoadRect (st23 c L g arg23 G23 n) = DN L g n := by
  induction n with
  | zero =>
    funext y
    rw [st23, DN, View.readAt_apply, h0, zeroRow]
    refine congrArg k0_pay4 (funext fun a => Fin.ext ?_)
    have hy : (y 0).val < 1 := (y 0).isLt
    revert a
    exact Fin.forall_fin_two.mpr ⟨by show 0 + 1 * (y 0).val = 0; omega, by show 0 + 1 * (y 1).val = (y 1).val; omega⟩
  | succ n ih =>
    rw [st23, DN]
    split
    · rw [ih]
      funext y
      exact View.read_writes_cons_emb _ _ _ _ _ y
    · exact ih

theorem read_st15 : arg15.view.read (Elt F) (st15 c L g arg15 G15 16) = dqAll L g := by
  funext y
  exact rows_filled arg15.view (st15 c L g arg15 G15) (fun k => (L k).dq g) (fun n h => by rw [st15, dif_pos h]) 16 le_rfl y (Nat.zero_le _)

theorem read_st16 (h22 : arg22.view.read (Elt F) G22 = k0_pay3) (h23 : arg23.view.read (Elt F) G23 = k0_pay4) :
    arg16.view.read (Elt F) (st16 c L g rows cols arg22 arg16 arg23 G22 G16 G23 16) = dkAll L g rows cols := by
  funext y
  refine (rows_filled arg16.view (st16 c L g rows cols arg22 arg16 arg23 G22 G16 G23) (fun k => (L k).dk g rows cols (D L g k.val) (DN L g k.val))
    (fun n h => ?_) 16 le_rfl y (Nat.zero_le _)).trans rfl
  rw [st16, dif_pos h, View.readAt_full, read_st22 L g c arg22 G22 h22, read_st23 L g c arg23 G23 h23]

end Values

end Cert.Proof.MlstmIdeal

end
-- ==== Proof.MlstmIdeal.Math.lean ====
/- The cell over the real numbers: gate sums, running maxima, states and gradients, chunk by chunk and in whole. -/
module

public import Idealize.ShloMosaic.Lib.IdealHost

@[expose] public section

noncomputable section

namespace Cert.Proof.MlstmIdeal

open Finset

/-- One head's sequences: the gates' logarithms, the rows of `q`, of the scaled `k`, of `v`, of the output gates (through the logistic) and of the
    incoming gradient, and the norm's weights. `e` is what the norm adds under its root and `z` is what it divides by. -/
structure Seq where
  lf : ℕ → ℝ
  li : ℕ → ℝ
  q : ℕ → Fin 128 → ℝ
  ks : ℕ → Fin 128 → ℝ
  v : ℕ → Fin 128 → ℝ
  sig : ℕ → Fin 128 → ℝ
  dy : ℕ → Fin 128 → ℝ
  g : Fin 128 → ℝ
  e : ℝ
  z : ℝ

namespace Seq

variable (S : Seq)

/-- The sum of the forget gates' logarithms before row `n`. -/
def P (n : ℕ) : ℝ := ∑ s ∈ range n, S.lf s
/-- An input gate's logarithm less the forget gates' up to it. -/
def a (j : ℕ) : ℝ := S.li j - S.P (j + 1)
/-- The greatest of zero and the `a`s before row `n`. -/
def N : ℕ → ℝ
  | 0 => 0
  | n + 1 => max (N n) (S.a n)

theorem P_succ (n : ℕ) : S.P (n + 1) = S.P n + S.lf n := sum_range_succ _ _
theorem N_succ (n : ℕ) : S.N (n + 1) = max (S.N n) (S.a n) := rfl
theorem N_mono {m n : ℕ} (h : m ≤ n) : S.N m ≤ S.N n := monotone_nat_of_le_succ (fun n => le_max_left _ _) h
theorem a_le_N {j n : ℕ} (h : j < n) : S.a j ≤ S.N n := (le_max_right _ _).trans (S.N_mono (Nat.succ_le_of_lt h))
theorem N_attained (m n : ℕ) (h : m ≤ n) : S.N n = S.N m ∨ ∃ j, m ≤ j ∧ j < n ∧ S.a j = S.N n := by
  induction n, h using Nat.le_induction with
  | base => exact Or.inl rfl
  | succ n hn ih =>
    rcases le_total (S.N n) (S.a n) with h | h
    · exact Or.inr ⟨n, hn, Nat.lt_succ_self n, (max_eq_right h).symm⟩
    · rw [S.N_succ, max_eq_left h]
      rcases ih with ih | ⟨j, h1, h2, h3⟩
      · exact Or.inl ih
      · exact Or.inr ⟨j, h1, Nat.lt_succ_of_lt h2, h3⟩

/-- The gates' weight of row `j` in row `t`. -/
def w (t j : ℕ) : ℝ := if j ≤ t then Real.exp (S.a j - S.N (t + 1)) else 0
/-- The score of row `j` in row `t`. -/
def s (t j : ℕ) : ℝ := (∑ d, S.ks j d * S.q t d) * S.w t j
/-- The score sum of row `t`. -/
def den (t : ℕ) : ℝ := ∑ j ∈ range 2048, S.s t j
/-- The denominator of row `t`. -/
def dn (t : ℕ) : ℝ := max |S.den t| (Real.exp (-(S.P (t + 1) + S.N (t + 1))))
/-- The hidden state. -/
def h (t : ℕ) (d : Fin 128) : ℝ := (∑ j ∈ range 2048, S.s t j * S.v j d) / S.dn t
/-- The mean square with `e` added. -/
def ms (t : ℕ) : ℝ := (∑ d, S.h t d * S.h t d) / S.z + S.e
/-- The norm's factor. -/
def r (t : ℕ) : ℝ := (Real.sqrt (S.ms t))⁻¹
/-- The normed state. -/
def xh (t : ℕ) (d : Fin 128) : ℝ := S.h t d * S.r t
/-- The gradient of the weighted normed state. -/
def dys (t : ℕ) (d : Fin 128) : ℝ := S.dy t d * S.sig t d
/-- The gradient of the output gate before the logistic function. -/
def dO (t : ℕ) (d : Fin 128) : ℝ := S.dy t d * (S.xh t d * S.g d) * S.sig t d * (1 - S.sig t d)
/-- The gradient of the hidden state. -/
def dh (t : ℕ) (d : Fin 128) : ℝ :=
  S.r t * (S.dys t d * S.g d - S.xh t d * ((∑ d, S.dys t d * S.g d * S.xh t d) / S.z))
/-- The gradient of the hidden state's numerator. -/
def dnum (t : ℕ) (d : Fin 128) : ℝ := S.dh t d / S.dn t
/-- The gradient of the values. -/
def dv (j : ℕ) (d : Fin 128) : ℝ := ∑ t ∈ range 2048, S.s t j * S.dnum t d
/-- The gradient of the score sum: none where the denominator is the exponential. -/
def dden (t : ℕ) : ℝ :=
  if Real.exp (-(S.P (t + 1) + S.N (t + 1))) ≤ |S.den t| then -(∑ d, S.dh t d * S.h t d) / S.dn t * (if S.den t < 0 then -1 else 1) else 0
/-- The gradient of a score. -/
def ds (t j : ℕ) : ℝ := (∑ d, S.dnum t d * S.v j d) + S.dden t
/-- The gradient of the queries. -/
def dq (t : ℕ) (e : Fin 128) : ℝ := ∑ j ∈ range 2048, S.ds t j * S.w t j * S.ks j e
/-- The gradient of the scaled keys. -/
def dk (j : ℕ) (e : Fin 128) : ℝ := ∑ t ∈ range 2048, S.ds t j * S.w t j * S.q t e
/-- The gradient of the norm's weights from the rows `n ≤ t`. -/
def dg (n : ℕ) (d : Fin 128) : ℝ := ∑ t ∈ Ico n 2048, S.dys t d * S.xh t d

/-- The state before row `n`. -/
def C (n : ℕ) (e d : Fin 128) : ℝ := ∑ j ∈ range n, Real.exp (S.a j - S.N n) * S.ks j e * S.v j d
/-- The state's normalizer before row `n`. -/
def nrm (n : ℕ) (e : Fin 128) : ℝ := ∑ j ∈ range n, Real.exp (S.a j - S.N n) * S.ks j e
/-- The state's gradient from the rows `n ≤ t`. -/
def DC (n : ℕ) (e d : Fin 128) : ℝ := ∑ t ∈ Ico n 2048, Real.exp (S.N n - S.N (t + 1)) * S.q t e * S.dnum t d
/-- The gradient of the state's normalizer from the rows `n ≤ t`. -/
def DN (n : ℕ) (e : Fin 128) : ℝ := ∑ t ∈ Ico n 2048, Real.exp (S.N n - S.N (t + 1)) * S.q t e * S.dden t

theorem dn_pos (t : ℕ) : 0 < S.dn t := lt_max_of_lt_right (Real.exp_pos _)

/-- A sum over the rows of a chunk. -/
theorem sum_chunk (f : ℕ → ℝ) (n0 : ℕ) : ∑ j ∈ Ico n0 (n0 + 128), f j = ∑ b : Fin 128, f (n0 + b.val) := by
  rw [sum_Ico_eq_sum_range, Nat.add_sub_cancel_left, sum_range]

/-- A weighted sum of a row's scores: the state's part and the chunk's. -/
theorem scores_split (x : ℕ → ℝ) {n0 t : ℕ} (h0 : n0 ≤ t) (h1 : t < n0 + 128) (h2 : n0 + 128 ≤ 2048) :
    ∑ j ∈ range 2048, S.s t j * x j
      = Real.exp (S.N n0 - S.N (t + 1)) * (∑ e, S.q t e * ∑ j ∈ range n0, Real.exp (S.a j - S.N n0) * S.ks j e * x j)
        + ∑ b : Fin 128, S.s t (n0 + b.val) * x (n0 + b.val) := by
  have hz : ∑ j ∈ Ico (n0 + 128) 2048, S.s t j * x j = 0 := sum_eq_zero fun j hj => by
    have := (mem_Ico.mp hj).1
    rw [s, w, if_neg (by omega)]; simp
  rw [range_eq_Ico, ← sum_Ico_consecutive _ (Nat.zero_le n0) (show n0 ≤ 2048 by omega),
    ← sum_Ico_consecutive _ (show n0 ≤ n0 + 128 by omega) h2, hz, add_zero, sum_chunk, ← range_eq_Ico]
  congr 1
  simp_rw [mul_sum]
  rw [sum_comm]
  refine sum_congr rfl fun j hj => ?_
  rw [s, w, if_pos (by have := mem_range.mp hj; omega), sum_mul, sum_mul]
  refine sum_congr rfl fun e _ => ?_
  rw [show S.a j - S.N (t + 1) = (S.N n0 - S.N (t + 1)) + (S.a j - S.N n0) by ring, Real.exp_add]
  ring

theorem num_split (d : Fin 128) {n0 t : ℕ} (h0 : n0 ≤ t) (h1 : t < n0 + 128) (h2 : n0 + 128 ≤ 2048) :
    ∑ j ∈ range 2048, S.s t j * S.v j d
      = Real.exp (S.N n0 - S.N (t + 1)) * (∑ e, S.q t e * S.C n0 e d) + ∑ b : Fin 128, S.s t (n0 + b.val) * S.v (n0 + b.val) d :=
  S.scores_split (fun j => S.v j d) h0 h1 h2

theorem den_split {n0 t : ℕ} (h0 : n0 ≤ t) (h1 : t < n0 + 128) (h2 : n0 + 128 ≤ 2048) :
    S.den t = Real.exp (S.N n0 - S.N (t + 1)) * (∑ e, S.q t e * S.nrm n0 e) + ∑ b : Fin 128, S.s t (n0 + b.val) := by
  have := S.scores_split (fun _ => 1) h0 h1 h2
  simp only [mul_one] at this
  exact this

/-- The state's gradient before a chunk, from the one behind it. -/
theorem DC_step (e d : Fin 128) {n0 : ℕ} (h2 : n0 + 128 ≤ 2048) :
    S.DC n0 e d = Real.exp (S.N n0 - S.N (n0 + 128)) * S.DC (n0 + 128) e d
      + ∑ b : Fin 128, S.q (n0 + b.val) e * (Real.exp (S.N n0 - S.N (n0 + b.val + 1)) * S.dnum (n0 + b.val) d) := by
  rw [DC, ← sum_Ico_consecutive _ (show n0 ≤ n0 + 128 by omega) h2, sum_chunk, add_comm, DC, mul_sum]
  congr 1
  · refine sum_congr rfl fun t _ => ?_
    rw [show S.N n0 - S.N (t + 1) = (S.N n0 - S.N (n0 + 128)) + (S.N (n0 + 128) - S.N (t + 1)) by ring, Real.exp_add]
    ring
  · exact sum_congr rfl fun b _ => by ring

/-- The gradient of the values in a chunk: the chunk's part and the state's. -/
theorem dv_split (d : Fin 128) {n0 j : ℕ} (h0 : n0 ≤ j) (h1 : j < n0 + 128) (h2 : n0 + 128 ≤ 2048) :
    S.dv j d = (∑ b : Fin 128, S.s (n0 + b.val) j * S.dnum (n0 + b.val) d)
      + Real.exp (S.a j - S.N (n0 + 128)) * ∑ e, S.ks j e * S.DC (n0 + 128) e d := by
  have hz : ∑ t ∈ Ico 0 n0, S.s t j * S.dnum t d = 0 := sum_eq_zero fun t ht => by
    have := (mem_Ico.mp ht).2
    rw [s, w, if_neg (by omega)]; simp
  rw [dv, range_eq_Ico, ← sum_Ico_consecutive _ (Nat.zero_le n0) (show n0 ≤ 2048 by omega),
    ← sum_Ico_consecutive _ (show n0 ≤ n0 + 128 by omega) h2, hz, zero_add, sum_chunk]
  congr 1
  simp_rw [DC, mul_sum]
  rw [sum_comm]
  refine sum_congr rfl fun t ht => ?_
  have ht := (mem_Ico.mp ht).1
  rw [s, w, if_pos (by omega), sum_mul, sum_mul]
  refine sum_congr rfl fun e _ => ?_
  rw [show S.a j - S.N (t + 1) = (S.a j - S.N (n0 + 128)) + (S.N (n0 + 128) - S.N (t + 1)) by ring, Real.exp_add]
  ring

/-- The gradient of the state's normalizer before a chunk, from the one behind it. -/
theorem DN_step (e : Fin 128) {n0 : ℕ} (h2 : n0 + 128 ≤ 2048) :
    S.DN n0 e = Real.exp (S.N n0 - S.N (n0 + 128)) * S.DN (n0 + 128) e
      + ∑ b : Fin 128, S.q (n0 + b.val) e * (Real.exp (S.N n0 - S.N (n0 + b.val + 1)) * S.dden (n0 + b.val)) := by
  rw [DN, ← sum_Ico_consecutive _ (show n0 ≤ n0 + 128 by omega) h2, sum_chunk, add_comm, DN, mul_sum]
  congr 1
  · refine sum_congr rfl fun t _ => ?_
    rw [show S.N n0 - S.N (t + 1) = (S.N n0 - S.N (n0 + 128)) + (S.N (n0 + 128) - S.N (t + 1)) by ring, Real.exp_add]
    ring
  · exact sum_congr rfl fun b _ => by ring

/-- The gradient of the queries in a chunk: the state's part, the chunk's and the normalizer's. -/
theorem dq_split (e : Fin 128) {n0 t : ℕ} (h0 : n0 ≤ t) (h1 : t < n0 + 128) (h2 : n0 + 128 ≤ 2048) :
    S.dq t e = (∑ d, Real.exp (S.N n0 - S.N (t + 1)) * S.dnum t d * S.C n0 e d)
      + (∑ b : Fin 128, S.ds t (n0 + b.val) * S.w t (n0 + b.val) * S.ks (n0 + b.val) e)
      + Real.exp (S.N n0 - S.N (t + 1)) * S.dden t * S.nrm n0 e := by
  have hz : ∑ j ∈ Ico (n0 + 128) 2048, S.ds t j * S.w t j * S.ks j e = 0 := sum_eq_zero fun j hj => by
    have := (mem_Ico.mp hj).1
    rw [w, if_neg (by omega)]; simp
  have hC : ∑ d, Real.exp (S.N n0 - S.N (t + 1)) * S.dnum t d * S.C n0 e d
      = ∑ j ∈ range n0, Real.exp (S.N n0 - S.N (t + 1)) * (Real.exp (S.a j - S.N n0) * S.ks j e) * ∑ d, S.dnum t d * S.v j d := by
    simp_rw [C, mul_sum]
    rw [sum_comm]
    exact sum_congr rfl fun j _ => sum_congr rfl fun d _ => by ring
  rw [dq, range_eq_Ico, ← sum_Ico_consecutive _ (Nat.zero_le n0) (show n0 ≤ 2048 by omega),
    ← sum_Ico_consecutive _ (show n0 ≤ n0 + 128 by omega) h2, hz, add_zero, sum_chunk, ← range_eq_Ico, hC, nrm, mul_sum, add_right_comm,
    ← sum_add_distrib]
  congr 1
  refine sum_congr rfl fun j hj => ?_
  rw [ds, w, if_pos (by have := mem_range.mp hj; omega),
    show S.a j - S.N (t + 1) = (S.N n0 - S.N (t + 1)) + (S.a j - S.N n0) by ring, Real.exp_add]
  ring

/-- The gradient of the scaled keys in a chunk: the chunk's part, the state's and the normalizer's. -/
theorem dk_split (e : Fin 128) {n0 j : ℕ} (h0 : n0 ≤ j) (h1 : j < n0 + 128) (h2 : n0 + 128 ≤ 2048) :
    S.dk j e = (∑ b : Fin 128, S.ds (n0 + b.val) j * S.w (n0 + b.val) j * S.q (n0 + b.val) e)
      + (∑ d, Real.exp (S.a j - S.N (n0 + 128)) * S.v j d * S.DC (n0 + 128) e d)
      + Real.exp (S.a j - S.N (n0 + 128)) * S.DN (n0 + 128) e := by
  have hz : ∑ t ∈ Ico 0 n0, S.ds t j * S.w t j * S.q t e = 0 := sum_eq_zero fun t ht => by
    have := (mem_Ico.mp ht).2
    rw [w, if_neg (by omega)]; simp
  have hD : ∑ d, Real.exp (S.a j - S.N (n0 + 128)) * S.v j d * S.DC (n0 + 128) e d
      = ∑ t ∈ Ico (n0 + 128) 2048, Real.exp (S.a j - S.N (n0 + 128)) * (Real.exp (S.N (n0 + 128) - S.N (t + 1)) * S.q t e) * ∑ d, S.dnum t d * S.v j d := by
    simp_rw [DC, mul_sum]
    rw [sum_comm]
    exact sum_congr rfl fun t _ => sum_congr rfl fun d _ => by ring
  rw [dk, range_eq_Ico, ← sum_Ico_consecutive _ (Nat.zero_le n0) (show n0 ≤ 2048 by omega),
    ← sum_Ico_consecutive _ (show n0 ≤ n0 + 128 by omega) h2, hz, zero_add, sum_chunk, hD, DN, mul_sum, add_assoc,
    ← sum_add_distrib]
  congr 1
  refine sum_congr rfl fun t ht => ?_
  have ht := (mem_Ico.mp ht).1
  rw [ds, w, if_pos (by omega),
    show S.a j - S.N (t + 1) = (S.a j - S.N (n0 + 128)) + (S.N (n0 + 128) - S.N (t + 1)) by ring, Real.exp_add]
  ring

theorem dg_step (d : Fin 128) {n0 : ℕ} (h2 : n0 + 128 ≤ 2048) :
    S.dg n0 d = S.dg (n0 + 128) d + ∑ b : Fin 128, S.dys (n0 + b.val) d * S.xh (n0 + b.val) d := by
  rw [dg, ← sum_Ico_consecutive _ (show n0 ≤ n0 + 128 by omega) h2, sum_chunk, add_comm, dg]

theorem ms_pos (hz : 0 < S.z) (he : 0 < S.e) (t : ℕ) : 0 < S.ms t :=
  add_pos_of_nonneg_of_pos (div_nonneg (sum_nonneg fun _ _ => mul_self_nonneg _) hz.le) he

/-- The norm's gradient, the root's derivative written out. -/
theorem dh_root (t : ℕ) (d : Fin 128) (hm : 0 < S.ms t) :
    S.dh t d = S.dys t d * S.g d * S.r t
      + (S.h t d * (((∑ d, S.h t d * (S.dys t d * S.g d)) * (-(1 / 2) * (S.r t / S.ms t))) / S.z)
        + (((∑ d, S.h t d * (S.dys t d * S.g d)) * (-(1 / 2) * (S.r t / S.ms t))) / S.z) * S.h t d) := by
  have hr : S.r t / S.ms t = S.r t * S.r t * S.r t := by
    have h : S.r t * S.r t = (S.ms t)⁻¹ := by rw [r, ← mul_inv, Real.mul_self_sqrt hm.le]
    rw [h, div_eq_mul_inv]; ring
  have hs : ∑ d, S.dys t d * S.g d * S.xh t d = (∑ d, S.h t d * (S.dys t d * S.g d)) * S.r t := by
    rw [sum_mul]; exact sum_congr rfl fun d _ => by rw [xh]; ring
  rw [dh, hs, hr, xh]
  ring

end Seq

/-- A maximum from a finite initial value over a masked row of finite values. -/
theorem max_fold_masked {ι : Type} [Fintype ι] (p : ι → Prop) [DecidablePred p] (f : ι → ℝ) (x0 x : ℝ) (h0 : x0 ≤ x)
    (hf : ∀ i, p i → f i ≤ x) (ha : x = x0 ∨ ∃ i, p i ∧ f i = x) :
    max (x0 : EReal) (univ.fold max ⊥ fun i => if p i then (f i : EReal) else ⊥) = (x : EReal) := by
  refine le_antisymm (max_le (EReal.coe_le_coe_iff.mpr h0) ((fold_max_le _).mpr ⟨bot_le, fun i _ => ?_⟩)) ?_
  · split
    · exact EReal.coe_le_coe_iff.mpr (hf i ‹_›)
    · exact bot_le
  · rcases ha with rfl | ⟨i, hi, rfl⟩
    · exact le_max_left _ _
    · exact le_max_of_le_right ((le_fold_max _).mpr (Or.inr ⟨i, mem_univ i, by rw [if_pos hi]⟩))

/-- A finite sum of real values is their real sum. -/
theorem sum_coe {ι : Type} (s : Finset ι) (f : ι → ℝ) : ∑ i ∈ s, (f i : EReal) = ((∑ i ∈ s, f i : ℝ) : EReal) := by
  classical
  induction s using Finset.induction_on with
  | empty => simp
  | insert i s hi ih => rw [sum_insert hi, sum_insert hi, ih, EReal.coe_add]

end Cert.Proof.MlstmIdeal
-- ==== Proof.MlstmIdeal.Head.lean ====
/- One point of the grid (one head): what it leaves in its blocks. -/
module

public import proofs.«01_k».proof.Proof.MlstmIdeal.Spec
public import Idealize.ShloMosaic.Lib.Claim

@[expose] public section

set_option maxRecDepth 16384

noncomputable section

namespace Cert.Proof.MlstmIdeal

open Cert.MlstmIdeal Cert.MlstmIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ

/-- The first head is the point at which the accumulated outputs are set to zero. -/
abbrev isFirst (i : grid0.Coords) : Prop :=
  Scalar.cmpi .ne (Scalar.extui (Scalar.cmpi .eq (BitVec.ofNat 32 (i 0).val) 0#32) : BitVec 32) 0#32 = 1#1

/-- The row and the column numbers of a chunk's square. -/
abbrev rowIds : IVec S128x128 32 := iota .tc S128x128 32 [0] iota_S128x128_d0_w32
abbrev colIds : IVec S128x128 32 := iota .tc S128x128 32 [1] iota_S128x128_d1_w32

set_option maxHeartbeats 4000000 in
/-- One head: on whole blocks, the inputs' at their contents and everything stored into at anything, the body runs
    and hands the inputs back as they were, the gradients of the queries, of the keys, of the values, of the output gates and of the norm in their
    blocks. -/
theorem kernelRun (c : Dev nD) (i : grid0.Coords) (arg1 : Memref sig .tc .vmem S2048x128 .f32) (harg1 : arg1.IsWhole) (arg2 : Memref sig .tc .vmem S2048x128 .f32) (harg2 : arg2.IsWhole) (arg3 : Memref sig .tc .vmem S128x2048 .bf16) (harg3 : arg3.IsWhole) (arg4 : Memref sig .tc .vmem S128x2048 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S16x1x2048 .f32) (harg9 : arg9.IsWhole) (arg10 : Memref sig .tc .vmem S1x128 .f32) (harg10 : arg10.IsWhole) (arg11 : Memref sig .tc .vmem S1x16x128x128 .f32) (harg11 : arg11.IsWhole) (arg12 : Memref sig .tc .vmem S1x16x8x128 .f32) (harg12 : arg12.IsWhole) (arg13 : Memref sig .tc .vmem S2048x128 .f32) (harg13 : arg13.IsWhole) (arg14 : Memref sig .tc .hbm S8x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2048x128 .bf16) (harg17 : arg17.IsWhole) (arg18 : Memref sig .tc .vmem S2048x128 .bf16) (harg18 : arg18.IsWhole) (arg19 : Memref sig .tc .vmem S2048x128 .f32) (harg19 : arg19.IsWhole) (arg20 : Memref sig .tc .vmem S8x1x2048 .f32) (harg20 : arg20.IsWhole) (arg21 : Memref sig .tc .vmem S1x128 .f32) (harg21 : arg21.IsWhole) (arg22 : Memref sig .tc .vmem S128x128 .f32) (harg22 : arg22.IsWhole) (arg23 : Memref sig .tc .vmem S8x128 .f32) (harg23 : arg23.IsWhole) (x0 : Vec F S2048x128 .f32) (x1 : Vec F S2048x128 .f32) (x2 : Vec F S128x2048 .bf16) (x3 : Vec F S128x2048 .bf16) (x4 : Vec F S2048x128 .f32) (x5 : Vec F S2048x128 .f32) (x6 : Vec F S1x2048x128 .f32) (x7 : Vec F S1x2048x128 .f32) (x8 : Vec F S16x1x2048 .f32) (x9 : Vec F S1x128 .f32) (x10 : Vec F S1x16x128x128 .f32) (x11 : Vec F S1x16x8x128 .f32) (x12 : Vec F S2048x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg15 fullShare (dqAll (ldx i x0 x1 x2 x4 x5 x6 x7 x8 x10 x11 x12) x9) ∗ owns (c : Thread nD τ) arg16 fullShare (dkAll (ldx i x0 x1 x2 x4 x5 x6 x7 x8 x10 x11 x12) x9 rowIds colIds) ∗ owns (c : Thread nD τ) arg17 fullShare (dvAll (ldx i x0 x1 x2 x4 x5 x6 x7 x8 x10 x11 x12) x9 rowIds colIds) ∗ owns (c : Thread nD τ) arg18 fullShare (doAll (ldx i x0 x1 x2 x4 x5 x6 x7 x8 x10 x11 x12) x9) ∗ (∃ d, owns (c : Thread nD τ) arg19 fullShare d) ∗ (∃ d, owns (c : Thread nD τ) arg20 fullShare d) ∗ owns (c : Thread nD τ) arg21 fullShare (DG (ldx i x0 x1 x2 x4 x5 x6 x7 x8 x10 x11 x12) 16) ∗ (∃ d, owns (c : Thread nD τ) arg22 fullShare d) ∗ (∃ d, owns (c : Thread nD τ) arg23 fullShare d)) -∗ K ⟨⟩))
      ⊢ wp frame (wpE (defs₀ (F := F)) Variants.none c none) Set.univ (cc0_d_mlstm i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0_d_mlstm_eq_skeleton]; unfold cc0_d_mlstm_skel
  by_cases hc : isFirst i
  all_goals
    unfold owns
    iintro ⟨⟨%f0, %hf0, H1⟩, ⟨%f1, %hf1, H2⟩, ⟨%f2, %hf2, H3⟩, ⟨%f3, %hf3, H4⟩, ⟨%f4, %hf4, H5⟩, ⟨%f5, %hf5, H6⟩, ⟨%f6, %hf6, H7⟩, ⟨%f7, %hf7, H8⟩, ⟨%f8, %hf8, H9⟩, ⟨%f9, %hf9, H10⟩, ⟨%f10, %hf10, H11⟩, ⟨%f11, %hf11, H12⟩, ⟨%f12, %hf12, H13⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
    sl_exec (disch := sl_exact hc)
    sl_step
    have hg : View.readAt (Elt F) arg10.view (Rect.unit (s := S1x128) ![0, 0] S1x128.size inb_S1x128_S1x128_0_0).toLoadRect (harg10.unread x9) = x9 := by
      rw [View.readAt_full]; exact harg10.read_unread x9
    rw [hg, ld_eq c i arg1 harg1 arg2 harg2 arg3 harg3 arg5 harg5 arg6 harg6 arg7 harg7 arg8 harg8 arg9 harg9 arg11 harg11 arg12 harg12 arg13 harg13 x0 x1 x2 x4 x5 x6 x7 x8 x10 x11 x12]
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H15]
    · iexists _; isplitr; swap; · iexact H15
      ipureintro; exact read_st15 _ _ c arg15 _
    isplitl [H16]
    · iexists _; isplitr; swap; · iexact H16
      ipureintro; exact read_st16 _ _ _ _ c arg22 _ arg16 arg23 _ _ (View.read_writes_full arg22.view _ inb_S128x128_S128x128_0_0 _ []) (View.read_writes_full arg23.view _ inb_S8x128_S8x128_0_0 _ [])
    isplitl [H17]
    · iexists _; isplitr; swap; · iexact H17
      ipureintro; exact read_st17 _ _ _ _ c arg17 arg22 _ _ (View.read_writes_full arg22.view _ inb_S128x128_S128x128_0_0 _ [])
    isplitl [H18]
    · iexists _; isplitr; swap; · iexact H18
      ipureintro; exact read_st18 _ _ c arg18 _
    isplitl [H19]
    · iexists _, _; isplitr; swap; · iexact H19
      ipureintro; rfl
    isplitl [H20]
    · iexists _, _; isplitr; swap; · iexact H20
      ipureintro; rfl
    isplitl [H21]
    · iexists _; isplitr; swap; · iexact H21
      ipureintro; exact read_st21 _ c arg21 _ (View.read_writes_full arg21.view _ inb_S1x128_S1x128_0_0 _ []) 16
    isplitl [H22]
    · iexists _, _; isplitr; swap; · iexact H22
      ipureintro; rfl
    iexists _, _; isplitr; swap; · iexact H23
    ipureintro; rfl

end Cert.Proof.MlstmIdeal

end
-- ==== Proof.MlstmIdeal.Cells.lean ====
/- The values of one chunk, entry by entry, over the real numbers. -/
module

public import proofs.«01_k».proof.Proof.MlstmIdeal.Spec
public import proofs.«01_k».proof.Proof.MlstmIdeal.Math
public import proofs.«01_k».proof.Proof.MlstmIdeal.Head

@[expose] public section

set_option maxRecDepth 16384

noncomputable section

namespace Cert.Proof.MlstmIdeal

open Cert.MlstmIdeal Cert.MlstmIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- A chunk's loads hold the rows from `n0` of one head's sequences. -/
structure Good (L : Ld Ideal) (g : Vec Ideal S1x128 .f32) (S : Seq) (n0 : ℕ) : Prop where
  le : n0 + 128 ≤ 2048
  q : ∀ a d : Fin 128, L.q (ix2 a d) = (S.q (n0 + a.val) d : EReal)
  k : ∀ a d : Fin 128, L.k (ix2 a d) * Ideal.ofBits .f32 0x3DB504F3#32 = (S.ks (n0 + a.val) d : EReal)
  v : ∀ a d : Fin 128, L.v (ix2 a d) = (S.v (n0 + a.val) d : EReal)
  li : ∀ a d : Fin 128, L.li (ix3 0 a d) = (S.li (n0 + a.val) : EReal)
  b : ∀ a d : Fin 128, L.b (ix3 0 a d) = ((S.P (n0 + a.val + 1) - S.P n0 : ℝ) : EReal)
  lir : ∀ a : Fin 128, L.lir (ix3 0 0 a) = (S.li (n0 + a.val) : EReal)
  br : ∀ a : Fin 128, L.br (ix3 0 0 a) = ((S.P (n0 + a.val + 1) - S.P n0 : ℝ) : EReal)
  qt : ∀ d a : Fin 128, L.qt (ix2 d a) = (S.q (n0 + a.val) d : EReal)
  ct : ∀ e d : Fin 128, L.ct (ix4 0 0 e d) = (S.C n0 e d : EReal)
  n : ∀ e : Fin 128, L.n (ix4 0 0 0 e) = (S.nrm n0 e : EReal)
  m : L.m (ix4 0 0 0 0) = ((S.P n0 + S.N n0 : ℝ) : EReal)
  o : ∀ a d : Fin 128, Ideal.logistic (L.o (ix2 a d)) = (S.sig (n0 + a.val) d : EReal)
  dy : ∀ a d : Fin 128, L.dy (ix2 a d) = (S.dy (n0 + a.val) d : EReal)
  g : ∀ d : Fin 128, g (ix2 0 d) = (S.g d : EReal)
  scale : Ideal.ofBits .f32 0x3DB504F3#32 = ((Ideal.ofBits .f32 0x3DB504F3#32).toReal : EReal)
  z : Ideal.ofBits .f32 0x43000000#32 = (S.z : EReal)
  zpos : 0 < S.z
  e : Ideal.ofBits .f32 0x358637BD#32 = (S.e : EReal)
  epos : 0 < S.e

theorem bot_word : Ideal.ofBits .f32 0xFF800000#32 = ⊥ := by simp [Ideal.ofBits, Ideal.ieee]

theorem one_word : Ideal.ofBits .f32 0x3F800000#32 = ((1 : ℝ) : EReal) := by
  simp [Ideal.ofBits, Ideal.ieee, -EReal.coe_mul]; norm_num
theorem neg_one_word : Ideal.ofBits .f32 0xBF800000#32 = ((-1 : ℝ) : EReal) := by
  simp [Ideal.ofBits, Ideal.ieee, -EReal.coe_mul]; norm_num
theorem sel_le (a b : Fin 128) (x y : EReal) :
    Scalar.select (IntOp.cmpi CmpIPredicate.sle (BitVec.ofNat 32 b.val) (BitVec.ofNat 32 a.val)) x y = if b.val ≤ a.val then x else y := by
  rw [WordCmp.cmpi_sle_ofNat (by have := b.isLt; omega) (by have := a.isLt; omega), WordCmp.select_ofBool]; simp
theorem sel_ge (a b : Fin 128) (x y : EReal) :
    Scalar.select (IntOp.cmpi CmpIPredicate.sge (BitVec.ofNat 32 b.val) (BitVec.ofNat 32 a.val)) x y = if a.val ≤ b.val then x else y := by
  rw [WordCmp.cmpi_sge_ofNat (by have := b.isLt; omega) (by have := a.isLt; omega), WordCmp.select_ofBool]; simp
theorem sel_eq (a b : Fin 128) (x y : EReal) :
    Scalar.select (IntOp.cmpi CmpIPredicate.eq (BitVec.ofNat 32 a.val) (BitVec.ofNat 32 b.val)) x y = if a = b then x else y := by
  rw [WordCmp.cmpi_eq_ofNat (by have := a.isLt; omega) (by have := b.isLt; omega), WordCmp.select_ofBool]; simp [Fin.ext_iff]
theorem div_real {x y : ℝ} (h : y ≠ 0) : Ideal.div (x : EReal) (y : EReal) = ((x / y : ℝ) : EReal) := by
  rw [Ideal.div_coe h, ← EReal.coe_mul, mul_one_div]
theorem max_real (x y : ℝ) : max (x : EReal) (y : EReal) = ((max x y : ℝ) : EReal) := (EReal.coe_strictMono.monotone.map_max).symm
theorem abs_real (x : ℝ) : FloatOps.absf (F := Ideal) (φ := .f32) (x : EReal) = ((|x| : ℝ) : EReal) := by
  show max (x : EReal) (-(x : EReal)) = _
  rw [← EReal.coe_neg, max_real]; rfl
theorem rsqrt_real {x : ℝ} (h : 0 < x) : Ideal.rsqrt (x : EReal) = (((Real.sqrt x)⁻¹ : ℝ) : EReal) := by
  rw [Ideal.rsqrt_coe, if_neg (not_lt.mpr h.le), if_neg h.ne']
/-- The exponential of a masked real exponent. -/
theorem exp_masked (p : Prop) [Decidable p] (x y : ℝ) :
    Ideal.exp ((if p then (x : EReal) else ⊥) - (y : EReal)) = ((if p then Real.exp (x - y) else 0 : ℝ) : EReal) := by
  split
  · rw [← EReal.coe_sub, Ideal.exp_coe]
  · rw [EReal.bot_sub, Ideal.exp_bot, EReal.coe_zero]

namespace Good

variable {L : Ld Ideal} {g : Vec Ideal S1x128 .f32} {S : Seq} {n0 : ℕ} (G : Good L g S n0)
include G

theorem p9 (a d : Fin 128) : k0_pay9 L.k (ix2 a d) = (S.ks (n0 + a.val) d : EReal) := by
  pointwise [k0_pay9]; exact G.k a d
theorem p10 (a d : Fin 128) : k0_pay10 L.li (ix2 a d) = (S.li (n0 + a.val) : EReal) := by
  pointwise [k0_pay10]; exact G.li a d
theorem p11 (a d : Fin 128) : k0_pay11 L.b (ix2 a d) = ((S.P (n0 + a.val + 1) - S.P n0 : ℝ) : EReal) := by
  pointwise [k0_pay11]; exact G.b a d
theorem p12 (a d : Fin 128) : k0_pay12 L.lir (ix2 a d) = (S.li (n0 + d.val) : EReal) := by
  pointwise [k0_pay12]; exact G.lir d
theorem p13 (a d : Fin 128) : k0_pay13 L.br (ix2 a d) = ((S.P (n0 + d.val + 1) - S.P n0 : ℝ) : EReal) := by
  pointwise [k0_pay13]; exact G.br d
theorem p14 (d a : Fin 128) : k0_pay14 L.qt (ix2 d a) = (S.q (n0 + a.val) d : EReal) := by
  pointwise [k0_pay14]; exact G.qt d a
theorem p15 (e d : Fin 128) : k0_pay15 L.ct (ix2 e d) = (S.C n0 e d : EReal) := by
  pointwise [k0_pay15]; exact G.ct e d
theorem p16 (e : Fin 128) : k0_pay16 L.n (ix2 0 e) = (S.nrm n0 e : EReal) := by
  pointwise [k0_pay16]; exact G.n e
theorem p17 : k0_pay17 L.m (ix2 0 0) = ((S.P n0 + S.N n0 : ℝ) : EReal) := by
  pointwise [k0_pay17]; exact G.m

theorem p18 (a b : Fin 128) : k0_pay18 (k0_pay11 L.b) (k0_pay12 L.lir) (k0_pay13 L.br) (ix2 a b)
    = if b.val ≤ a.val then ((S.P (n0 + a.val + 1) + S.a (n0 + b.val) : ℝ) : EReal) else ⊥ := by
  pointwise [k0_pay18]
  rw [G.p11, G.p12, G.p13, bot_word, sel_le, ← EReal.coe_sub, ← EReal.coe_add, Seq.a]
  congr 2; ring
theorem p19 (a : Fin 128) : k0_pay19 (k0_pay11 L.b) L.m (ix2 a 0) = ((S.P (n0 + a.val + 1) + S.N n0 : ℝ) : EReal) := by
  pointwise [k0_pay19]
  rw [G.p11, G.p17, ← EReal.coe_add]
  congr 1; ring
/-- A row's stabilizer: the greatest exponent of the scores and of the state. -/
theorem p20 (a : Fin 128) : k0_pay20 (k0_pay11 L.b) (k0_pay12 L.lir) (k0_pay13 L.br) L.m (ix2 a 0)
    = ((S.P (n0 + a.val + 1) + S.N (n0 + a.val + 1) : ℝ) : EReal) := by
  pointwise [k0_pay20]
  simp only [G.p18, G.p19, bot_word]
  refine max_fold_masked (fun b : Fin 128 => b.val ≤ a.val) _ _ _ ?_ ?_ ?_
  · have := S.N_mono (show n0 ≤ n0 + a.val + 1 by omega); linarith
  · intro b hb
    have := S.a_le_N (show n0 + b.val < n0 + a.val + 1 by omega); linarith
  · rcases S.N_attained n0 (n0 + a.val + 1) (by omega) with h | ⟨j, h1, h2, h3⟩
    · exact Or.inl (by rw [h])
    · have ha := a.isLt
      refine Or.inr ⟨⟨j - n0, by omega⟩, by show j - n0 ≤ a.val; omega, ?_⟩
      show _ + S.a (n0 + (j - n0)) = _
      rw [show n0 + (j - n0) = j by omega, h3]
theorem p21 (a b : Fin 128) : k0_pay21 (k0_pay11 L.b) (k0_pay12 L.lir) (k0_pay13 L.br) L.m (ix2 a b)
    = (S.w (n0 + a.val) (n0 + b.val) : EReal) := by
  pointwise [k0_pay21]
  rw [G.p18, G.p20, exp_masked, Seq.w]
  congr 1
  refine if_congr (by omega) ?_ rfl
  congr 1; ring
theorem p22 (a : Fin 128) : k0_pay22 (k0_pay11 L.b) (k0_pay12 L.lir) (k0_pay13 L.br) L.m (ix2 a 0)
    = (Real.exp (S.N n0 - S.N (n0 + a.val + 1)) : EReal) := by
  pointwise [k0_pay22]
  rw [G.p19, G.p20, ← EReal.coe_sub, Ideal.exp_coe]
  congr 2; ring
theorem p23 (a b : Fin 128) : k0_pay23 L.q (k0_pay9 L.k) (ix2 a b) = ((∑ d, S.ks (n0 + b.val) d * S.q (n0 + a.val) d : ℝ) : EReal) := by
  pointwise [k0_pay23]
  simp only [G.p9, G.q, ← EReal.coe_mul, sum_coe, mul_comm]
theorem p24 (a b : Fin 128) : k0_pay24 L.q (k0_pay9 L.k) (k0_pay11 L.b) (k0_pay12 L.lir) (k0_pay13 L.br) L.m (ix2 a b)
    = (S.s (n0 + a.val) (n0 + b.val) : EReal) := by
  pointwise [k0_pay24]
  rw [G.p23, G.p21, ← EReal.coe_mul]; rfl
theorem p25 (a d : Fin 128) : k0_pay25 L.q (k0_pay15 L.ct) (ix2 a d) = ((∑ e, S.q (n0 + a.val) e * S.C n0 e d : ℝ) : EReal) := by
  pointwise [k0_pay25]
  simp only [G.p15, G.q, ← EReal.coe_mul, sum_coe]
theorem p26 (a : Fin 128) : k0_pay26 L.q (k0_pay16 L.n) (ix2 a 0) = ((∑ e, S.q (n0 + a.val) e * S.nrm n0 e : ℝ) : EReal) := by
  pointwise [k0_pay26]
  simp only [G.p16, G.q, ← EReal.coe_mul, sum_coe]
theorem p27 (a : Fin 128) : k0_pay27 L.q (k0_pay9 L.k) (k0_pay11 L.b) (k0_pay12 L.lir) (k0_pay13 L.br) (k0_pay16 L.n) L.m (ix2 a 0)
    = (S.den (n0 + a.val) : EReal) := by
  pointwise [k0_pay27]
  simp only [G.p22, G.p26, G.p24, ← EReal.coe_mul, sum_coe, ← EReal.coe_add]
  rw [S.den_split (Nat.le_add_right n0 a.val) (Nat.add_lt_add_left a.isLt n0) G.le]
theorem p29 (a : Fin 128) : k0_pay29 L.q (k0_pay9 L.k) (k0_pay11 L.b) (k0_pay12 L.lir) (k0_pay13 L.br) (k0_pay16 L.n) L.m (ix2 a 0)
    = (S.dn (n0 + a.val) : EReal) := by
  pointwise [k0_pay29, k0_pay28]
  rw [G.p27, G.p20, abs_real, ← EReal.coe_zero, ← EReal.coe_sub, Ideal.exp_coe, max_real, Seq.dn, zero_sub]
/-- The denominator. -/
theorem dn (a : Fin 128) : L.dn (ix2 a 0) = (S.dn (n0 + a.val) : EReal) := G.p29 a
/-- The hidden state. -/
theorem h (a d : Fin 128) : L.h (ix2 a d) = (S.h (n0 + a.val) d : EReal) := by
  unfold Ld.h
  pointwise [k0_pay30]
  simp only [G.p22, G.p25, G.p24, G.p29, G.v, ← EReal.coe_mul, sum_coe, ← EReal.coe_add]
  rw [div_real (S.dn_pos _).ne', Seq.h, S.num_split d (Nat.le_add_right n0 a.val) (Nat.add_lt_add_left a.isLt n0) G.le]
theorem p31 (a : Fin 128) : k0_pay31 L.h (ix2 a 0) = (S.r (n0 + a.val) : EReal) := by
  pointwise [k0_pay31]
  simp only [G.h, ← EReal.coe_mul, sum_coe]
  rw [G.z, G.e, div_real G.zpos.ne', ← EReal.coe_add]
  exact rsqrt_real (S.ms_pos G.zpos G.epos (n0 + a.val))
theorem p32 (a d : Fin 128) : k0_pay32 L.h (ix2 a d) = (S.xh (n0 + a.val) d : EReal) := by
  pointwise [k0_pay32]
  rw [G.h, G.p31, ← EReal.coe_mul]; rfl
theorem p33 (a d : Fin 128) : k0_pay33 L.o (ix2 a d) = (S.sig (n0 + a.val) d : EReal) := by
  pointwise [k0_pay33]
  exact G.o a d
theorem p34 (a d : Fin 128) : k0_pay34 L.o L.dy (ix2 a d) = (S.dys (n0 + a.val) d : EReal) := by
  pointwise [k0_pay34]
  rw [G.p33, G.dy, ← EReal.coe_mul]; rfl
/-- The gradient of the output gates. -/
theorem dO (a d : Fin 128) : L.dO g (ix2 a d) = (S.dO (n0 + a.val) d : EReal) := by
  unfold Ld.dO
  pointwise [k0_pay35]
  simp only [G.p32, G.p33, G.dy, G.g, ← EReal.coe_one, ← EReal.coe_sub, ← EReal.coe_mul]; rfl
/-- The gradient of the hidden state. -/
theorem dh (a d : Fin 128) : L.dh g (ix2 a d) = (S.dh (n0 + a.val) d : EReal) := by
  unfold Ld.dh
  pointwise [k0_pay36]
  simp only [G.p31, G.p32, G.p34, G.g, G.z, ← EReal.coe_mul, sum_coe, div_real G.zpos.ne', ← EReal.coe_sub]; rfl
/-- The norm's gradient with the chunk added. -/
theorem dg (A : Vec Ideal S1x128 .f32) (hA : ∀ d, A (ix2 0 d) = (S.dg (n0 + 128) d : EReal)) (d : Fin 128) :
    L.dg A (ix2 0 d) = (S.dg n0 d : EReal) := by
  unfold Ld.dg
  pointwise [k0_pay37]
  simp only [G.p32, G.p34, hA, ← EReal.coe_mul, sum_coe, ← EReal.coe_add]
  rw [S.dg_step d G.le]
theorem p38 (a d : Fin 128) : k0_pay38 L.dn (L.dh g) (ix2 a d) = (S.dnum (n0 + a.val) d : EReal) := by
  pointwise [k0_pay38]
  rw [G.dh, G.dn, div_real (S.dn_pos _).ne']; rfl
theorem p28 (a : Fin 128) : k0_pay28 (k0_pay11 L.b) (k0_pay12 L.lir) (k0_pay13 L.br) L.m (ix2 a 0)
    = (Real.exp (-(S.P (n0 + a.val + 1) + S.N (n0 + a.val + 1))) : EReal) := by
  pointwise [k0_pay28]
  rw [G.p20, ← EReal.coe_zero, ← EReal.coe_sub, Ideal.exp_coe, zero_sub]
/-- The gradient of the score sum. -/
theorem dden (a : Fin 128) : L.dden g (ix2 a 0) = (S.dden (n0 + a.val) : EReal) := by
  unfold Ld.dden
  pointwise [k0_pay39]
  simp only [G.dh, G.h, G.dn, G.p27, G.p28, one_word, neg_one_word, ← EReal.coe_mul, sum_coe]
  rw [abs_real, ← EReal.coe_zero, ← EReal.coe_sub, div_real (S.dn_pos _).ne', zero_sub, Seq.dden]
  simp only [EReal.coe_le_coe_iff, EReal.coe_lt_coe_iff]
  by_cases h1 : Real.exp (-(S.P (n0 + a.val + 1) + S.N (n0 + a.val + 1))) ≤ |S.den (n0 + a.val)|
  · rw [if_pos h1, if_pos h1, if_pos ((Real.exp_pos _).trans_le h1)]
    by_cases h2 : S.den (n0 + a.val) < 0
    · rw [if_pos h2, if_pos h2, ← EReal.coe_mul]
    · rw [if_neg h2, if_neg h2, mul_one, mul_one]
  · rw [if_neg h1, if_neg h1]
theorem idd (a : Fin 128) : L.idd g (ix2 a 0)
    = ((Real.exp (S.N n0 - S.N (n0 + a.val + 1)) * S.dden (n0 + a.val) : ℝ) : EReal) := by
  have h := G.dden a
  unfold Ld.dden at h
  unfold Ld.idd
  pointwise [k0_pay41]
  rw [h, G.p22, ← EReal.coe_mul]
theorem p44 (a b : Fin 128) : k0_pay44 L.v L.dn (L.dh g) (ix2 a b) = ((∑ d, S.dnum (n0 + a.val) d * S.v (n0 + b.val) d : ℝ) : EReal) := by
  pointwise [k0_pay44]
  simp only [G.p38, G.v, ← EReal.coe_mul, sum_coe]
/-- The gradient of the queries. -/
theorem dq (a e : Fin 128) : L.dq g (ix2 a e) = (S.dq (n0 + a.val) e : EReal) := by
  have h := G.dden a
  unfold Ld.dden at h
  unfold Ld.dq
  pointwise [k0_pay48, k0_pay46, k0_pay45, k0_pay40]
  simp only [h, G.idd, G.p9, G.p15, G.p16, G.p21, G.p22, G.p38, G.p44, ← EReal.coe_mul, sum_coe, ← EReal.coe_add]
  rw [S.dq_split e (Nat.le_add_right n0 a.val) (Nat.add_lt_add_left a.isLt n0) G.le]
  rfl
theorem p42 (a b : Fin 128) : k0_pay42 rowIds colIds (k0_pay10 L.li) (k0_pay11 L.b) (k0_pay13 L.br)
    (k0_pay20 (k0_pay11 L.b) (k0_pay12 L.lir) (k0_pay13 L.br) L.m) (ix2 a b) = (S.w (n0 + b.val) (n0 + a.val) : EReal) := by
  pointwise [k0_pay42]
  simp only [sel_ge, sel_eq, Finset.sum_ite_eq', Finset.mem_univ, if_true]
  rw [G.p13, G.p11, G.p10, G.p20, bot_word, ← EReal.coe_sub, ← EReal.coe_add, exp_masked, Seq.w]
  congr 1
  refine if_congr (by omega) ?_ rfl
  rw [Seq.a]; congr 1; ring
theorem p43 (a b : Fin 128) : k0_pay43 rowIds colIds L.q (k0_pay9 L.k) (k0_pay10 L.li) (k0_pay11 L.b) (k0_pay13 L.br)
    (k0_pay20 (k0_pay11 L.b) (k0_pay12 L.lir) (k0_pay13 L.br) L.m) (ix2 a b) = (S.s (n0 + b.val) (n0 + a.val) : EReal) := by
  pointwise [k0_pay43]
  simp only [G.p42, G.p9, G.q, ← EReal.coe_mul, sum_coe]; rfl
theorem dvIn (a d : Fin 128) : L.dvIn g rowIds colIds (ix2 a d)
    = ((∑ b : Fin 128, S.s (n0 + b.val) (n0 + a.val) * S.dnum (n0 + b.val) d : ℝ) : EReal) := by
  unfold Ld.dvIn
  pointwise [k0_pay50]
  simp only [G.p43, G.p38, ← EReal.coe_mul, sum_coe]
theorem p54 : k0_pay54 (k0_pay11 L.b) (ix2 0 0) = ((S.P (n0 + 128) - S.P n0 : ℝ) : EReal) := by
  pointwise [k0_pay54]
  exact G.p11 127 0
theorem p57 (a : Fin 128) : k0_pay57 (k0_pay10 L.li) (k0_pay55 (k0_pay11 L.b)) (k0_pay56 (k0_pay11 L.b)) (ix2 a 0)
    = ((S.P (n0 + 128) + S.a (n0 + a.val) : ℝ) : EReal) := by
  pointwise [k0_pay57, k0_pay55, k0_pay56]
  rw [G.p54, G.p11, G.p10, ← EReal.coe_sub, ← EReal.coe_add, Seq.a]
  congr 1; ring
theorem p58 : k0_pay58 (k0_pay10 L.li) (k0_pay17 L.m) (k0_pay54 (k0_pay11 L.b)) (k0_pay55 (k0_pay11 L.b)) (k0_pay56 (k0_pay11 L.b)) (ix2 0 0)
    = ((S.P (n0 + 128) + S.N (n0 + 128) : ℝ) : EReal) := by
  pointwise [k0_pay58]
  rw [G.p54, G.p17, ← EReal.coe_add, bot_word]
  simp only [G.p57]
  have := max_fold_masked (fun _ : Fin 128 => True) (fun a => S.P (n0 + 128) + S.a (n0 + a.val)) (S.P (n0 + 128) - S.P n0 + (S.P n0 + S.N n0))
    (S.P (n0 + 128) + S.N (n0 + 128)) ?_ ?_ ?_
  · simpa only [if_true] using this
  · have := S.N_mono (show n0 ≤ n0 + 128 by omega); linarith
  · intro b _
    have := S.a_le_N (show n0 + b.val < n0 + 128 by omega); linarith
  · rcases S.N_attained n0 (n0 + 128) (by omega) with h | ⟨j, h1, h2, h3⟩
    · exact Or.inl (by rw [h]; ring)
    · refine Or.inr ⟨⟨j - n0, by omega⟩, trivial, ?_⟩
      show _ + S.a (n0 + (j - n0)) = _
      rw [show n0 + (j - n0) = j by omega, h3]
theorem p59 : k0_pay59 (k0_pay10 L.li) (k0_pay17 L.m) (k0_pay54 (k0_pay11 L.b)) (k0_pay55 (k0_pay11 L.b)) (k0_pay56 (k0_pay11 L.b)) (ix2 0 0)
    = (Real.exp (S.N n0 - S.N (n0 + 128)) : EReal) := by
  pointwise [k0_pay59]
  rw [G.p58, G.p54, G.p17, ← EReal.coe_add, ← EReal.coe_sub, Ideal.exp_coe]
  congr 2; ring
theorem p60 (a : Fin 128) : k0_pay60 (k0_pay10 L.li) (k0_pay17 L.m) (k0_pay54 (k0_pay11 L.b)) (k0_pay55 (k0_pay11 L.b)) (k0_pay56 (k0_pay11 L.b)) (ix2 a 0)
    = (Real.exp (S.a (n0 + a.val) - S.N (n0 + 128)) : EReal) := by
  pointwise [k0_pay60]
  rw [G.p58, G.p57, ← EReal.coe_sub, Ideal.exp_coe]
  congr 2; ring
theorem dkIn (a e : Fin 128) : L.dkIn g rowIds colIds (ix2 a e)
    = ((∑ b : Fin 128, S.ds (n0 + b.val) (n0 + a.val) * S.w (n0 + b.val) (n0 + a.val) * S.q (n0 + b.val) e : ℝ) : EReal) := by
  unfold Ld.dkIn
  pointwise [k0_pay49]
  simp only [sel_eq, Finset.sum_ite_eq', Finset.mem_univ, if_true]
  simp only [G.p42, G.p38, G.dden, G.q, G.v, ← EReal.coe_mul, sum_coe, ← EReal.coe_add]
  simp only [Seq.ds, mul_comm (S.v _ _)]
/-- The gradient of the keys, given the gradients of the state and of its normalizer behind the chunk. -/
theorem dk (D : Vec Ideal S128x128 .f32) (hD : ∀ e d, D (ix2 e d) = (S.DC (n0 + 128) e d : EReal)) (E : Vec Ideal S1x128 .f32)
    (hE : ∀ e, E (ix2 0 e) = (S.DN (n0 + 128) e : EReal)) (a e : Fin 128) :
    L.dk g rowIds colIds D E (ix2 a e) = ((S.dk (n0 + a.val) e * (Ideal.ofBits .f32 0x3DB504F3#32).toReal : ℝ) : EReal) := by
  unfold Ld.dk
  pointwise [k0_pay70, k0_pay62]
  simp only [G.dkIn, G.p60, G.v, hD, hE, ← EReal.coe_mul, sum_coe, ← EReal.coe_add]
  rw [← S.dk_split e (Nat.le_add_right n0 a.val) (Nat.add_lt_add_left a.isLt n0) G.le, EReal.coe_mul, ← G.scale]
/-- The gradient of the state's normalizer before the chunk. -/
theorem dnr (E : Vec Ideal S1x128 .f32) (hE : ∀ e, E (ix2 0 e) = (S.DN (n0 + 128) e : EReal)) (e : Fin 128) :
    L.dnr g E (ix2 0 e) = (S.DN n0 e : EReal) := by
  unfold Ld.dnr
  pointwise [k0_pay69, k0_pay52]
  simp only [G.p59, G.q, G.idd, hE, ← EReal.coe_mul, sum_coe, ← EReal.coe_add]
  rw [S.DN_step e G.le]
/-- The gradient of the values, given the state's gradient behind the chunk. -/
theorem dv (D : Vec Ideal S128x128 .f32) (hD : ∀ e d, D (ix2 e d) = (S.DC (n0 + 128) e d : EReal)) (a d : Fin 128) :
    L.dv g rowIds colIds D (ix2 a d) = (S.dv (n0 + a.val) d : EReal) := by
  unfold Ld.dv
  pointwise [k0_pay71, k0_pay64, k0_pay63]
  simp only [G.dvIn, G.p60, G.p9, hD, ← EReal.coe_mul, sum_coe, ← EReal.coe_add]
  rw [S.dv_split d (Nat.le_add_right n0 a.val) (Nat.add_lt_add_left a.isLt n0) G.le]
/-- The state's gradient before the chunk. -/
theorem dct (D : Vec Ideal S128x128 .f32) (hD : ∀ e d, D (ix2 e d) = (S.DC (n0 + 128) e d : EReal)) (e d : Fin 128) :
    L.dct g D (ix2 e d) = (S.DC n0 e d : EReal) := by
  unfold Ld.dct
  pointwise [k0_pay68, k0_pay51, k0_pay40]
  simp only [G.p59, G.p14, G.p22, G.p38, hD, ← EReal.coe_mul, sum_coe, ← EReal.coe_add]
  rw [S.DC_step e d G.le]

end Good

/-! ### Over the chunks -/

section Chunks

variable {L : Fin k0_t1_loop.trips → Ld Ideal} {g : Vec Ideal S1x128 .f32} {S : Seq}
  (G : ∀ k : Fin k0_t1_loop.trips, Good (L k) g S (1920 - 128 * k.val))
include G

theorem D_eq (n : ℕ) (hn : n ≤ 16) (e d : Fin 128) : D L g n (ix2 e d) = (S.DC (2048 - 128 * n) e d : EReal) := by
  induction n generalizing e d with
  | zero =>
    unfold D
    pointwise [k0_pay3]
    simp [Seq.DC]
  | succ n ih =>
    have h : n < k0_t1_loop.trips := hn
    unfold D
    rw [dif_pos h, show 2048 - 128 * (n + 1) = 1920 - 128 * n by omega]
    refine (G ⟨n, h⟩).dct _ (fun e d => ?_) e d
    rw [ih (by omega), show 1920 - 128 * n + 128 = 2048 - 128 * n by omega]
theorem DN_eq (n : ℕ) (hn : n ≤ 16) (e : Fin 128) : DN L g n (ix2 0 e) = (S.DN (2048 - 128 * n) e : EReal) := by
  induction n generalizing e with
  | zero =>
    unfold DN
    pointwise [zeroRow, k0_pay4]
    simp [Seq.DN]
  | succ n ih =>
    have h : n < k0_t1_loop.trips := hn
    unfold DN
    rw [dif_pos h, show 2048 - 128 * (n + 1) = 1920 - 128 * n by omega]
    refine (G ⟨n, h⟩).dnr _ (fun e => ?_) e
    rw [ih (by omega), show 1920 - 128 * n + 128 = 2048 - 128 * n by omega]
theorem DG_eq (n : ℕ) (hn : n ≤ 16) (d : Fin 128) : DG L n (ix2 0 d) = (S.dg (2048 - 128 * n) d : EReal) := by
  induction n generalizing d with
  | zero =>
    unfold DG
    pointwise [k0_pay5]
    simp [Seq.dg]
  | succ n ih =>
    have h : n < k0_t1_loop.trips := hn
    unfold DG
    rw [dif_pos h, show 2048 - 128 * (n + 1) = 1920 - 128 * n by omega]
    refine (G ⟨n, h⟩).dg _ (fun d => ?_) d
    rw [ih (by omega), show 1920 - 128 * n + 128 = 2048 - 128 * n by omega]

theorem dvAll_eq (y : S2048x128.Idx) : dvAll L g rowIds colIds y = (S.dv (y 0).val (y 1) : EReal) := by
  have hy : (y 0).val < 2048 := (y 0).isLt
  have hr : 1920 - 128 * (15 - (y 0).val / 128) + (y 0).val % 128 = (y 0).val := by omega
  refine ((G (tripOf (y 0))).dv _ (fun e d => ?_) (loc (y 0)) (y 1)).trans ?_
  · rw [D_eq G _ (by show 15 - (y 0).val / 128 ≤ 16; omega)]
    congr 2
    show 2048 - 128 * (15 - (y 0).val / 128) = 1920 - 128 * (15 - (y 0).val / 128) + 128
    omega
  · show ((S.dv (1920 - 128 * (15 - (y 0).val / 128) + (y 0).val % 128) (y 1) : ℝ) : EReal) = _
    rw [hr]
theorem dkAll_eq (y : S2048x128.Idx) : dkAll L g rowIds colIds y
    = ((S.dk (y 0).val (y 1) * (Ideal.ofBits .f32 0x3DB504F3#32).toReal : ℝ) : EReal) := by
  have hy : (y 0).val < 2048 := (y 0).isLt
  have hr : 1920 - 128 * (15 - (y 0).val / 128) + (y 0).val % 128 = (y 0).val := by omega
  have hb : 2048 - 128 * (15 - (y 0).val / 128) = 1920 - 128 * (15 - (y 0).val / 128) + 128 := by omega
  refine ((G (tripOf (y 0))).dk _ (fun e d => ?_) _ (fun e => ?_) (loc (y 0)) (y 1)).trans ?_
  · rw [D_eq G _ (by show 15 - (y 0).val / 128 ≤ 16; omega)]
    congr 2
  · rw [DN_eq G _ (by show 15 - (y 0).val / 128 ≤ 16; omega)]
    congr 2
  · show ((S.dk (1920 - 128 * (15 - (y 0).val / 128) + (y 0).val % 128) (y 1) * _ : ℝ) : EReal) = _
    rw [hr]
theorem dqAll_eq (y : S2048x128.Idx) : dqAll L g y = (S.dq (y 0).val (y 1) : EReal) := by
  have hy : (y 0).val < 2048 := (y 0).isLt
  have hr : 1920 - 128 * (15 - (y 0).val / 128) + (y 0).val % 128 = (y 0).val := by omega
  refine ((G (tripOf (y 0))).dq (loc (y 0)) (y 1)).trans ?_
  show ((S.dq (1920 - 128 * (15 - (y 0).val / 128) + (y 0).val % 128) (y 1) : ℝ) : EReal) = _
  rw [hr]
theorem doAll_eq (y : S2048x128.Idx) : doAll L g y = (S.dO (y 0).val (y 1) : EReal) := by
  have hy : (y 0).val < 2048 := (y 0).isLt
  have hr : 1920 - 128 * (15 - (y 0).val / 128) + (y 0).val % 128 = (y 0).val := by omega
  refine ((G (tripOf (y 0))).dO (loc (y 0)) (y 1)).trans ?_
  show ((S.dO (1920 - 128 * (15 - (y 0).val / 128) + (y 0).val % 128) (y 1) : ℝ) : EReal) = _
  rw [hr]
theorem DG_all (d : Fin 128) : DG L 16 (ix2 0 d) = (S.dg 0 d : EReal) := DG_eq G 16 le_rfl d

end Chunks

end Cert.Proof.MlstmIdeal
-- ==== Proof.MlstmIdeal.Args.lean ====
/- The arguments as each head's sequences over the real numbers. -/
module

public import Idealize.ShloMosaic.Lib.IdealHost
public import Idealize.ShloMosaic.Lib.ValueIdxCore
public import Idealize.ShloMosaic.Lib.Pointwise
public import proofs.«01_k».proof.Proof.MlstmIdeal.Cells

@[expose] public section

noncomputable section

namespace Cert.Proof.MlstmIdeal

open Finset Idealize.ShloMosaic

/-- Where head `h`'s feature `d` stands in a row. -/
def lane (h : Fin 8) (d : Fin 128) : Fin 1024 := ⟨h.val * 128 + d.val, by have := h.isLt; have := d.isLt; omega⟩
/-- The same behind `n` columns of a row of all the projections. -/
def at4 (n : ℕ) (hn : n + 1024 ≤ 4096) (h : Fin 8) (d : Fin 128) : Fin 4096 :=
  ⟨n + (h.val * 128 + d.val), by have := h.isLt; have := d.isLt; omega⟩
/-- The same in a row of the joined gradient. -/
def at2 (h : Fin 8) (d : Fin 128) : Fin 2048 := ⟨h.val * 128 + d.val, by have := h.isLt; have := d.isLt; omega⟩

/-- The arguments the results depend on. -/
structure Args where
  q : FVec Ideal ⟨2, ![2048, 1024]⟩ .f32
  k : FVec Ideal ⟨2, ![2048, 1024]⟩ .f32
  pa : FVec Ideal ⟨2, ![2048, 4096]⟩ .f32
  li : FVec Ideal ⟨2, ![2048, 8]⟩ .f32
  lf : FVec Ideal ⟨2, ![2048, 8]⟩ .f32
  g : FVec Ideal ⟨2, ![1, 1024]⟩ .f32
  dh : FVec Ideal ⟨2, ![2048, 2048]⟩ .f32

/-- Every argument's entries are numbers, the output gates' excepted. -/
structure Args.Real (A : Args) : Prop where
  q : ∀ i, A.q i = ((A.q i).toReal : EReal)
  k : ∀ i, A.k i = ((A.k i).toReal : EReal)
  v : ∀ (n : Fin 2048) h d, A.pa (ix2 n (at4 2048 (by omega) h d)) = ((A.pa (ix2 n (at4 2048 (by omega) h d))).toReal : EReal)
  li : ∀ i, A.li i = ((A.li i).toReal : EReal)
  lf : ∀ i, A.lf i = ((A.lf i).toReal : EReal)
  g : ∀ i, A.g i = ((A.g i).toReal : EReal)
  dh : ∀ (n : Fin 2048) h d, A.dh (ix2 n (at2 h d)) = ((A.dh (ix2 n (at2 h d))).toReal : EReal)

/-- A head's sequences. -/
def Args.seq (A : Args) (h : Fin 8) : Seq where
  lf n := (A.lf (ix2 (Fin.ofNat 2048 n) h)).toReal
  li n := (A.li (ix2 (Fin.ofNat 2048 n) h)).toReal
  q n d := (A.q (ix2 (Fin.ofNat 2048 n) (lane h d))).toReal
  ks n d := (A.k (ix2 (Fin.ofNat 2048 n) (lane h d))).toReal * (Ideal.ofBits .f32 0x3DB504F3#32).toReal
  v n d := (A.pa (ix2 (Fin.ofNat 2048 n) (at4 2048 (by omega) h d))).toReal
  sig n d := (Ideal.logistic (A.pa (ix2 (Fin.ofNat 2048 n) (at4 3072 (by omega) h d)))).toReal
  dy n d := (A.dh (ix2 (Fin.ofNat 2048 n) (at2 h d))).toReal
  g d := (A.g (ix2 0 (lane h d))).toReal
  e := (Ideal.ofBits .f32 0x358637BD#32).toReal
  z := 128

/-- No row's score sum is as great as the exponential it is compared with: the denominator's derivative is one-sided nowhere. -/
def Args.Untied (A : Args) : Prop := ∀ (l : Fin 2048) (h : Fin 8),
  |(A.seq h).den l.val| ≠ Real.exp (-((A.seq h).P (l.val + 1) + (A.seq h).N (l.val + 1)))

theorem z_word : Ideal.ofBits .f32 0x43000000#32 = ((128 : ℝ) : EReal) := by
  simp [Ideal.ofBits, Ideal.ieee, -EReal.coe_mul]; norm_num
theorem zero_word : Ideal.ofBits .f32 0x00000000#32 = 0 := by
  simp [Ideal.ofBits, Ideal.ieee]
theorem half_word : Ideal.ofBits .f32 0xBF000000#32 = ((-(1 / 2) : ℝ) : EReal) := by
  simp [Ideal.ofBits, Ideal.ieee, -EReal.coe_mul]; norm_num
theorem eps_word : ∃ x : ℝ, 0 < x ∧ Ideal.ofBits .f32 0x358637BD#32 = (x : EReal) := by
  refine ⟨8796093 * 2 ^ (-43 : ℤ), by positivity, ?_⟩
  simp [Ideal.ofBits, Ideal.ieee, -EReal.coe_mul]
theorem scale_word : ∃ x : ℝ, Ideal.ofBits .f32 0x3DB504F3#32 = (x : EReal) := by
  refine ⟨11863283 * 2 ^ (-27 : ℤ), ?_⟩
  simp [Ideal.ofBits, Ideal.ieee, -EReal.coe_mul]
theorem top_word : Ideal.ofBits .f32 0x7F800000#32 = ⊤ := by simp [Ideal.ofBits, Ideal.ieee]

/-- The logistic of any value is a number. -/
theorem logistic_real (x : EReal) : Ideal.logistic x = ((Ideal.logistic x).toReal : EReal) := by
  induction x using EReal.rec with
  | bot =>
    have : Ideal.logistic ⊥ = 0 := by
      have h1 : (1 : EReal) + ⊤ = ⊤ := EReal.coe_add_top 1
      simp [Ideal.logistic, Ideal.div, h1]
    rw [this]; simp
  | coe x => rw [Ideal.logistic_coe, EReal.toReal_coe]
  | top =>
    have : Ideal.logistic ⊤ = 1 := by
      simp only [Ideal.logistic, EReal.neg_top, Ideal.exp_bot, add_zero]
      exact (div_real (x := 1) one_ne_zero).trans (by simp)
    rw [this]; simp

namespace Args

variable {A : Args} (R : A.Real) (h : Fin 8)
include R

theorem seq_lf (n : ℕ) : A.lf (ix2 (Fin.ofNat 2048 n) h) = ((A.seq h).lf n : EReal) := R.lf _
theorem seq_li (n : ℕ) : A.li (ix2 (Fin.ofNat 2048 n) h) = ((A.seq h).li n : EReal) := R.li _
theorem seq_q (n : ℕ) (d : Fin 128) : A.q (ix2 (Fin.ofNat 2048 n) (lane h d)) = ((A.seq h).q n d : EReal) := R.q _
theorem seq_ks (n : ℕ) (d : Fin 128) :
    A.k (ix2 (Fin.ofNat 2048 n) (lane h d)) * Ideal.ofBits .f32 0x3DB504F3#32 = ((A.seq h).ks n d : EReal) := by
  obtain ⟨x, hx⟩ := scale_word
  show _ = (((A.k (ix2 (Fin.ofNat 2048 n) (lane h d))).toReal * (Ideal.ofBits .f32 0x3DB504F3#32).toReal : ℝ) : EReal)
  rw [EReal.coe_mul, ← R.k, hx, EReal.toReal_coe]
theorem seq_v (n : ℕ) (d : Fin 128) : A.pa (ix2 (Fin.ofNat 2048 n) (at4 2048 (by omega) h d)) = ((A.seq h).v n d : EReal) := R.v _ _ _
theorem seq_dy (n : ℕ) (d : Fin 128) : A.dh (ix2 (Fin.ofNat 2048 n) (at2 h d)) = ((A.seq h).dy n d : EReal) := R.dh _ _ _
theorem seq_g (d : Fin 128) : A.g (ix2 0 (lane h d)) = ((A.seq h).g d : EReal) := R.g _
omit R in
theorem seq_sig (n : ℕ) (d : Fin 128) :
    Ideal.logistic (A.pa (ix2 (Fin.ofNat 2048 n) (at4 3072 (by omega) h d))) = ((A.seq h).sig n d : EReal) := logistic_real _
omit R in
theorem seq_e : Ideal.ofBits .f32 0x358637BD#32 = ((A.seq h).e : EReal) := by
  obtain ⟨x, h0, hx⟩ := eps_word
  show _ = ((Ideal.ofBits .f32 0x358637BD#32).toReal : EReal)
  rw [hx, EReal.toReal_coe]
omit R in
theorem seq_epos : 0 < (A.seq h).e := by
  obtain ⟨x, h0, hx⟩ := eps_word
  show 0 < (Ideal.ofBits .f32 0x358637BD#32).toReal
  rw [hx, EReal.toReal_coe]; exact h0
/-- The running sum of the forget gates' logarithms. -/
theorem sum_lf (n : ℕ) : ∑ s ∈ range n, A.lf (ix2 (Fin.ofNat 2048 s) h) = ((A.seq h).P n : EReal) := by
  rw [Seq.P, ← sum_coe]
  exact sum_congr rfl fun s _ => seq_lf R h s

theorem lf_at (n : Fin 2048) : A.lf (ix2 n h) = ((A.seq h).lf n.val : EReal) := by
  rw [← seq_lf R, Fin.ofNat_eq_cast, Fin.cast_val_eq_self]
theorem li_at (n : Fin 2048) : A.li (ix2 n h) = ((A.seq h).li n.val : EReal) := by
  rw [← seq_li R, Fin.ofNat_eq_cast, Fin.cast_val_eq_self]
theorem q_at (n : Fin 2048) (d : Fin 128) (p) : A.q (ix2 n ⟨h.val * 128 + d.val, p⟩) = ((A.seq h).q n.val d : EReal) := by
  rw [← seq_q R, Fin.ofNat_eq_cast, Fin.cast_val_eq_self]; rfl
theorem ks_at (n : Fin 2048) (d : Fin 128) (p) :
    A.k (ix2 n ⟨h.val * 128 + d.val, p⟩) * Ideal.ofBits .f32 0x3DB504F3#32 = ((A.seq h).ks n.val d : EReal) := by
  rw [← seq_ks R, Fin.ofNat_eq_cast, Fin.cast_val_eq_self]; rfl
theorem v_at (n : Fin 2048) (d : Fin 128) (p) : A.pa (ix2 n ⟨2048 + (h.val * 128 + d.val), p⟩) = ((A.seq h).v n.val d : EReal) := by
  rw [← seq_v R, Fin.ofNat_eq_cast, Fin.cast_val_eq_self]; rfl
theorem dy_at (n : Fin 2048) (d : Fin 128) (p) : A.dh (ix2 n ⟨h.val * 128 + d.val, p⟩) = ((A.seq h).dy n.val d : EReal) := by
  rw [← seq_dy R, Fin.ofNat_eq_cast, Fin.cast_val_eq_self]; rfl
theorem g_at (d : Fin 128) (p) : A.g (ix2 0 ⟨h.val * 128 + d.val, p⟩) = ((A.seq h).g d : EReal) := seq_g R h d
omit R in
theorem sig_at (n : Fin 2048) (d : Fin 128) (p) :
    Ideal.logistic (A.pa (ix2 n ⟨3072 + (h.val * 128 + d.val), p⟩)) = ((A.seq h).sig n.val d : EReal) := by
  rw [← seq_sig, Fin.ofNat_eq_cast, Fin.cast_val_eq_self]; rfl

end Args

theorem ext2 {n0 n1 : ℕ} {α : Type} {f g : (⟨2, ![n0, n1]⟩ : Shape).Idx → α} (h : ∀ a b, f (ix2 a b) = g (ix2 a b)) : f = g :=
  funext fun i => by rw [eq_ix2 i]; exact h _ _
/-- A column's head. -/
def headOf (c : Fin 1024) : Fin 8 := ⟨c.val / 128, by have := c.isLt; omega⟩
/-- A column's feature. -/
def featOf (c : Fin 1024) : Fin 128 := ⟨c.val % 128, by omega⟩
theorem col_eq (c : Fin 1024) : c = ⟨(headOf c).val * 128 + (featOf c).val, by have := c.isLt; show c.val / 128 * 128 + c.val % 128 < 1024; omega⟩ :=
  Fin.ext (by show c.val = c.val / 128 * 128 + c.val % 128; omega)

/-- The gradient of the queries, head beside head. -/
def Args.dq (A : Args) : FVec Ideal ⟨2, ![2048, 1024]⟩ .f32 :=
  fun i => ((A.seq (headOf (i 1))).dq (i 0).val (featOf (i 1)) : EReal)
/-- The gradient of the keys, head beside head. -/
def Args.dk (A : Args) : FVec Ideal ⟨2, ![2048, 1024]⟩ .f32 :=
  fun i => (((A.seq (headOf (i 1))).dk (i 0).val (featOf (i 1)) * (Ideal.ofBits .f32 0x3DB504F3#32).toReal : ℝ) : EReal)
/-- The gradient of the values, head beside head. -/
def Args.dv (A : Args) : FVec Ideal ⟨2, ![2048, 1024]⟩ .bf16 :=
  fun i => ((A.seq (headOf (i 1))).dv (i 0).val (featOf (i 1)) : EReal)
/-- The gradient of the output gates, head beside head. -/
def Args.dO (A : Args) : FVec Ideal ⟨2, ![2048, 1024]⟩ .bf16 :=
  fun i => ((A.seq (headOf (i 1))).dO (i 0).val (featOf (i 1)) : EReal)
/-- The gradient of the norm's weights, head beside head. -/
def Args.dg (A : Args) : FVec Ideal ⟨2, ![1, 1024]⟩ .f32 :=
  fun i => ((A.seq (headOf (i 1))).dg 0 (featOf (i 1)) : EReal)

end Cert.Proof.MlstmIdeal
-- ==== Proof.MlstmIdeal.Cumsum.lean ====
/- The host's running sums and maxima, read along one axis. -/
module

public import Idealize.ShloMosaic.Lib.IdealHost
public import Idealize.ShloMosaic.Lib.ValueIdxCore
public import Idealize.ShloMosaic.Lib.Pointwise

@[expose] public section

set_option maxRecDepth 16384

noncomputable section

namespace Cert.Proof.MlstmIdeal

open Finset Idealize.ShloMosaic

/-- The positions of a window that ends at `y`, the ones before the array at zero. -/
theorem sum_window (l y : ℕ) (hy : y < l) (X : ℕ → EReal) :
    (∑ n : Fin l, if l - 1 ≤ y + n.val then X (y + n.val - (l - 1)) else 0) = ∑ s ∈ range (y + 1), X s := by
  rw [← sum_range (fun n => if l - 1 ≤ y + n then X (y + n - (l - 1)) else 0), ← sum_filter]
  refine sum_bij (fun n _ => y + n - (l - 1)) ?_ ?_ ?_ fun _ _ => rfl
  · intro n hn
    have := mem_filter.mp hn
    have := mem_range.mp this.1
    rw [mem_range]; omega
  · intro a ha b hb h
    have := (mem_filter.mp ha).2
    have := (mem_filter.mp hb).2
    omega
  · intro s hs
    have := mem_range.mp hs
    exact ⟨s + (l - 1) - y, mem_filter.mpr ⟨mem_range.mpr (by omega), by omega⟩, by omega⟩

theorem foldl_add {n : ℕ} (f : Fin n → EReal) (v : EReal) : (List.finRange n).foldl (fun r i => r + f i) v = v + ∑ i, f i := by
  rw [← List.sum_ofFn, List.ofFn_eq_map]
  generalize List.finRange n = l
  induction l generalizing v with
  | nil => simp
  | cons a l ih => rw [List.foldl_cons, ih, List.map_cons, List.sum_cons, add_assoc]

/-- A windowed sum is the initial value and the sum over the window's positions. -/
theorem windowAdd_eq {s t u : Shape} (window strides lo hi : Fin s.rank → ℕ) (x : FVec Ideal s .f32) (init : u.Idx → Ideal .f32)
    (h : s.ReduceWindows window strides lo hi t) (hu : 0 < u.numel) (h0 : init (Shape.Idx.first hu) = 0) (j : t.Idx) :
    Host.reduceWindowAdd (F := Ideal) window strides lo hi x init h hu j
      = ∑ n : (⟨s.rank, window⟩ : Shape).Idx,
          if hin : ∀ a, lo a ≤ (j (Fin.cast h.1.symm a)).val * strides a + (n a).val
              ∧ (j (Fin.cast h.1.symm a)).val * strides a + (n a).val - lo a < s.size a then
            x fun a => ⟨(j (Fin.cast h.1.symm a)).val * strides a + (n a).val - lo a, (hin a).2⟩
          else 0 := by
  refine Eq.trans (foldl_add _ _) ?_
  show init (Shape.Idx.first hu) + _ = _
  rw [h0, zero_add, ← Equiv.sum_comp (Shape.rowMajor (⟨s.rank, window⟩ : Shape))]
  refine sum_congr rfl fun n _ => ?_
  simp only [Equiv.symm_apply_apply]

/-- The running sum down the rows of a matrix. -/
theorem cumsum_rows {u : Shape} (x : FVec Ideal ⟨2, ![2048, 8]⟩ .f32) (init : u.Idx → Ideal .f32)
    (h : (⟨2, ![2048, 8]⟩ : Shape).ReduceWindows ![2048, 1] ![1, 1] ![2047, 0] ![0, 0] ⟨2, ![2048, 8]⟩) (hu : 0 < u.numel)
    (h0 : init (Shape.Idx.first hu) = 0) (a : Fin 2048) (b : Fin 8) :
    Host.reduceWindowAdd (F := Ideal) ![2048, 1] ![1, 1] ![2047, 0] ![0, 0] x init h hu (ix2 a b)
      = ∑ s ∈ range (a.val + 1), x (ix2 (Fin.ofNat 2048 s) b) := by
  rw [windowAdd_eq _ _ _ _ _ _ _ _ h0, ValueIdx.sum_idx2]
  rw [← sum_window 2048 a.val a.isLt]
  refine sum_congr rfl fun n _ => ?_
  rw [Fin.sum_univ_one]
  have hn := n.isLt
  have ha := a.isLt
  have hb := b.isLt
  have h1 : ((ix2 n (0 : Fin 1) : (⟨2, ![2048, 1]⟩ : Shape).Idx) 0).val = n.val := rfl
  have h2 : ((ix2 n (0 : Fin 1) : (⟨2, ![2048, 1]⟩ : Shape).Idx) 1).val = 0 := rfl
  by_cases hc : 2047 ≤ a.val + n.val
  · rw [dif_pos (Fin.forall_fin_two.mpr ⟨⟨by show 2047 ≤ a.val * 1 + n.val; omega, by show a.val * 1 + n.val - 2047 < 2048; omega⟩,
      ⟨Nat.zero_le _, by show b.val * 1 + 0 - 0 < 8; omega⟩⟩), if_pos (by omega)]
    refine congrArg x (funext fun i => ?_)
    match i with
    | ⟨0, _⟩ =>
      refine Fin.ext ?_
      show a.val * 1 + n.val - 2047 = (a.val + n.val - (2048 - 1)) % 2048
      omega
    | ⟨1, _⟩ =>
      refine Fin.ext ?_
      show b.val * 1 + 0 - 0 = b.val
      omega
  · rw [dif_neg (fun hp => hc (by have := (hp 0).1; change 2047 ≤ a.val * 1 + n.val at this; omega)), if_neg (by omega)]

/-- The running sum within each group of rows. -/
theorem cumsum_groups {u : Shape} (x : FVec Ideal ⟨3, ![16, 128, 8]⟩ .f32) (init : u.Idx → Ideal .f32)
    (h : (⟨3, ![16, 128, 8]⟩ : Shape).ReduceWindows ![1, 128, 1] ![1, 1, 1] ![0, 127, 0] ![0, 0, 0] ⟨3, ![16, 128, 8]⟩) (hu : 0 < u.numel)
    (h0 : init (Shape.Idx.first hu) = 0) (c : Fin 16) (a : Fin 128) (b : Fin 8) :
    Host.reduceWindowAdd (F := Ideal) ![1, 128, 1] ![1, 1, 1] ![0, 127, 0] ![0, 0, 0] x init h hu (ix3 c a b)
      = ∑ s ∈ range (a.val + 1), x (ix3 c (Fin.ofNat 128 s) b) := by
  rw [windowAdd_eq _ _ _ _ _ _ _ _ h0, sum_idx3, Fin.sum_univ_one]
  rw [← sum_window 128 a.val a.isLt]
  refine sum_congr rfl fun n _ => ?_
  rw [Fin.sum_univ_one]
  have hn := n.isLt
  have ha := a.isLt
  have hb := b.isLt
  have hcl := c.isLt
  by_cases hc : 127 ≤ a.val + n.val
  · rw [dif_pos (Fin.forall_fin_succ.mpr ⟨⟨Nat.zero_le _, by show c.val * 1 + 0 - 0 < 16; omega⟩,
      Fin.forall_fin_two.mpr ⟨⟨by show 127 ≤ a.val * 1 + n.val; omega, by show a.val * 1 + n.val - 127 < 128; omega⟩,
      ⟨Nat.zero_le _, by show b.val * 1 + 0 - 0 < 8; omega⟩⟩⟩), if_pos (by omega)]
    refine congrArg x (funext fun i => ?_)
    match i with
    | ⟨0, _⟩ =>
      refine Fin.ext ?_
      show c.val * 1 + 0 - 0 = c.val
      omega
    | ⟨1, _⟩ =>
      refine Fin.ext ?_
      show a.val * 1 + n.val - 127 = (a.val + n.val - (128 - 1)) % 128
      omega
    | ⟨2, _⟩ =>
      refine Fin.ext ?_
      show b.val * 1 + 0 - 0 = b.val
      omega
  · rw [dif_neg (fun hp => hc (by have := (hp 1).1; change 127 ≤ a.val * 1 + n.val at this; omega)), if_neg (by omega)]

/-- The greatest along a middle axis. -/
theorem reduce_max_mid {n0 n1 n2 : ℕ} {u : Shape} (x : FVec Ideal ⟨3, ![n0, n1, n2]⟩ .f32) (c : u.Idx → Ideal .f32)
    (h : (⟨3, ![n0, n1, n2]⟩ : Shape).ReducesTo [1] ⟨2, ![n0, n2]⟩) (hu : 0 < u.numel) (a : Fin n0) (b : Fin n2) :
    Host.reduce FloatOps.maximumf x c h hu (ix2 a b) = univ.fold max (c (Shape.Idx.first hu)) fun k : Fin n1 => x (ix3 a k b) := by
  simp only [pointwise]

end Cert.Proof.MlstmIdeal
-- ==== Proof.MlstmIdeal.Host.lean ====
/- What the kernel's arrays hold when it is launched. -/
module

public import Idealize.ShloMosaic.Lib.StableHlo.ReadAt
public import proofs.«01_k».proof.Proof.MlstmIdeal.Args
public import proofs.«01_k».proof.Proof.MlstmIdeal.Cumsum
public import proofs.«01_k».proof.Proof.MlstmIdeal.Cells
public import proofs.«01_k».proof.Proof.Gen.MlstmIdeal.Frame

@[expose] public section

set_option maxRecDepth 16384

noncomputable section

namespace Cert.Proof.MlstmIdeal

open Finset
open Idealize.ShloMosaic Idealize.ShloMosaic.TcCoe Idealize.SL Cert.MlstmIdeal Cert.MlstmIdeal.Gen

variable (m : (ℓ : Loc nD τ sig) → Buf (Elt Ideal) ℓ) (c : Dev nD)

/-- The arguments as the kernel's memory holds them. -/
def args : Args where
  q := m ((c.tc : Thread nD τ).loc main_arg0)
  k := m ((c.tc : Thread nD τ).loc main_arg1)
  pa := m ((c.tc : Thread nD τ).loc main_arg2)
  li := m ((c.tc : Thread nD τ).loc main_arg3)
  lf := m ((c.tc : Thread nD τ).loc main_arg4)
  g := m ((c.tc : Thread nD τ).loc main_arg5)
  dh := m ((c.tc : Thread nD τ).loc main_arg6)

theorem host_v7 : (V m c main_v7 : FVec Ideal S16x128x8 .f32)
    = Host.reduceWindowAdd ![1, 128, 1] ![1, 1, 1] ![0, 127, 0] ![0, 0, 0] (shapeCast S16x128x8 (args m c).lf shapeCasts_S2048x8_S16x128x8)
        (broadcastInDim S_ ![] bcast_S_S_ (constant S_ .f32 0x00000000#32)) reduceWindows_S16x128x8_S16x128x8_w1s1p0_0_w128s1p127_0_w1s1p0_0 h_S_ := by
  simp only [V, List.flatten_cons, List.flatten_nil, List.append_nil]
  after_reads_simp
  rfl
theorem host_v17 : (V m c main_v17 : FVec Ideal S2048x8 .f32)
    = Host.reduceWindowAdd ![2048, 1] ![1, 1] ![2047, 0] ![0, 0] (args m c).lf
        (broadcastInDim S_ ![] bcast_S_S_ (constant S_ .f32 0x00000000#32)) reduceWindows_S2048x8_S2048x8_w2048s1p2047_0_w1s1p0_0 h_S_ := by
  simp only [V, List.flatten_cons, List.flatten_nil, List.append_nil]
  after_reads_simp
  rfl
theorem host_v41 : (V m c main_v41 : FVec Ideal S16x8 .f32)
    = maximumf (F := Ideal) (φ := .f32) (V m c main_v20)
        (Host.reduce FloatOps.maximumf (V m c main_v39) (constant S_ .f32 0xFF800000#32) reducesTo_S16x2048x8_S16x8_d1 h_S_) := by
  simp only [V, List.flatten_cons, List.flatten_nil, List.append_nil]
  after_reads_simp
theorem host_li (h : Fin 8) (n : Fin 2048) (d : Fin 128) : V m c main_v12 (ix3 ⟨h.val, by omega⟩ n d) = (args m c).li (ix2 n h) := by
  simp only [V, List.flatten_cons, List.flatten_nil, List.append_nil]
  after_reads_at
  rfl
theorem host_lir (h : Fin 8) (n : Fin 2048) : V m c main_v13 (ix3 ⟨h.val, by omega⟩ 0 n) = (args m c).li (ix2 n h) := by
  simp only [V, List.flatten_cons, List.flatten_nil, List.append_nil]
  after_reads_at
  rfl
theorem host_v9 : (V m c main_v9 : FVec Ideal S2048x16 .f32)
    = concatenate S2048x16 1 [⟨S2048x8, (args m c).li⟩, ⟨S2048x8, shapeCast S2048x8 (V m c main_v7) shapeCasts_S16x128x8_S2048x8⟩] concatenates_S2048x8_S2048x8_S2048x16_d1 := by
  simp only [V, List.flatten_cons, List.flatten_nil, List.append_nil]
  after_reads_simp
  rfl
theorem host_v12 : (V m c main_v12 : FVec Ideal S16x2048x128 .f32)
    = broadcastInDim S16x2048x128 ![0, 1, 2] bcast_S16x2048x1_S16x2048x128_0_1_2 (broadcastInDim S16x2048x1 ![0, 1] bcast_S16x2048_S16x2048x1_0_1
        (transpose S16x2048 [1, 0] (V m c main_v9) transposes_S2048x16_S16x2048_1_0)) := by
  simp only [V, List.flatten_cons, List.flatten_nil, List.append_nil]
  after_reads_simp
theorem host_v13 : (V m c main_v13 : FVec Ideal S16x1x2048 .f32)
    = broadcastInDim S16x1x2048 ![0, 2] bcast_S16x2048_S16x1x2048_0_2 (transpose S16x2048 [1, 0] (V m c main_v9) transposes_S2048x16_S16x2048_1_0) := by
  simp only [V, List.flatten_cons, List.flatten_nil, List.append_nil]
  after_reads_simp
theorem host_v20_0 (h : Fin 8) : V m c main_v20 (ix2 0 h) = (0 : EReal) := by
  simp only [V, List.flatten_cons, List.flatten_nil, List.append_nil]
  after_reads_simp
  pointwise

theorem host_v20_s (g : Fin 15) (h : Fin 8) :
    V m c main_v20 (ix2 g.succ h) = V m c main_v17 (ix2 ⟨127 + 128 * g.val, by omega⟩ h) := by
  generalize hx : V m c main_v17 (ix2 ⟨127 + 128 * g.val, by omega⟩ h) = x
  simp only [V, List.flatten_cons, List.flatten_nil, List.append_nil]
  after_reads_simp
  pointwise
  refine (dif_neg (Nat.not_lt.mpr (Nat.succ_le_succ (Nat.zero_le _)))).trans ?_
  refine Eq.trans ?_ hx
  simp only [V, List.flatten_cons, List.flatten_nil, List.append_nil]
  after_reads_simp
  rfl

theorem host_v39 : (V m c main_v39 : FVec Ideal S16x2048x8 .f32)
    = select (broadcastInDim S16x2048x8 ![0, 1, 2] bcast_S16x2048x1_S16x2048x8_0_1_2 (broadcastInDim S16x2048x1 ![0, 1] bcast_S16x2048_S16x2048x1_0_1
        (cmpi .slt (broadcastInDim S16x2048 ![0, 1] bcast_S1x2048_S16x2048_0_1 (broadcastInDim S1x2048 ![1] bcast_S2048_S1x2048_1 (iotaInDim S2048 32 0)))
          (broadcastInDim S16x2048 ![0, 1] bcast_S16x1_S16x2048_0_1 (muli (broadcastInDim S16x1 ![] bcast_S_S16x1 (constantI S_ 32 128#32))
            (broadcastInDim S16x1 ![0] bcast_S16_S16x1_0 (iotaInDim S16 32 0)))))))
        (addf (φ := .f32) (subf (φ := .f32) (broadcastInDim S16x2048x8 ![0, 1, 2] bcast_S16x1x8_S16x2048x8_0_1_2 (broadcastInDim S16x1x8 ![0, 2] bcast_S16x8_S16x1x8_0_2 (V m c main_v20)))
          (broadcastInDim S16x2048x8 ![0, 1, 2] bcast_S1x2048x8_S16x2048x8_0_1_2 (broadcastInDim S1x2048x8 ![1, 2] bcast_S2048x8_S1x2048x8_1_2 (V m c main_v17))))
          (broadcastInDim S16x2048x8 ![0, 1, 2] bcast_S1x2048x8_S16x2048x8_0_1_2 (broadcastInDim S1x2048x8 ![1, 2] bcast_S2048x8_S1x2048x8_1_2 (args m c).li)))
        (broadcastInDim S16x2048x8 ![] bcast_S_S16x2048x8 (constant S_ .f32 0xFF800000#32)) := by
  simp only [V, List.flatten_cons, List.flatten_nil, List.append_nil]
  after_reads_simp
  rfl
theorem host_v52 : (V m c main_v52 : FVec Ideal S16x2048x8x128 .f32)
    = mulf (φ := .f32) (broadcastInDim S16x2048x8x128 ![0, 1, 2, 3] bcast_S16x2048x8x1_S16x2048x8x128_0_1_2_3
        (broadcastInDim S16x2048x8x1 ![0, 1, 2] bcast_S16x2048x8_S16x2048x8x1_0_1_2 (Host.exp (φ := .f32) (subf (φ := .f32) (V m c main_v39)
          (broadcastInDim S16x2048x8 ![0, 1, 2] bcast_S16x1x8_S16x2048x8_0_1_2 (broadcastInDim S16x1x8 ![0, 2] bcast_S16x8_S16x1x8_0_2 (V m c main_v41)))))))
        (broadcastInDim S16x2048x8x128 ![0, 1, 2, 3] bcast_S1x2048x8x128_S16x2048x8x128_0_1_2_3
          (broadcastInDim S1x2048x8x128 ![1, 2, 3] bcast_S2048x8x128_S1x2048x8x128_1_2_3
            (mulf (φ := .f32) (shapeCast S2048x8x128 (args m c).k shapeCasts_S2048x1024_S2048x8x128)
              (broadcastInDim S2048x8x128 ![] bcast_S_S2048x8x128 (constant S_ .f32 0x3DB504F3#32))))) := by
  simp only [V, List.flatten_cons, List.flatten_nil, List.append_nil]
  after_reads_simp
  rfl
theorem host_v53 : (V m c main_v53 : FVec Ideal S8x16x128x128 .f32)
    = Host.dotGeneral (φ₁ := .f32) (φ₂ := .f32) dot_S16x2048x8x128_S2048x8x128_S8x16x128x128_1_0_03_2_2_1 none (V m c main_v52)
        (shapeCast S2048x8x128 (extractStridedSlice S2048x1024 ![0, 2048] (args m c).pa slices_S2048x4096_S2048x1024_0_2048) shapeCasts_S2048x1024_S2048x8x128) := by
  simp only [V, List.flatten_cons, List.flatten_nil, List.append_nil]
  after_reads_simp
  rfl
theorem host_v58 : (V m c main_v58 : FVec Ideal S8x16x1x128 .f32)
    = broadcastInDim S8x16x1x128 ![0, 1, 2, 3] bcast_S8x16x1x1_S8x16x1x128_0_1_2_3 (broadcastInDim S8x16x1x1 ![0, 1] bcast_S8x16_S8x16x1x1_0_1
          (transpose S8x16 [1, 0] (V m c main_v41) transposes_S16x8_S8x16_1_0)) := by
  simp only [V, List.flatten_cons, List.flatten_nil, List.append_nil]
  after_reads_simp
theorem host_v59 : (V m c main_v59 : FVec Ideal S8x16x1x128 .f32)
    = broadcastInDim S8x16x1x128 ![0, 1, 3] bcast_S8x16x128_S8x16x1x128_0_1_3 (transpose S8x16x128 [1, 0, 2]
          (Host.reduceAdd (φ := .f32) (V m c main_v52) (constant (F := Ideal) S_ .f32 0x00000000#32) reducesTo_S16x2048x8x128_S16x8x128_d1 h_S_) transposes_S16x8x128_S8x16x128_1_0_2) := by
  simp only [V, List.flatten_cons, List.flatten_nil, List.append_nil]
  after_reads_simp
theorem host_v61_n (h : Fin 8) (g : Fin 16) (e : Fin 128) : V m c main_v61 (ix4 h g 0 e) = V m c main_v59 (ix4 h g 0 e) := by
  generalize hx : V m c main_v59 (ix4 h g 0 e) = x
  simp only [V, List.flatten_cons, List.flatten_nil, List.append_nil]
  after_reads_simp
  pointwise
  refine Eq.trans ?_ hx
  simp only [V, List.flatten_cons, List.flatten_nil, List.append_nil]
  after_reads_simp
theorem host_v61_m (h : Fin 8) (g : Fin 16) (e : Fin 128) : V m c main_v61 (ix4 h g 1 e) = V m c main_v58 (ix4 h g 0 e) := by
  generalize hx : V m c main_v58 (ix4 h g 0 e) = x
  simp only [V, List.flatten_cons, List.flatten_nil, List.append_nil]
  after_reads_simp
  pointwise
  refine Eq.trans ?_ hx
  simp only [V, List.flatten_cons, List.flatten_nil, List.append_nil]
  after_reads_simp

variable {m c} (R : (args m c).Real)
include R

theorem v7_at (g : Fin 16) (a : Fin 128) (h : Fin 8) : V m c main_v7 (ix3 g a h)
    = ((((args m c).seq h).P (128 * g.val + a.val + 1) - ((args m c).seq h).P (128 * g.val) : ℝ) : EReal) := by
  rw [host_v7]
  refine (cumsum_groups _ _ _ _ zero_word g a h).trans ?_
  have hg := g.isLt
  have ha := a.isLt
  have e : ∀ s ∈ range (a.val + 1), shapeCast S16x128x8 (args m c).lf shapeCasts_S2048x8_S16x128x8 (ix3 g (Fin.ofNat 128 s) h)
      = (((args m c).seq h).lf (128 * g.val + s) : EReal) := by
    intro s hs
    have hs := mem_range.mp hs
    pointwise
    rw [Args.lf_at R h]
    congr 2
    show g.val * 128 + s % 128 = _
    omega
  rw [sum_congr rfl e, sum_coe, Seq.P, Seq.P, show 128 * g.val + a.val + 1 = 128 * g.val + (a.val + 1) by ring]
  congr 1
  rw [sum_range_add (fun s => ((args m c).seq h).lf s), add_sub_cancel_left]
theorem v17_at (n : Fin 2048) (h : Fin 8) : V m c main_v17 (ix2 n h) = (((args m c).seq h).P (n.val + 1) : EReal) := by
  rw [host_v17]
  exact (cumsum_rows _ _ _ _ zero_word n h).trans (Args.sum_lf R h _)
theorem v20_at (g : Fin 16) (h : Fin 8) : V m c main_v20 (ix2 g h) = (((args m c).seq h).P (128 * g.val) : EReal) := by
  refine Fin.cases ?_ (fun g => ?_) g
  · rw [host_v20_0]; rfl
  · rw [host_v20_s, v17_at R]
    congr 2
    show 127 + 128 * g.val + 1 = 128 * (g.val + 1)
    omega
omit R in
theorem slab (X : FVec Ideal S2048x16 .f32) (r : Fin 16) (n : Fin 2048) (d : Fin 128) :
    broadcastInDim S16x2048x128 ![0, 1, 2] bcast_S16x2048x1_S16x2048x128_0_1_2 (broadcastInDim S16x2048x1 ![0, 1] bcast_S16x2048_S16x2048x1_0_1
        (transpose S16x2048 [1, 0] X transposes_S2048x16_S16x2048_1_0)) (ix3 r n d) = X (ix2 n r) := by
  pointwise
omit R in
theorem slab_row (X : FVec Ideal S2048x16 .f32) (r : Fin 16) (n : Fin 2048) :
    broadcastInDim S16x1x2048 ![0, 2] bcast_S16x2048_S16x1x2048_0_2 (transpose S16x2048 [1, 0] X transposes_S2048x16_S16x2048_1_0) (ix3 r 0 n)
      = X (ix2 n r) := by
  pointwise
omit R in
theorem beside (X : FVec Ideal S2048x8 .f32) (Y : FVec Ideal S16x128x8 .f32) (n : Fin 2048) (h : Fin 8) :
    concatenate S2048x16 1 [⟨S2048x8, X⟩, ⟨S2048x8, shapeCast S2048x8 Y shapeCasts_S16x128x8_S2048x8⟩] concatenates_S2048x8_S2048x8_S2048x16_d1
      (ix2 n ⟨8 + h.val, by omega⟩) = Y (ix3 ⟨n.val / 128, by omega⟩ ⟨n.val % 128, by omega⟩ h) := by
  pointwise
theorem v9_at (h : Fin 8) (n : Fin 2048) : V m c main_v9 (ix2 n ⟨8 + h.val, by omega⟩)
    = ((((args m c).seq h).P (n.val + 1) - ((args m c).seq h).P (128 * (n.val / 128)) : ℝ) : EReal) := by
  rw [host_v9]
  refine (beside _ _ n h).trans ((v7_at R _ _ h).trans ?_)
  show ((((args m c).seq h).P (128 * (n.val / 128) + n.val % 128 + 1) - ((args m c).seq h).P (128 * (n.val / 128)) : ℝ) : EReal) = _
  rw [Nat.div_add_mod]
theorem b_at (h : Fin 8) (n : Fin 2048) (d : Fin 128) : V m c main_v12 (ix3 ⟨8 + h.val, by omega⟩ n d)
    = ((((args m c).seq h).P (n.val + 1) - ((args m c).seq h).P (128 * (n.val / 128)) : ℝ) : EReal) := by
  rw [host_v12]
  exact (slab _ _ n d).trans (v9_at R h n)
theorem br_at (h : Fin 8) (n : Fin 2048) : V m c main_v13 (ix3 ⟨8 + h.val, by omega⟩ 0 n)
    = ((((args m c).seq h).P (n.val + 1) - ((args m c).seq h).P (128 * (n.val / 128)) : ℝ) : EReal) := by
  rw [host_v13]
  exact (slab_row _ _ n).trans (v9_at R h n)
omit R in
theorem sel_before (j : Fin 2048) (g : Fin 16) (x y : EReal) :
    Scalar.select (IntOp.cmpi CmpIPredicate.slt (BitVec.ofNat 32 j.val) (IntOp.muli 128#32 (BitVec.ofNat 32 g.val))) x y
      = if j.val < 128 * g.val then x else y := by
  rw [show IntOp.muli 128#32 (BitVec.ofNat 32 g.val) = BitVec.ofNat 32 (128 * g.val) from
      (by decide : ∀ g : Fin 16, IntOp.muli 128#32 (BitVec.ofNat 32 g.val) = BitVec.ofNat 32 (128 * g.val)) g,
    WordCmp.cmpi_slt_ofNat (by have := j.isLt; omega) (by have := g.isLt; omega), WordCmp.select_ofBool]
  simp
theorem v39_at (g : Fin 16) (j : Fin 2048) (h : Fin 8) : V m c main_v39 (ix3 g j h)
    = if j.val < 128 * g.val then ((((args m c).seq h).P (128 * g.val) + ((args m c).seq h).a j.val : ℝ) : EReal) else ⊥ := by
  rw [host_v39]
  pointwise
  rw [sel_before, v20_at R, v17_at R, Args.li_at R, ← EReal.coe_sub, ← EReal.coe_add, bot_word, Seq.a]
  congr 2; ring
/-- The greatest exponent before a group. -/
theorem v41_at (g : Fin 16) (h : Fin 8) : V m c main_v41 (ix2 g h)
    = ((((args m c).seq h).P (128 * g.val) + ((args m c).seq h).N (128 * g.val) : ℝ) : EReal) := by
  have hm : (Host.reduce FloatOps.maximumf (V m c main_v39) (constant S_ .f32 0xFF800000#32) reducesTo_S16x2048x8_S16x8_d1 h_S_ : FVec Ideal S16x8 .f32)
      (ix2 g h) = univ.fold (β := EReal) max ⊥ fun j : Fin 2048 =>
        if j.val < 128 * g.val then ((((args m c).seq h).P (128 * g.val) + ((args m c).seq h).a j.val : ℝ) : EReal) else ⊥ := by
    refine (reduce_max_mid _ _ _ _ g h).trans ?_
    rw [← funext fun j => v39_at R g j h]
    exact congrArg (fun x => univ.fold (β := EReal) max x _) bot_word
  rw [host_v41]
  refine (congrArg₂ (fun x y : EReal => max x y) (v20_at R g h) hm).trans ?_
  generalize (args m c).seq h = S
  refine max_fold_masked (fun j : Fin 2048 => j.val < 128 * g.val) _ _ _ ?_ ?_ ?_
  · have := S.N_mono (show 0 ≤ 128 * g.val by omega); have h0 : S.N 0 = 0 := rfl; linarith
  · intro j hj
    have := S.a_le_N hj; linarith
  · rcases S.N_attained 0 (128 * g.val) (by omega) with h | ⟨j, h1, h2, h3⟩
    · exact Or.inl (by rw [h]; show _ + (0 : ℝ) = _; rw [add_zero])
    · have hg := g.isLt
      exact Or.inr ⟨⟨j, by omega⟩, h2, by rw [← h3]⟩
theorem v52_at (g : Fin 16) (j : Fin 2048) (h : Fin 8) (e : Fin 128) : V m c main_v52 (ix4 g j h e)
    = (((if j.val < 128 * g.val then Real.exp (((args m c).seq h).a j.val - ((args m c).seq h).N (128 * g.val)) else 0)
        * ((args m c).seq h).ks j.val e : ℝ) : EReal) := by
  rw [host_v52]
  pointwise
  rw [v39_at R, v41_at R, exp_masked, Args.ks_at R, ← EReal.coe_mul, add_sub_add_left_eq_sub]
omit R in
theorem sum_before {n : ℕ} (hn : n ≤ 2048) (f : ℕ → ℝ) (w : ℕ → ℝ) :
    ∑ j : Fin 2048, (if j.val < n then w j.val else 0) * f j.val = ∑ j ∈ range n, w j * f j := by
  rw [← sum_range (fun j => (if j < n then w j else 0) * f j), ← sum_subset (range_subset_range.mpr hn)]
  · exact sum_congr rfl fun j hj => by rw [if_pos (mem_range.mp hj)]
  · intro j _ hj
    rw [if_neg (by rwa [mem_range] at hj), zero_mul]
/-- The state before a group. -/
theorem v53_at (h : Fin 8) (g : Fin 16) (e d : Fin 128) : V m c main_v53 (ix4 h g e d) = (((args m c).seq h).C (128 * g.val) e d : EReal) := by
  rw [host_v53]
  pointwise
  simp only [v52_at R, Args.v_at R, ← EReal.coe_mul, sum_coe, mul_assoc]
  rw [sum_before (by have := g.isLt; omega) (fun j => ((args m c).seq h).ks j e * ((args m c).seq h).v j d)
    (fun j => Real.exp (((args m c).seq h).a j - ((args m c).seq h).N (128 * g.val))), Seq.C]
  simp only [mul_assoc]
theorem n_at (h : Fin 8) (g : Fin 16) (e : Fin 128) : V m c main_v61 (ix4 h g 0 e) = (((args m c).seq h).nrm (128 * g.val) e : EReal) := by
  rw [host_v61_n, host_v59]
  pointwise
  simp only [v52_at R, sum_coe]
  rw [sum_before (by have := g.isLt; omega) (fun j => ((args m c).seq h).ks j e)
    (fun j => Real.exp (((args m c).seq h).a j - ((args m c).seq h).N (128 * g.val))), Seq.nrm]
theorem m_at (h : Fin 8) (g : Fin 16) (e : Fin 128) : V m c main_v61 (ix4 h g 1 e)
    = ((((args m c).seq h).P (128 * g.val) + ((args m c).seq h).N (128 * g.val) : ℝ) : EReal) := by
  rw [host_v61_m, host_v58]
  pointwise
  exact v41_at R g h
end Cert.Proof.MlstmIdeal
-- ==== Proof.MlstmIdeal.Frame.lean ====
/- The launch: what is left in the outputs, the arguments unchanged and every
   semaphore at zero. -/
module

public import proofs.«01_k».proof.Proof.MlstmIdeal.Head
public import Idealize.ShloMosaic.Lib.Claim

@[expose] public section

set_option maxRecDepth 16384

noncomputable section

namespace Cert.Proof.MlstmIdeal

open Cert.MlstmIdeal Cert.MlstmIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ

variable (m : (ℓ : Loc nD τ sig) → Buf (Elt F) ℓ) (ρ : Dev nD → PrngReg)

/-- The output windows whose contents are not named here. -/
def forgets : Fin 20 → Bool := fun w => decide (w.val = 17 ∨ w.val = 18)

/-- The loads of the trips at point `t` of the grid. -/
abbrev ldAt (c : Dev nD) (t : Fin cfg0.N) : Fin k0_t1_loop.trips → Ld F :=
  ldx (grid0.coords t) (iblk m c 0 t) (iblk m c 1 t) (iblk m c 2 t) (iblk m c 4 t) (iblk m c 5 t) (iblk m c 6 t) (iblk m c 7 t) (iblk m c 8 t) (iblk m c 10 t) (iblk m c 11 t) (iblk m c 12 t)

/-- The proof data: the inputs stay at their blocks, five outputs are at the head's gradients, the others unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => dqAll (ldAt m c t) (iblk m c 9 t)
    | ⟨14, _⟩ => dkAll (ldAt m c t) (iblk m c 9 t) rowIds colIds
    | ⟨15, _⟩ => dvAll (ldAt m c t) (iblk m c 9 t) rowIds colIds
    | ⟨16, _⟩ => doAll (ldAt m c t) (iblk m c 9 t)
    | ⟨17, h⟩ => Pipeline.Dat.unnamed (cfg := cfg0) ⟨17, h⟩ t
    | ⟨18, h⟩ => Pipeline.Dat.unnamed (cfg := cfg0) ⟨18, h⟩ t
    | ⟨19, _⟩ => DG (ldAt m c t) 16
    | ⟨j + 20, h⟩ => absurd h (Nat.not_lt.mpr (Nat.le_add_left 20 j))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = dqAll (ldAt m c t) (iblk m c 9 t) := by dsimp only [dats]
theorem after_14 (c : Dev nD) (t : Fin cfg0.N) : (dats m 0 c).after 14 t = dkAll (ldAt m c t) (iblk m c 9 t) rowIds colIds := by dsimp only [dats]
theorem after_15 (c : Dev nD) (t : Fin cfg0.N) : (dats m 0 c).after 15 t = dvAll (ldAt m c t) (iblk m c 9 t) rowIds colIds := by dsimp only [dats]
theorem after_16 (c : Dev nD) (t : Fin cfg0.N) : (dats m 0 c).after 16 t = doAll (ldAt m c t) (iblk m c 9 t) := by dsimp only [dats]
theorem after_19 (c : Dev nD) (t : Fin cfg0.N) : (dats m 0 c).after 19 t = DG (ldAt m c t) 16 := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d

/-- The invariant between points: the two scratch memrefs at some contents and the generator's register. -/
theorem Phi_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]; try rfl

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ d, owns (c : Thread nD τ) (win0_4.stage (cfg0.slots t 4)) fullShare ((dats m 0 c).before 4 t d)) ∗ (∃ d, owns (c : Thread nD τ) (win0_5.stage (cfg0.slots t 5)) fullShare ((dats m 0 c).before 5 t d)) ∗ (∃ d, owns (c : Thread nD τ) (win0_6.stage (cfg0.slots t 6)) fullShare ((dats m 0 c).before 6 t d)) ∗ (∃ d, owns (c : Thread nD τ) (win0_7.stage (cfg0.slots t 7)) fullShare ((dats m 0 c).before 7 t d)) ∗ (∃ d, owns (c : Thread nD τ) (win0_8.stage (cfg0.slots t 8)) fullShare ((dats m 0 c).before 8 t d)) ∗ (∃ d, owns (c : Thread nD τ) (win0_9.stage (cfg0.slots t 9)) fullShare ((dats m 0 c).before 9 t d)) ∗ (∃ d, owns (c : Thread nD τ) (win0_10.stage (cfg0.slots t 10)) fullShare ((dats m 0 c).before 10 t d)) ∗ (∃ d, owns (c : Thread nD τ) (win0_11.stage (cfg0.slots t 11)) fullShare ((dats m 0 c).before 11 t d)) ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d)) ∗ (∃ d, owns (c : Thread nD τ) (win0_14.stage (cfg0.slots t 14)) fullShare ((dats m 0 c).before 14 t d)) ∗ (∃ d, owns (c : Thread nD τ) (win0_15.stage (cfg0.slots t 15)) fullShare ((dats m 0 c).before 15 t d)) ∗ (∃ d, owns (c : Thread nD τ) (win0_16.stage (cfg0.slots t 16)) fullShare ((dats m 0 c).before 16 t d)) ∗ (∃ d, owns (c : Thread nD τ) (win0_17.stage (cfg0.slots t 17)) fullShare d) ∗ (∃ d, owns (c : Thread nD τ) (win0_18.stage (cfg0.slots t 18)) fullShare d) ∗ (∃ d, owns (c : Thread nD τ) (win0_19.stage (cfg0.slots t 19)) fullShare ((dats m 0 c).before 19 t d)))

def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t) ∗ owns (c : Thread nD τ) (win0_1.stage (cfg0.slots t 1)) fullShare ((dats m 0 c).after 1 t) ∗ owns (c : Thread nD τ) (win0_2.stage (cfg0.slots t 2)) fullShare ((dats m 0 c).after 2 t) ∗ owns (c : Thread nD τ) (win0_3.stage (cfg0.slots t 3)) fullShare ((dats m 0 c).after 3 t) ∗ owns (c : Thread nD τ) (win0_4.stage (cfg0.slots t 4)) fullShare ((dats m 0 c).after 4 t) ∗ owns (c : Thread nD τ) (win0_5.stage (cfg0.slots t 5)) fullShare ((dats m 0 c).after 5 t) ∗ owns (c : Thread nD τ) (win0_6.stage (cfg0.slots t 6)) fullShare ((dats m 0 c).after 6 t) ∗ owns (c : Thread nD τ) (win0_7.stage (cfg0.slots t 7)) fullShare ((dats m 0 c).after 7 t) ∗ owns (c : Thread nD τ) (win0_8.stage (cfg0.slots t 8)) fullShare ((dats m 0 c).after 8 t) ∗ owns (c : Thread nD τ) (win0_9.stage (cfg0.slots t 9)) fullShare ((dats m 0 c).after 9 t) ∗ owns (c : Thread nD τ) (win0_10.stage (cfg0.slots t 10)) fullShare ((dats m 0 c).after 10 t) ∗ owns (c : Thread nD τ) (win0_11.stage (cfg0.slots t 11)) fullShare ((dats m 0 c).after 11 t) ∗ owns (c : Thread nD τ) (win0_12.stage (cfg0.slots t 12)) fullShare ((dats m 0 c).after 12 t)
    ∗ owns (c : Thread nD τ) (win0_13.stage (cfg0.slots t 13)) fullShare ((dats m 0 c).after 13 t) ∗ owns (c : Thread nD τ) (win0_14.stage (cfg0.slots t 14)) fullShare ((dats m 0 c).after 14 t) ∗ owns (c : Thread nD τ) (win0_15.stage (cfg0.slots t 15)) fullShare ((dats m 0 c).after 15 t) ∗ owns (c : Thread nD τ) (win0_16.stage (cfg0.slots t 16)) fullShare ((dats m 0 c).after 16 t) ∗ (∃ d, owns (c : Thread nD τ) (win0_17.stage (cfg0.slots t 17)) fullShare d) ∗ (∃ d, owns (c : Thread nD τ) (win0_18.stage (cfg0.slots t 18)) fullShare d) ∗ owns (c : Thread nD τ) (win0_19.stage (cfg0.slots t 19)) fullShare ((dats m 0 c).after 19 t))

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, Phi_eq,
    after_0, after_1, after_2, after_3, after_4, after_5, after_6, after_7, after_8, after_9, after_10, after_11, after_12, after_13, after_14, after_15, after_16, after_19]
  iintro ⟨⟨⟨S0, S1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply (kernelRun c (grid0.coords t) _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [S0]; · iexact S0
  isplitl [S1]; · iexact S1
  iintro ⟨H0, H1, H2, H3, H4, H5, H6, H7, H8, H9, H10, H11, H12, H13, H14, H15, H16, H17, H18, H19, S0, S1⟩
  isplitl [S0 S1 Hg]
  · isplitl [S0 S1]
    · isplitl [S0]; · iexact S0
      iexact S1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

set_option backward.isDefEq.respectTransparency.types false in
/-- The launch: every execution ends, the inputs' arrays as they were, every semaphore at zero. -/
theorem run_main : θ_run defs (onTc (τ := τ) (main (F := F))) (s₀ m ρ) (fun r => (Pipeline.RDat.FramePost (cfgs 0) (fun c => (dats m 0 c).toRForget forgets) (V m)) r ∧ r.2.sem = fun _ => 0) :=
  Pipeline.θ_run_frame_forget_shared (Q' := _) cfgs (dats m) (0 : Fin 1) launch₀0 defs₀ Variants.none forgets m ρ main
    (hbody := fun c => (body_obligation m c).loose) (hq := fun _ _ _ => rfl)
    (howed := fun _ _ => rfl) (V := V m) (hmain := hmain m Variants.none) (hA := A_eq m) (hΦ := fun _ _ => rfl)

set_option maxHeartbeats 4000000 in
/-- The argument arrays end as they began. -/
theorem args_kept (r : PUnit × MemSt nD τ sig (Elt F)) (h : Pipeline.RDat.FramePost (cfgs 0) (fun c => (dats m 0 c).toRForget forgets) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨(Pipeline.RDat.FramePost.arr_in h c 0 rfl).trans ((A_eq m c 0).trans (V_main_arg0 m c)), (Pipeline.RDat.FramePost.arr_in h c 1 rfl).trans ((A_eq m c 1).trans (V_main_arg1 m c)), (Pipeline.RDat.FramePost.arr_in h c 5 rfl).trans ((A_eq m c 5).trans (V_main_arg2 m c)), ((h c).2 main_arg3 (Pipeline.mem_restRefs_of main_arg3 (by decide) (by decide))).trans (V_main_arg3 m c), ((h c).2 main_arg4 (Pipeline.mem_restRefs_of main_arg4 (by decide) (by decide))).trans (V_main_arg4 m c), (Pipeline.RDat.FramePost.arr_in h c 9 rfl).trans ((A_eq m c 9).trans (V_main_arg5 m c)), (Pipeline.RDat.FramePost.arr_in h c 12 rfl).trans ((A_eq m c 12).trans (V_main_arg6 m c)), ((h c).2 main_arg7 (Pipeline.mem_restRefs_of main_arg7 (by decide) (by decide))).trans (V_main_arg7 m c)⟩

/-- The frame: the argument arrays end unchanged, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨args_kept m r h.1, h.2⟩) (run_main m ρ)

end Cert.Proof.MlstmIdeal

end
-- ==== Proof.MlstmIdeal.Blocks.lean ====
/- The blocks of a head, and the gradients the kernel's arrays end at. -/
module

public import Idealize.ShloMosaic.Lib.Pipeline.ValueKit
public import proofs.«01_k».proof.Proof.MlstmIdeal.Host
public import proofs.«01_k».proof.Proof.MlstmIdeal.Frame

@[expose] public section

set_option maxRecDepth 16384

noncomputable section

namespace Cert.Proof.MlstmIdeal

open Finset
open Idealize.ShloMosaic Idealize.ShloMosaic.TcCoe Idealize.SL Idealize.SL.Sem Cert.MlstmIdeal Cert.MlstmIdeal.Gen
open Idealize.ShloMosaic.Pipeline (Dat)

theorem idx : ∀ t : Fin cfg0.N, win0_0.index t = ![0, t.val] ∧ win0_1.index t = ![0, t.val] ∧ win0_2.index t = ![t.val, 0]
    ∧ win0_4.index t = ![0, 16 + t.val] ∧ win0_5.index t = ![0, 24 + t.val] ∧ win0_6.index t = ![t.val, 0, 0] ∧ win0_7.index t = ![8 + t.val, 0, 0]
    ∧ win0_8.index t = ![0, 0, 0] ∧ win0_9.index t = ![0, t.val] ∧ win0_10.index t = ![t.val, 0, 0, 0] ∧ win0_11.index t = ![t.val, 0, 0, 0]
    ∧ win0_12.index t = ![0, t.val] ∧ win0_13.index t = ![0, t.val] ∧ win0_14.index t = ![0, t.val] ∧ win0_15.index t = ![0, t.val] ∧ win0_16.index t = ![0, t.val] ∧ win0_19.index t = ![0, t.val]
    ∧ t.val < 8 ∧ (grid0.coords t 0).val = t.val :=
  (by decide +kernel : ∀ t : Fin grid0.N, _)

/-- The head of a point of the grid. -/
def head (t : Fin cfg0.N) : Fin 8 := ⟨t.val, t.isLt⟩

variable (m : (ℓ : Loc nD τ sig) → Buf (Elt Ideal) ℓ) (c : Dev nD) (t : Fin cfg0.N)

theorem blk_0 (a : Fin 2048) (d : Fin 128) : iblk m c 0 t (ix2 a d) = V m c main_arg0 (ix2 a (lane (head t) d)) := by
  simp only [lane, head]; blk_point [iblk, idx t]
theorem blk_1 (a : Fin 2048) (d : Fin 128) : iblk m c 1 t (ix2 a d) = V m c main_arg1 (ix2 a (lane (head t) d)) := by
  simp only [lane, head]; blk_point [iblk, idx t]
theorem blk_2 (d : Fin 128) (a : Fin 2048) : iblk m c 2 t (ix2 d a) = V m c main_v1 (ix2 (lane (head t) d) a) := by
  simp only [lane, head]; blk_point [iblk, idx t]
theorem blk_4 (a : Fin 2048) (d : Fin 128) : iblk m c 4 t (ix2 a d) = V m c main_arg2 (ix2 a (at4 2048 (by omega) (head t) d)) := by
  simp only [at4, head]; blk_point [iblk, idx t]
theorem blk_5 (a : Fin 2048) (d : Fin 128) : iblk m c 5 t (ix2 a d) = V m c main_arg2 (ix2 a (at4 3072 (by omega) (head t) d)) := by
  simp only [at4, head]; blk_point [iblk, idx t]
theorem blk_6 (a : Fin 2048) (d : Fin 128) : iblk m c 6 t (ix3 0 a d) = V m c main_v12 (ix3 ⟨(head t).val, by have := (head t).isLt; omega⟩ a d) := by
  simp only [head]; blk_point [iblk, idx t]
theorem blk_7 (a : Fin 2048) (d : Fin 128) : iblk m c 7 t (ix3 0 a d) = V m c main_v12 (ix3 ⟨8 + (head t).val, by have := (head t).isLt; omega⟩ a d) := by
  simp only [head]; blk_point [iblk, idx t]
theorem blk_8 (r : Fin 16) (a : Fin 2048) : iblk m c 8 t (ix3 r 0 a) = V m c main_v13 (ix3 r 0 a) := by
  blk_point [iblk, idx t]
theorem blk_9 (d : Fin 128) : iblk m c 9 t (ix2 0 d) = V m c main_arg5 (ix2 0 (lane (head t) d)) := by
  simp only [lane, head]; blk_point [iblk, idx t]
theorem blk_10 (g : Fin 16) (e d : Fin 128) : iblk m c 10 t (ix4 0 g e d) = V m c main_v53 (ix4 (head t) g e d) := by
  simp only [head]; blk_point [iblk, idx t]
theorem blk_11 (g : Fin 16) (r : Fin 8) (d : Fin 128) : iblk m c 11 t (ix4 0 g r d) = V m c main_v61 (ix4 (head t) g r d) := by
  simp only [head]; blk_point [iblk, idx t]
theorem blk_12 (a : Fin 2048) (d : Fin 128) : iblk m c 12 t (ix2 a d) = V m c main_arg6 (ix2 a (at2 (head t) d)) := by
  simp only [at2, head]; blk_point [iblk, idx t]

theorem host_v1 (n : Fin 2048) (p : Fin 1024) : V m c main_v1 (ix2 p n) = (args m c).q (ix2 n p) := by
  simp only [V, List.flatten_cons, List.flatten_nil, List.append_nil]
  after_reads_simp
  pointwise
  rfl

/-- The chunk of a trip, as a number. -/
theorem row_chunk (k : Fin k0_t1_loop.trips) (a : Fin 128) : 128 * ((row k a).val / 128) = 1920 - 128 * k.val := by
  have := a.isLt
  show 128 * ((1920 - 128 * k.val + a.val) / 128) = 1920 - 128 * k.val
  omega
theorem chunk_row (k : Fin k0_t1_loop.trips) : 128 * (chunk k).val = 1920 - 128 * k.val := by
  show 128 * (15 - k.val) = _
  omega

section loads

variable {m c} (R : (args m c).Real) (k : Fin k0_t1_loop.trips)
include R

theorem ld_q (a d : Fin 128) : (ldAt m c t k).q (ix2 a d) = ((((args m c).seq (head t)).q (row k a).val d : ℝ) : EReal) :=
  (blk_0 m c t _ d).trans ((congrFun (V_main_arg0 m c) _).trans (Args.q_at R (head t) (row k a) d _))
theorem ld_k (a d : Fin 128) : (ldAt m c t k).k (ix2 a d) * Ideal.ofBits .f32 0x3DB504F3#32 = ((((args m c).seq (head t)).ks (row k a).val d : ℝ) : EReal) := by
  have h : (ldAt m c t k).k (ix2 a d) = (args m c).k (ix2 (row k a) (lane (head t) d)) := (blk_1 m c t (row k a) d).trans (congrFun (V_main_arg1 m c) _)
  rw [h]
  exact Args.ks_at R (head t) (row k a) d _
theorem ld_v (a d : Fin 128) : (ldAt m c t k).v (ix2 a d) = ((((args m c).seq (head t)).v (row k a).val d : ℝ) : EReal) :=
  (blk_4 m c t _ d).trans ((congrFun (V_main_arg2 m c) _).trans (Args.v_at R (head t) (row k a) d _))
theorem ld_li (a d : Fin 128) : (ldAt m c t k).li (ix3 0 a d) = ((((args m c).seq (head t)).li (row k a).val : ℝ) : EReal) :=
  (blk_6 m c t _ d).trans ((host_li m c (head t) _ d).trans (Args.li_at R (head t) (row k a)))
theorem ld_b (a d : Fin 128) : (ldAt m c t k).b (ix3 0 a d)
    = ((((args m c).seq (head t)).P ((row k a).val + 1) - ((args m c).seq (head t)).P (1920 - 128 * k.val) : ℝ) : EReal) := by
  rw [← row_chunk k a]
  exact (blk_7 m c t (row k a) d).trans (b_at R (head t) (row k a) d)
theorem ld_lir (a : Fin 128) : (ldAt m c t k).lir (ix3 0 0 a) = ((((args m c).seq (head t)).li (row k a).val : ℝ) : EReal) := by
  refine Eq.trans ?_ (((host_lir m c (head t) (row k a))).trans (Args.li_at R (head t) (row k a)))
  refine (blk_8 m c t _ _).trans (congrArg (fun r => V m c main_v13 (ix3 r 0 (row k a))) ?_)
  exact Fin.ext (idx t).2.2.2.2.2.2.2.2.2.2.2.2.2.2.2.2.2.2
theorem ld_br (a : Fin 128) : (ldAt m c t k).br (ix3 0 0 a)
    = ((((args m c).seq (head t)).P ((row k a).val + 1) - ((args m c).seq (head t)).P (1920 - 128 * k.val) : ℝ) : EReal) := by
  have hr : (⟨(grid0.coords t 0).val + 8, by have := (idx t).2.2.2.2.2.2.2.2.2.2.2.2.2.2.2.2.2; omega⟩ : Fin 16) = ⟨8 + (head t).val, by have := (head t).isLt; omega⟩ :=
    Fin.ext ((congrArg (· + 8) (idx t).2.2.2.2.2.2.2.2.2.2.2.2.2.2.2.2.2.2).trans (Nat.add_comm _ _))
  have h : (ldAt m c t k).br (ix3 0 0 a) = (iblk m c 8 t : Vec Ideal S16x1x2048 .f32) (ix3 ⟨(grid0.coords t 0).val + 8, by have := (idx t).2.2.2.2.2.2.2.2.2.2.2.2.2.2.2.2.2; omega⟩ 0 (row k a)) := rfl
  rw [h, blk_8 m c t _ (row k a), hr, br_at R (head t) (row k a), row_chunk k a]
theorem ld_qt (d a : Fin 128) : (ldAt m c t k).qt (ix2 d a) = ((((args m c).seq (head t)).q (row k a).val d : ℝ) : EReal) :=
  (blk_2 m c t d _).trans ((host_v1 m c _ _).trans (Args.q_at R (head t) (row k a) d _))
theorem ld_ct (e d : Fin 128) : (ldAt m c t k).ct (ix4 0 0 e d) = ((((args m c).seq (head t)).C (1920 - 128 * k.val) e d : ℝ) : EReal) := by
  rw [← chunk_row k]
  exact (blk_10 m c t (chunk k) e d).trans (v53_at R (head t) (chunk k) e d)
theorem ld_n (e : Fin 128) : (ldAt m c t k).n (ix4 0 0 0 e) = ((((args m c).seq (head t)).nrm (1920 - 128 * k.val) e : ℝ) : EReal) := by
  rw [← chunk_row k]
  exact (blk_11 m c t (chunk k) 0 e).trans (n_at R (head t) (chunk k) e)
theorem ld_m : (ldAt m c t k).m (ix4 0 0 0 0)
    = ((((args m c).seq (head t)).P (1920 - 128 * k.val) + ((args m c).seq (head t)).N (1920 - 128 * k.val) : ℝ) : EReal) := by
  rw [← chunk_row k]
  exact (blk_11 m c t (chunk k) 1 0).trans (m_at R (head t) (chunk k) 0)
theorem ld_o (a d : Fin 128) : Ideal.logistic ((ldAt m c t k).o (ix2 a d)) = ((((args m c).seq (head t)).sig (row k a).val d : ℝ) : EReal) := by
  have h : (ldAt m c t k).o (ix2 a d) = (args m c).pa (ix2 (row k a) (at4 3072 (by omega) (head t) d)) := (blk_5 m c t _ d).trans (congrFun (V_main_arg2 m c) _)
  rw [h]
  exact Args.sig_at (A := args m c) (head t) (row k a) d _
theorem ld_dy (a d : Fin 128) : (ldAt m c t k).dy (ix2 a d) = ((((args m c).seq (head t)).dy (row k a).val d : ℝ) : EReal) :=
  (blk_12 m c t _ d).trans ((congrFun (V_main_arg6 m c) _).trans (Args.dy_at R (head t) (row k a) d _))
theorem ld_g (d : Fin 128) : (iblk m c 9 t : Vec Ideal S1x128 .f32) (ix2 0 d) = ((((args m c).seq (head t)).g d : ℝ) : EReal) :=
  (blk_9 m c t d).trans ((congrFun (V_main_arg5 m c) _).trans (Args.g_at R (head t) d _))

/-- Trip `k`'s loads at point `t` are the real numbers of the head. -/
theorem good : Good (ldAt m c t k) (iblk m c 9 t) ((args m c).seq (head t)) (1920 - 128 * k.val) where
  le := by omega
  q := ld_q t R k
  k := ld_k t R k
  v := ld_v t R k
  li := ld_li t R k
  b := ld_b t R k
  lir := ld_lir t R k
  br := ld_br t R k
  qt := ld_qt t R k
  ct := ld_ct t R k
  n := ld_n t R k
  m := ld_m t R k
  o := ld_o t R k
  dy := ld_dy t R k
  g := ld_g t R
  scale := by
    obtain ⟨x, hx⟩ := scale_word
    rw [hx, EReal.toReal_coe]
  z := z_word
  zpos := by show (0 : ℝ) < 128; norm_num
  e := Args.seq_e (head t)
  epos := Args.seq_epos (head t)

end loads

variable {m c}

theorem headOf_lane (h : Fin 8) (d : Fin 128) : headOf (lane h d) = h := Fin.ext (by have := d.isLt; show (h.val * 128 + d.val) / 128 = h.val; omega)
theorem featOf_lane (h : Fin 8) (d : Fin 128) : featOf (lane h d) = d := Fin.ext (by have := d.isLt; show (h.val * 128 + d.val) % 128 = d.val; omega)
theorem dq_lane (A : Args) (n : Fin 2048) (h : Fin 8) (d : Fin 128) : A.dq (ix2 n (lane h d)) = ((A.seq h).dq n.val d : EReal) := by
  show (((A.seq (headOf (lane h d))).dq n.val (featOf (lane h d)) : ℝ) : EReal) = _
  rw [headOf_lane, featOf_lane]
theorem dk_lane (A : Args) (n : Fin 2048) (h : Fin 8) (d : Fin 128) :
    A.dk (ix2 n (lane h d)) = (((A.seq h).dk n.val d * (Ideal.ofBits .f32 0x3DB504F3#32).toReal : ℝ) : EReal) := by
  show (((A.seq (headOf (lane h d))).dk n.val (featOf (lane h d)) * _ : ℝ) : EReal) = _
  rw [headOf_lane, featOf_lane]
theorem dv_lane (A : Args) (n : Fin 2048) (h : Fin 8) (d : Fin 128) : A.dv (ix2 n (lane h d)) = ((A.seq h).dv n.val d : EReal) := by
  show (((A.seq (headOf (lane h d))).dv n.val (featOf (lane h d)) : ℝ) : EReal) = _
  rw [headOf_lane, featOf_lane]
theorem dO_lane (A : Args) (n : Fin 2048) (h : Fin 8) (d : Fin 128) : A.dO (ix2 n (lane h d)) = ((A.seq h).dO n.val d : EReal) := by
  show (((A.seq (headOf (lane h d))).dO n.val (featOf (lane h d)) : ℝ) : EReal) = _
  rw [headOf_lane, featOf_lane]
theorem dg_lane (A : Args) (n : Fin 1) (h : Fin 8) (d : Fin 128) : A.dg (ix2 n (lane h d)) = ((A.seq h).dg 0 d : EReal) := by
  show (((A.seq (headOf (lane h d))).dg 0 (featOf (lane h d)) : ℝ) : EReal) = _
  rw [headOf_lane, featOf_lane]
theorem row_idx (y : S1x128.Idx) : y = ix2 0 (y 1) := by
  rw [eq_ix2 y]; exact congrArg (fun r => ix2 r (y 1)) (Subsingleton.elim _ _)

theorem final_dq (R : (args m c).Real) : (dats m 0 c).arrAt 13 cfg0.N = (args m c).dq := by
  refine (dats m 0 c).arrAt_eq_of_covers 13 _ (by decide +kernel) fun t _ y => ?_
  blk_simp
  rw [after_13]
  have key : ∀ X : S2048x1024.Idx → EReal, X (ix2 (y 0) (lane (head t) (y 1))) = X ((win0_13.blk t).view.emb y) := by
    intro X; simp only [lane, head]; blk_point [idx t]
  exact (dqAll_eq (good t R) y).trans ((dq_lane (args m c) (y 0) (head t) (y 1)).symm.trans (key _))
theorem final_dk (R : (args m c).Real) : (dats m 0 c).arrAt 14 cfg0.N = (args m c).dk := by
  refine (dats m 0 c).arrAt_eq_of_covers 14 _ (by decide +kernel) fun t _ y => ?_
  blk_simp
  rw [after_14]
  have key : ∀ X : S2048x1024.Idx → EReal, X (ix2 (y 0) (lane (head t) (y 1))) = X ((win0_14.blk t).view.emb y) := by
    intro X; simp only [lane, head]; blk_point [idx t]
  exact (dkAll_eq (good t R) y).trans ((dk_lane (args m c) (y 0) (head t) (y 1)).symm.trans (key _))
theorem final_dv (R : (args m c).Real) : (dats m 0 c).arrAt 15 cfg0.N = (args m c).dv := by
  refine (dats m 0 c).arrAt_eq_of_covers 15 _ (by decide +kernel) fun t _ y => ?_
  blk_simp
  rw [after_15]
  have key : ∀ X : S2048x1024.Idx → EReal, X (ix2 (y 0) (lane (head t) (y 1))) = X ((win0_15.blk t).view.emb y) := by
    intro X; simp only [lane, head]; blk_point [idx t]
  exact (dvAll_eq (good t R) y).trans ((dv_lane (args m c) (y 0) (head t) (y 1)).symm.trans (key _))
theorem final_dO (R : (args m c).Real) : (dats m 0 c).arrAt 16 cfg0.N = (args m c).dO := by
  refine (dats m 0 c).arrAt_eq_of_covers 16 _ (by decide +kernel) fun t _ y => ?_
  blk_simp
  rw [after_16]
  have key : ∀ X : S2048x1024.Idx → EReal, X (ix2 (y 0) (lane (head t) (y 1))) = X ((win0_16.blk t).view.emb y) := by
    intro X; simp only [lane, head]; blk_point [idx t]
  exact (doAll_eq (good t R) y).trans ((dO_lane (args m c) (y 0) (head t) (y 1)).symm.trans (key _))
theorem final_dg (R : (args m c).Real) : (dats m 0 c).arrAt 19 cfg0.N = (args m c).dg := by
  refine (dats m 0 c).arrAt_eq_of_covers 19 _ (by decide +kernel) fun t _ y => ?_
  blk_simp
  rw [after_19]
  have key : ∀ X : S1x1024.Idx → EReal, X (ix2 (y 0) (lane (head t) (y 1))) = X ((win0_19.blk t).view.emb y) := by
    intro X; simp only [lane, head]; blk_point [idx t]
  exact ((congrArg (DG (ldAt m c t) 16) (row_idx y)).trans (DG_all (good t R) (y 1))).trans ((dg_lane (args m c) (y 0) (head t) (y 1)).symm.trans (key _))

end Cert.Proof.MlstmIdeal
-- ==== Proof.MlstmIdeal.RefVals.lean ====
/- The reference's values, entry by entry, over the real numbers. -/
module

public import proofs.«01_k».proof.Proof.MlstmIdeal.Args
public import proofs.«01_k».proof.Proof.MlstmIdeal.Cumsum
public import proofs.«01_k».proof.Proof.MlstmIdeal.Cells
public import proofs.«01_k».proof.Proof.Gen.MlstmRefIdeal.Run

@[expose] public section

set_option maxRecDepth 16384

noncomputable section

namespace Cert.Proof.MlstmIdeal.Ref

open Finset
open Idealize.ShloMosaic Idealize.ShloMosaic.TcCoe Idealize.SL Cert.MlstmRefIdeal Cert.MlstmRefIdeal.Gen
open Cert.MlstmRefIdeal.Value

/-- The arguments as the reference's memory holds them. -/
def args (V : Valuation τ sig (Elt Ideal)) : Args where
  q := V (Proc.devRef .tc main_arg0)
  k := V (Proc.devRef .tc main_arg1)
  pa := V (Proc.devRef .tc main_arg2)
  li := V (Proc.devRef .tc main_arg3)
  lf := V (Proc.devRef .tc main_arg4)
  g := V (Proc.devRef .tc main_arg5)
  dh := V (Proc.devRef .tc main_arg6)

variable (V : Valuation τ sig (Elt Ideal)) (R : (args V).Real)
include R

theorem v5 (a : Fin 2048) (h : Fin 8) : res_main_v5 V (ix2 a h) = (((args V).seq h).P (a.val + 1) : EReal) := by
  rw [← Args.sum_lf R h]
  unfold res_main_v5
  refine (cumsum_rows _ _ _ _ ?_ a h).trans rfl
  exact zero_word

theorem q_at (n : Fin 2048) (h : Fin 8) (d : Fin 128) (p) :
    (V (Proc.devRef .tc main_arg0) (ix2 n ⟨h.val * 128 + d.val, p⟩) : EReal) = (((args V).seq h).q n.val d : EReal) := Args.q_at R h n d p
theorem ks_at (n : Fin 2048) (h : Fin 8) (d : Fin 128) (p) :
    HMul.hMul (α := EReal) (β := EReal) (V (Proc.devRef .tc main_arg1) (ix2 n ⟨h.val * 128 + d.val, p⟩)) (Ideal.ofBits .f32 0x3DB504F3#32)
      = (((args V).seq h).ks n.val d : EReal) := Args.ks_at R h n d p
theorem v_at (n : Fin 2048) (h : Fin 8) (d : Fin 128) (p) :
    (V (Proc.devRef .tc main_arg2) (ix2 n ⟨2048 + (h.val * 128 + d.val), p⟩) : EReal) = (((args V).seq h).v n.val d : EReal) :=
  Args.v_at R h n d p
theorem li_at (n : Fin 2048) (h : Fin 8) : (V (Proc.devRef .tc main_arg3) (ix2 n h) : EReal) = (((args V).seq h).li n.val : EReal) :=
  Args.li_at R h n
theorem g_at (h : Fin 8) (d : Fin 128) (p) :
    (V (Proc.devRef .tc main_arg5) (ix2 0 ⟨h.val * 128 + d.val, p⟩) : EReal) = (((args V).seq h).g d : EReal) := Args.g_at R h d p
theorem dy_at (n : Fin 2048) (h : Fin 8) (d : Fin 128) (p) :
    (V (Proc.devRef .tc main_arg6) (ix2 n ⟨h.val * 128 + d.val, p⟩) : EReal) = (((args V).seq h).dy n.val d : EReal) := Args.dy_at R h n d p

omit R in
theorem sel_rows (l j : Fin 2048) (x y : EReal) :
    Scalar.select (Scalar.select (IntOp.cmpi CmpIPredicate.sge (IntOp.addi (BitVec.ofNat 32 l.val) 0#32) (BitVec.ofNat 32 j.val)) 1#1 0#1) x y
      = if j.val ≤ l.val then x else y := by
  rw [show IntOp.addi (BitVec.ofNat 32 l.val) 0#32 = BitVec.ofNat 32 l.val from BitVec.add_zero _,
    WordCmp.cmpi_sge_ofNat (by have := l.isLt; omega) (by have := j.isLt; omega), WordCmp.select_ofBool]
  by_cases h : j.val ≤ l.val <;> simp [h, Scalar.select]

/-- The exponent of row `j` in row `l`. -/
theorem v17 (l j : Fin 2048) (h : Fin 8) : res_main_v17 V (ix3 l j h)
    = if j.val ≤ l.val then ((((args V).seq h).P (l.val + 1) + ((args V).seq h).a j.val : ℝ) : EReal) else ⊥ := by
  pointwise [res_main_v17]
  rw [sel_rows, v5 V R, v5 V R, li_at V R, ← EReal.coe_sub, ← EReal.coe_add, Seq.a]
  congr 1
  congr 1; ring
omit R in
/-- The greatest exponent of a row. -/
theorem stab (l : Fin 2048) (f : Fin 2048 → EReal) (h : Fin 8) (hf : ∀ j, res_main_v17 V (ix3 l j h) = f j) :
    Host.reduce FloatOps.maximumf (res_main_v17 V) (constant S_ .f32 0xFF800000#32) reducesTo_S2048x2048x8_S2048x8_d1 h_S_ (ix2 l h)
      = univ.fold (β := EReal) max ⊥ f := by
  refine (reduce_max_mid _ _ _ _ l h).trans ?_
  rw [← funext hf]
  exact congrArg (fun x => univ.fold (β := EReal) max x _) bot_word
omit R in
theorem max_at (x y : FVec Ideal S2048x8 .f32) (i) : maximumf x y i = max (α := EReal) (x i) (y i) := rfl
omit R in
theorem v19_max : res_main_v19 V = maximumf (F := Ideal) (φ := .f32) (res_main_v5 V)
    (Host.reduce FloatOps.maximumf (res_main_v17 V) (constant S_ .f32 0xFF800000#32) reducesTo_S2048x2048x8_S2048x8_d1 h_S_) := by
  rw [res_main_v19]
/-- The row's stabilizer. -/
theorem v19 (l : Fin 2048) (h : Fin 8) : res_main_v19 V (ix2 l h)
    = ((((args V).seq h).P (l.val + 1) + ((args V).seq h).N (l.val + 1) : ℝ) : EReal) := by
  refine (congrFun (v19_max V) (ix2 l h)).trans ((max_at _ _ _).trans ?_)
  rw [stab V l _ h fun j => v17 V R l j h, v5 V R]
  generalize (args V).seq h = S
  refine max_fold_masked (fun j : Fin 2048 => j.val ≤ l.val) _ _ _ ?_ ?_ ?_
  · have := S.N_mono (show 0 ≤ l.val + 1 by omega); have h0 : S.N 0 = 0 := rfl; linarith
  · intro j hj
    have := S.a_le_N (show j.val < l.val + 1 by omega); linarith
  · rcases S.N_attained 0 (l.val + 1) (by omega) with h | ⟨j, h1, h2, h3⟩
    · exact Or.inl (by rw [h]; show _ + (0 : ℝ) = _; rw [add_zero])
    · have hl := l.isLt
      exact Or.inr ⟨⟨j, by omega⟩, by dsimp only; omega, by rw [← h3]⟩
/-- The weights. -/
theorem v27 (l j : Fin 2048) (h : Fin 8) : res_main_v27 V (ix3 l j h) = (((args V).seq h).w l.val j.val : EReal) := by
  pointwise [res_main_v27]
  simp only [v17 V R, v19 V R]
  rw [exp_masked, Seq.w]
  congr 3
  ring
/-- The scaled keys. -/
theorem v21 (n : Fin 2048) (h : Fin 8) (d : Fin 128) : res_main_v21 V (ix3 n h d) = (((args V).seq h).ks n.val d : EReal) := by
  pointwise [res_main_v21]
  exact ks_at V R n h d _
/-- The queries. -/
theorem v2 (n : Fin 2048) (h : Fin 8) (d : Fin 128) : res_main_v2 V (ix3 n h d) = (((args V).seq h).q n.val d : EReal) := by
  pointwise [res_main_v2]
  exact q_at V R n h d _
/-- The scores. -/
theorem v28 (l j : Fin 2048) (h : Fin 8) : res_main_v28 V (ix3 l j h) = (((args V).seq h).s l.val j.val : EReal) := by
  pointwise [res_main_v28]
  simp only [v27 V R, v21 V R, v2 V R, ← EReal.coe_mul, sum_coe]
  rfl
/-- The values. -/
theorem v4 (n : Fin 2048) (h : Fin 8) (d : Fin 128) : res_main_v4 V (ix3 n h d) = (((args V).seq h).v n.val d : EReal) := by
  pointwise [res_main_v4]
  exact v_at V R n h d _
/-- The hidden state's numerator. -/
theorem v30 (l : Fin 2048) (h : Fin 8) (d : Fin 128) : res_main_v30 V (ix3 l h d)
    = ((∑ j ∈ range 2048, ((args V).seq h).s l.val j * ((args V).seq h).v j d : ℝ) : EReal) := by
  pointwise [res_main_v30]
  simp only [v28 V R, v4 V R, ← EReal.coe_mul, sum_coe]
  rw [sum_range]
  exact congrArg _ (sum_congr rfl fun j _ => mul_comm _ _)
/-- The score sum. -/
theorem v31 (l : Fin 2048) (h : Fin 8) : res_main_v31 V (ix2 l h) = (((args V).seq h).den l.val : EReal) := by
  pointwise [res_main_v31]
  simp only [v28 V R, sum_coe]
  rw [Seq.den, sum_range]
theorem v32 (l : Fin 2048) (h : Fin 8) : res_main_v32 V (ix2 l h) = ((|((args V).seq h).den l.val| : ℝ) : EReal) := by
  pointwise [res_main_v32]
  rw [v31 V R]
  exact abs_real _
theorem v36 (l : Fin 2048) (h : Fin 8) : res_main_v36 V (ix2 l h)
    = (Real.exp (-(((args V).seq h).P (l.val + 1) + ((args V).seq h).N (l.val + 1))) : EReal) := by
  pointwise [res_main_v36]
  rw [v19 V R, ← EReal.coe_neg, Ideal.exp_coe]
/-- The denominator. -/
theorem v45 (l : Fin 2048) (h : Fin 8) : res_main_v45 V (ix3 l h 0) = (((args V).seq h).dn l.val : EReal) := by
  pointwise [res_main_v45]
  rw [v32 V R, v36 V R, max_real, Seq.dn]
/-- The hidden state. -/
theorem v47 (l : Fin 2048) (h : Fin 8) (d : Fin 128) : res_main_v47 V (ix3 l h d) = (((args V).seq h).h l.val d : EReal) := by
  pointwise [res_main_v47]
  rw [v30 V R, v45 V R, div_real (Seq.dn_pos _ _).ne', Seq.h]
theorem v58 (l : Fin 2048) (h : Fin 8) : res_main_v58 V (ix3 l h 0) = (((args V).seq h).ms l.val : EReal) := by
  pointwise [res_main_v58]
  simp only [v47 V R, ← EReal.coe_mul, sum_coe]
  rw [z_word, div_real (by norm_num), Args.seq_e (A := args V) h, ← EReal.coe_add]; rfl
omit R in
theorem ms_pos (l : ℕ) (h : Fin 8) : 0 < ((args V).seq h).ms l := Seq.ms_pos _ (show (0 : ℝ) < 128 by norm_num) (Args.seq_epos h) l
theorem v59 (l : Fin 2048) (h : Fin 8) : res_main_v59 V (ix3 l h 0) = (((args V).seq h).r l.val : EReal) := by
  pointwise [res_main_v59]
  rw [v58 V R]
  exact rsqrt_real (ms_pos V l.val h)
theorem v64 (l : Fin 2048) (h : Fin 8) (d : Fin 128) : res_main_v64 V (ix3 l h d) = (((args V).seq h).xh l.val d : EReal) := by
  pointwise [res_main_v64]
  rw [v47 V R, v59 V R, ← EReal.coe_mul]; rfl
theorem v65 (h : Fin 8) (d : Fin 128) : res_main_v65 V (ix3 0 h d) = (((args V).seq h).g d : EReal) := by
  pointwise [res_main_v65]
  exact g_at V R h d _
theorem v67 (l : Fin 2048) (h : Fin 8) (d : Fin 128) : res_main_v67 V (ix3 l h d)
    = ((((args V).seq h).xh l.val d * ((args V).seq h).g d : ℝ) : EReal) := by
  pointwise [res_main_v67]
  rw [v64 V R, v65 V R, ← EReal.coe_mul]
theorem v73 (l : Fin 2048) (h : Fin 8) (d : Fin 128) (p) : res_main_v73 V (ix2 l ⟨h.val * 128 + d.val, p⟩)
    = (((args V).seq h).sig l.val d : EReal) := by
  pointwise [res_main_v73]
  exact Args.sig_at (A := args V) h l d _
theorem v77 (l : Fin 2048) (h : Fin 8) (d : Fin 128) : res_main_v77 V (ix3 l h d) = (((args V).seq h).sig l.val d : EReal) := by
  pointwise [res_main_v77]
  exact v73 V R l h d _
theorem v81 (l : Fin 2048) (h : Fin 8) (d : Fin 128) : res_main_v81 V (ix3 l h d) = (((args V).seq h).dy l.val d : EReal) := by
  pointwise [res_main_v81]
  exact dy_at V R l h d _
theorem v82 (l : Fin 2048) (h : Fin 8) (d : Fin 128) : res_main_v82 V (ix3 l h d) = (((args V).seq h).dys l.val d : EReal) := by
  pointwise [res_main_v82]
  rw [v77 V R, v81 V R, ← EReal.coe_mul, mul_comm]; rfl
theorem v90 (l : Fin 2048) (h : Fin 8) (d : Fin 128) : res_main_v90 V (ix3 l h d)
    = ((((args V).seq h).dys l.val d * ((args V).seq h).g d : ℝ) : EReal) := by
  pointwise [res_main_v90]
  rw [v82 V R, v65 V R, ← EReal.coe_mul]
theorem v101 (l : Fin 2048) (h : Fin 8) (d : Fin 128) : res_main_v101 V (ix3 l h d)
    = ((((∑ d, ((args V).seq h).h l.val d * (((args V).seq h).dys l.val d * ((args V).seq h).g d))
        * (-(1 / 2) * (((args V).seq h).r l.val / ((args V).seq h).ms l.val))) / ((args V).seq h).z : ℝ) : EReal) := by
  pointwise [res_main_v101]
  rw [Fin.sum_univ_one]
  simp only [v47 V R, v90 V R, v58 V R, v59 V R, half_word, z_word, ← EReal.coe_mul, sum_coe]
  rw [div_real (ms_pos V l.val h).ne', ← EReal.coe_mul, ← EReal.coe_mul, div_real (by norm_num)]
  rfl

/-- The gradient of the hidden state. -/
theorem v105 (l : Fin 2048) (h : Fin 8) (d : Fin 128) : res_main_v105 V (ix3 l h d) = (((args V).seq h).dh l.val d : EReal) := by
  pointwise [res_main_v105]
  rw [v90 V R, v59 V R, v47 V R, v101 V R]
  generalize hS : (args V).seq h = S
  have hm := ms_pos V l.val h
  rw [hS] at hm
  rw [← EReal.coe_mul, ← EReal.coe_mul, ← EReal.coe_mul, ← EReal.coe_add, ← EReal.coe_add, Seq.dh_root _ _ _ hm, ← add_assoc]
/-- The gradient of the hidden state's numerator. -/
theorem v123 (l : Fin 2048) (h : Fin 8) (d : Fin 128) : res_main_v123 V (ix3 h d l) = (((args V).seq h).dnum l.val d : EReal) := by
  pointwise [res_main_v123]
  rw [v105 V R, v45 V R, div_real (Seq.dn_pos _ _).ne']; rfl
/-- The gradient of the score sum's magnitude, away from a tie of the denominator's two sides. -/
theorem v116 (U : (args V).Untied) (l : Fin 2048) (h : Fin 8) : res_main_v116 V (ix2 l h)
    = ((-(∑ d, ((args V).seq h).dh l.val d * ((args V).seq h).h l.val d) / ((args V).seq h).dn l.val
        * (if Real.exp (-(((args V).seq h).P (l.val + 1) + ((args V).seq h).N (l.val + 1))) ≤ |((args V).seq h).den l.val| then 1 else 0) : ℝ) : EReal) := by
  pointwise [res_main_v116]
  rw [Fin.sum_univ_one]
  have hu := U l h
  have hp := ((args V).seq h).dn_pos l.val
  simp only [v105 V R, v45 V R, v30 V R, v32 V R, v36 V R, zero_word, EReal.coe_lt_coe_iff, EReal.coe_eq_coe_iff, ← EReal.coe_mul, ← EReal.coe_one,
    div_real (mul_pos hp hp).ne', sum_coe]
  generalize (args V).seq h = S at hu hp ⊢
  have hx : ∑ d, S.dh l.val d * (1 / (S.dn l.val * S.dn l.val)) * (∑ j ∈ range 2048, S.s l.val j * S.v j d)
      = (∑ d, S.dh l.val d * S.h l.val d) / S.dn l.val := by
    rw [sum_div]
    refine sum_congr rfl fun d _ => ?_
    rw [Seq.h]; field_simp
  rw [hx, if_neg hu, ← EReal.coe_zero, ← EReal.coe_neg, ← neg_div]
  rcases lt_or_gt_of_ne hu with h1 | h1
  · rw [if_neg (not_lt.mpr h1.le), if_neg (not_le.mpr h1), ← EReal.coe_mul]
  · rw [if_pos h1, if_pos h1.le, ← EReal.coe_mul]
/-- The gradient of the scores before their weights. -/
theorem v130 (U : (args V).Untied) (l j : Fin 2048) (h : Fin 8) : res_main_v130 V (ix3 h j l)
    = ((((args V).seq h).ds l.val j.val * ((args V).seq h).w l.val j.val : ℝ) : EReal) := by
  pointwise [res_main_v130, res_main_v34, res_main_v117]
  simp only [v116 V R U, v123 V R, v4 V R, v27 V R, v31 V R, zero_word, ← EReal.coe_zero, EReal.coe_le_coe_iff, ← EReal.coe_mul, sum_coe]
  generalize (args V).seq h = S
  rw [Seq.ds, Seq.dden, add_comm (∑ d, _)]
  by_cases h1 : 0 ≤ S.den l.val
  · rw [if_pos h1, if_pos h1, if_neg (not_lt.mpr h1), ← EReal.coe_neg, ← EReal.coe_add, ← EReal.coe_add, ← EReal.coe_mul]
    congr 2
    split <;> ring
  · rw [if_neg h1, if_neg h1, if_pos (not_le.mp h1), ← EReal.coe_neg, ← EReal.coe_add, ← EReal.coe_add, ← EReal.coe_mul]
    congr 2
    split <;> ring
/-- The gradient of the queries. -/
theorem dq (U : (args V).Untied) : (shapeCast _ (transpose S2048x8x128 [1, 0, 2] (Host.dotGeneral (φ₁ := .f32) (φ₂ := .f32) dot_S8x2048x2048_S2048x8x128_S8x2048x128_1_0_2_2_0_1 none (res_main_v130 V) (res_main_v21 V)) transposes_S8x2048x128_S2048x8x128_1_0_2) shapeCasts_S2048x8x128_S2048x1024 : FVec Ideal S2048x1024 .f32) = (args V).dq := ext2 fun n c => by
  pointwise
  refine (sum_congr rfl fun j _ => congrArg₂ (fun x y : EReal => x * y) (v130 V R U n j (headOf c)) (v21 V R j (headOf c) (featOf c))).trans ?_
  simp only [← EReal.coe_mul]
  refine (sum_coe univ fun j : Fin 2048 => ((args V).seq (headOf c)).ds n.val j.val * ((args V).seq (headOf c)).w n.val j.val
    * ((args V).seq (headOf c)).ks j.val (featOf c)).trans ?_
  rw [Args.dq, Seq.dq, sum_range]
  rfl
/-- The gradient of the keys. -/
theorem dk (U : (args V).Untied) : (shapeCast _ (mulf (transpose S2048x8x128 [1, 0, 2] (Host.dotGeneral (φ₁ := .f32) (φ₂ := .f32) dot_S8x2048x2048_S2048x8x128_S8x2048x128_2_0_1_2_0_1 none (res_main_v130 V) (res_main_v2 V)) transposes_S8x2048x128_S2048x8x128_1_0_2) (broadcastInDim S2048x8x128 ![] bcast_S_S2048x8x128 (constant S_ .f32 0x3DB504F3#32))) shapeCasts_S2048x8x128_S2048x1024 : FVec Ideal S2048x1024 .f32) = (args V).dk := ext2 fun n c => by
  pointwise
  obtain ⟨x, hx⟩ := scale_word
  have key : (∑ t : Fin 2048, (fun y z : EReal => y * z) (res_main_v130 V (ix3 (headOf c) n t)) (res_main_v2 V (ix3 t (headOf c) (featOf c))))
      = ((∑ t : Fin 2048, ((args V).seq (headOf c)).ds t.val n.val * ((args V).seq (headOf c)).w t.val n.val
          * ((args V).seq (headOf c)).q t.val (featOf c) : ℝ) : EReal) := by
    refine (sum_congr rfl fun t _ => congrArg₂ (fun y z : EReal => y * z) (v130 V R U t n (headOf c)) (v2 V R t (headOf c) (featOf c))).trans ?_
    simp only [← EReal.coe_mul, sum_coe]
  rw [hx]
  refine (congrArg (fun y : EReal => y * (x : EReal)) key).trans ?_
  rw [Args.dk, Seq.dk, sum_range, hx, EReal.toReal_coe, EReal.coe_mul]
  exact congrArg (fun y : EReal => y * (x : EReal)) rfl
/-- The gradient of the values. -/
theorem dv : (truncf .bf16 (shapeCast _ (transpose S2048x8x128 [2, 0, 1] (Host.dotGeneral (φ₁ := .f32) (φ₂ := .f32) dot_S8x128x2048_S2048x2048x8_S8x128x2048_2_0_1_1_0_2 none (res_main_v123 V) (res_main_v28 V)) transposes_S8x128x2048_S2048x8x128_2_0_1) shapeCasts_S2048x8x128_S2048x1024) bitsLt_bf16_f32 : FVec Ideal S2048x1024 .bf16) = (args V).dv := ext2 fun n c => by
  pointwise
  refine (sum_congr rfl fun t _ => congrArg₂ (fun x y : EReal => x * y) (v123 V R t (headOf c) (featOf c)) (v28 V R t n (headOf c))).trans ?_
  simp only [← EReal.coe_mul]
  refine (sum_coe univ fun t : Fin 2048 =>
    ((args V).seq (headOf c)).dnum t.val (featOf c) * ((args V).seq (headOf c)).s t.val n.val).trans ?_
  rw [Args.dv, Seq.dv, sum_range]
  exact congrArg _ (sum_congr rfl fun t _ => mul_comm _ _)
/-- The gradient of the output gates. -/
theorem dO : (truncf .bf16 (mulf (shapeCast _ (mulf (res_main_v81 V) (res_main_v67 V)) shapeCasts_S2048x8x128_S2048x1024) (mulf (res_main_v73 V) (subf (broadcastInDim S2048x1024 ![] bcast_S_S2048x1024 (constant S_ .f32 0x3F800000#32)) (res_main_v73 V)))) bitsLt_bf16_f32 : FVec Ideal S2048x1024 .bf16) = (args V).dO := ext2 fun n c => by
  pointwise
  have h73 : res_main_v73 V (ix2 n c) = (((args V).seq (headOf c)).sig n.val (featOf c) : EReal) := by
    refine Eq.trans ?_ (v73 V R n (headOf c) (featOf c) (by have := c.isLt; show c.val / 128 * 128 + c.val % 128 < 1024; omega))
    rw [← col_eq c]
  rw [v81 V R, v67 V R, h73, ← EReal.coe_one, ← EReal.coe_sub, ← EReal.coe_mul, ← EReal.coe_mul, ← EReal.coe_mul, ← mul_assoc]
  rfl
/-- The gradient of the norm's weights. -/
theorem dg : (shapeCast _ (Host.reduceAdd (shapeCast _ (Host.reduceAdd (mulf (res_main_v64 V) (res_main_v82 V)) (constant S_ .f32 0x00000000#32) reducesTo_S2048x8x128_S8x128_d0 h_S_) shapeCasts_S8x128_S1x8x128) (constant S_ .f32 0x00000000#32) reducesTo_S1x8x128_S8x128_d0 h_S_) shapeCasts_S8x128_S1x1024 : FVec Ideal S1x1024 .f32) = (args V).dg := ext2 fun n c => by
  pointwise
  rw [Fin.sum_univ_one]
  simp only [v64 V R, v82 V R, ← EReal.coe_mul, sum_coe]
  rw [Args.dg, Seq.dg, ← range_eq_Ico, sum_range]
  exact congrArg _ (sum_congr rfl fun t _ => mul_comm _ _)

end Cert.Proof.MlstmIdeal.Ref
-- ==== Proof.MlstmIdeal.Tie.lean ====
/- The claims about the kernel and its reference. -/
module

public import proofs.«01_k».proof.Proof.MlstmIdeal.Blocks
public import proofs.«01_k».proof.Proof.MlstmIdeal.RefVals
public import proofs.«01_k».proof.Defs

@[expose] public section

set_option maxRecDepth 16384

noncomputable section

namespace Cert.Proof.MlstmIdeal

open Idealize.ShloMosaic Idealize.ShloMosaic.TcCoe Idealize.SL.Sem
open Idealize.ShloMosaic.Pipeline (Dat)
open Cert.MlstmIdeal Cert.MlstmIdeal.Gen

/-- The side conditions of the precondition's operations. -/
theorem hPre : Cert.Pre_regular.Facts := by
  refine ⟨?_, ?_, ?_, ?_, ?_, ?_, ?_, ?_, ?_, ?_, ?_, ?_, ?_, ?_, ?_, ?_, ?_, ?_, ?_, ?_, ?_⟩ <;> decide
attribute [local instance] hPre

/-- A value whose magnitude is below infinity is a number. -/
theorem real_of_lt (x : EReal) (h : BitVec.ofBool (decide (FloatOps.absf (F := Ideal) (φ := .f32) x < Ideal.ofBits .f32 0x7F800000#32)) = 1#1) :
    x = (x.toReal : EReal) := by
  have hlt : max x (-x) < ⊤ := by
    rw [top_word] at h
    by_contra hn
    rw [show FloatOps.absf (F := Ideal) (φ := .f32) x = max x (-x) from rfl, decide_eq_false hn] at h
    exact absurd h (by decide)
  induction x using EReal.rec with
  | bot => simp at hlt
  | top => simp at hlt
  | coe r => simp

theorem real_all {s : Shape} (X : FVec Ideal s .f32) (hb : Cert.Pre_regular.S_.BroadcastsInDim s ![])
    (h : cmpf .olt (Host.absf X) (broadcastInDim s ![] hb (constant (F := Ideal) Cert.Pre_regular.S_ .f32 0x7F800000#32)) = fun _ => 1#1) (i : s.Idx) :
    X i = ((X i).toReal : EReal) := by
  have := congrFun h i
  pointwise at this
  exact real_of_lt _ this

/-- Finite arguments are real numbers. -/
theorem real_of_pre (m : (ℓ : Loc nD τ sig) → Buf (Elt Ideal) ℓ) (h : Cert.Pre_MlstmIdeal_regular m) (c : Dev nD) : (args m c).Real := by
  obtain ⟨h0, h1, h2, h3, h4, h5, h6, _⟩ := h c
  refine { q := real_all _ _ h0, k := real_all _ _ h1, v := fun n h d => ?_, li := real_all _ _ h3, lf := real_all _ _ h4, g := real_all _ _ h5, dh := fun n h d => ?_ }
  · have := congrFun h2 (ix2 n (lane h d))
    unfold Cert.Pre_regular.fn Cert.Pre_regular.fn_part1 Cert.Pre_regular.fn_part2 at this
    pointwise at this
    exact real_of_lt _ this
  · have := congrFun h6 (ix2 n (lane h d))
    unfold Cert.Pre_regular.fn Cert.Pre_regular.fn_part1 Cert.Pre_regular.fn_part2 at this
    pointwise at this
    refine (real_of_lt _ this).symm.symm

/-- The precondition's last flags compare the two sides of the denominator that the reference takes the maximum of. -/
theorem flags (V : Valuation Cert.MlstmRefIdeal.τ Cert.MlstmRefIdeal.sig (Elt Ideal)) :
    (Cert.Pre_regular.fn (F := Ideal) (V (Proc.devRef .tc Cert.MlstmRefIdeal.main_arg0)) (V (Proc.devRef .tc Cert.MlstmRefIdeal.main_arg1))
      (V (Proc.devRef .tc Cert.MlstmRefIdeal.main_arg2)) (V (Proc.devRef .tc Cert.MlstmRefIdeal.main_arg3))
      (V (Proc.devRef .tc Cert.MlstmRefIdeal.main_arg4)) (V (Proc.devRef .tc Cert.MlstmRefIdeal.main_arg5))
      (V (Proc.devRef .tc Cert.MlstmRefIdeal.main_arg6)) (V (Proc.devRef .tc Cert.MlstmRefIdeal.main_arg7))).2.2.2.2.2.2.2
    = cmpf (F := Ideal) (φ := .f32) .une (Cert.MlstmRefIdeal.Value.res_main_v32 V) (Cert.MlstmRefIdeal.Value.res_main_v36 V) := rfl

/-- Where the flags hold no row is tied. -/
theorem untied_of_flags (V : Valuation Cert.MlstmRefIdeal.τ Cert.MlstmRefIdeal.sig (Elt Ideal)) (R : (Ref.args V).Real)
    (h : cmpf (F := Ideal) (φ := .f32) .une (Cert.MlstmRefIdeal.Value.res_main_v32 V) (Cert.MlstmRefIdeal.Value.res_main_v36 V) = fun _ => 1#1) :
    (Ref.args V).Untied := by
  intro l hd e
  have := congrFun h (ix2 l hd)
  pointwise at this
  rw [Ref.v32 V R, Ref.v36 V R, e] at this
  rw [decide_eq_false (fun hn => hn rfl)] at this
  exact absurd this (by decide)

/-- The reference runs, keeps its arguments and declares no semaphore. -/
theorem frame_ref : Cert.quiescent_MlstmRefIdeal := fun m ρ _ =>
  (θ_run Cert.MlstmRefIdeal.defs _ _).mono
    (fun r h => ⟨fun c => (h c).2.2.2.2.2, sem_eq_zero_of_no_sems (by decide) r.2⟩)
    (Cert.MlstmRefIdeal.Value.run (F := Ideal) m ρ)

/-- From agreeing arguments that are finite and untied the kernel's results are the reference's. -/
theorem algebraic : Cert.algebraic_MlstmIdeal_MlstmRefIdeal_pre_regular := by
  intro m g m' g' hpre hagree
  have R := real_of_pre m hpre
  refine ⟨fun c => (args m c).dq, fun c => (args m c).dk, fun c => (args m c).dv, fun c => (args m c).dO, fun c => (args m c).dg,
    (θ_run _ _ _).mono (fun r h c => ?_) (run_main m g), ?_⟩
  · exact ⟨((Dat.toRForget_arrAt_iff (dats m 0 c) (fgt := forgets) (w := 13) rfl cfg0.N _).mp ((h.1 c).1 13)).trans (final_dq (R c)),
      ((Dat.toRForget_arrAt_iff (dats m 0 c) (fgt := forgets) (w := 14) rfl cfg0.N _).mp ((h.1 c).1 14)).trans (final_dk (R c)),
      ((Dat.toRForget_arrAt_iff (dats m 0 c) (fgt := forgets) (w := 15) rfl cfg0.N _).mp ((h.1 c).1 15)).trans (final_dv (R c)),
      ((Dat.toRForget_arrAt_iff (dats m 0 c) (fgt := forgets) (w := 16) rfl cfg0.N _).mp ((h.1 c).1 16)).trans (final_dO (R c)),
      ((Dat.toRForget_arrAt_iff (dats m 0 c) (fgt := forgets) (w := 19) rfl cfg0.N _).mp ((h.1 c).1 19)).trans (final_dg (R c)),
      args_kept m r h.1 c⟩
  · refine (θ_run _ _ _).mono (fun r h c => ?_) (Cert.MlstmRefIdeal.Value.run (F := Ideal) m' g')
    obtain ⟨h0, h1, h2, h3, h4, h5, h6, h7⟩ := hagree c
    obtain ⟨r0, r1, r2, r3, r4, ra⟩ := h c
    have e : Ref.args (Idealize.ShloMosaic.StableHlo.launchContents m' c) = args m c := by
      exact congr (congr (congr (congr (congr (congr (congrArg Args.mk h0) h1) h2) h3) h4) h5) h6
    have U : (Ref.args (Idealize.ShloMosaic.StableHlo.launchContents m' c)).Untied := by
      refine untied_of_flags _ (e ▸ R c) ((flags _).symm.trans ?_)
      obtain ⟨-, -, -, -, -, -, -, hf⟩ := hpre c
      rw [← h0, ← h1, ← h2, ← h3, ← h4, ← h5, ← h6, ← h7] at hf
      exact hf
    refine ⟨r0.trans ?_, r1.trans ?_, r2.trans ?_, r3.trans ?_, r4.trans ?_, ra⟩
    · exact (Ref.dq _ (e ▸ R c) U).trans (congrArg Args.dq e)
    · exact (Ref.dk _ (e ▸ R c) U).trans (congrArg Args.dk e)
    · exact (Ref.dv _ (e ▸ R c)).trans (congrArg Args.dv e)
    · exact (Ref.dO _ (e ▸ R c)).trans (congrArg Args.dO e)
    · exact (Ref.dg _ (e ▸ R c)).trans (congrArg Args.dg e)

end Cert.Proof.MlstmIdeal
-- ==== Proof.lean ====
module

public import proofs.«01_k».proof.Defs
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpRefIdeal
public import proofs.«01_k».proof.Proof.Gen.MlpRefIdeal.Run
public import proofs.«01_k».proof.Proof.Gen.MlpRefIdeal.Read
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutRefIdeal
public import proofs.«01_k».proof.Proof.Gen.OutRefIdeal.Run
public import proofs.«01_k».proof.Proof.Gen.OutRefIdeal.Read
public import proofs.«01_k».proof.Proof.Gen.Ple
public import proofs.«01_k».proof.Proof.Gen.Ple.Skeleton
public import proofs.«01_k».proof.Proof.Gen.Ple.Launch
public import proofs.«01_k».proof.Proof.Gen.Ple.Points
public import proofs.«01_k».proof.Proof.Gen.Ple.Frame
public import proofs.«01_k».proof.Proof.Gen.PleIdeal
public import proofs.«01_k».proof.Proof.Gen.PleIdeal.Skeleton
public import proofs.«01_k».proof.Proof.Gen.PleIdeal.Launch
public import proofs.«01_k».proof.Proof.Gen.PleIdeal.Points
public import proofs.«01_k».proof.Proof.Gen.PleIdeal.Frame
public import proofs.«01_k».proof.Proof.Gen.PleRefIdeal
public import proofs.«01_k».proof.Proof.Gen.PleRefIdeal.Run
public import proofs.«01_k».proof.Proof.Gen.PleRefIdeal.Read
public import proofs.«01_k».proof.Proof.Gen.In
public import proofs.«01_k».proof.Proof.Gen.In.Skeleton
public import proofs.«01_k».proof.Proof.Gen.In.Launch
public import proofs.«01_k».proof.Proof.Gen.In.Points
public import proofs.«01_k».proof.Proof.Gen.In.Frame
public import proofs.«01_k».proof.Proof.Gen.InIdeal
public import proofs.«01_k».proof.Proof.Gen.InIdeal.Skeleton
public import proofs.«01_k».proof.Proof.Gen.InIdeal.Launch
public import proofs.«01_k».proof.Proof.Gen.InIdeal.Points
public import proofs.«01_k».proof.Proof.Gen.InIdeal.Frame
public import proofs.«01_k».proof.Proof.Gen.InRefIdeal
public import proofs.«01_k».proof.Proof.Gen.InRefIdeal.Run
public import proofs.«01_k».proof.Proof.Gen.InRefIdeal.Read
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormRefIdeal
public import proofs.«01_k».proof.Proof.Gen.NormRefIdeal.Run
public import proofs.«01_k».proof.Proof.Gen.NormRefIdeal.Read
public import proofs.«01_k».proof.Proof.Gen.Mlstm
public import proofs.«01_k».proof.Proof.Gen.Mlstm.Skeleton
public import proofs.«01_k».proof.Proof.Gen.Mlstm.Launch
public import proofs.«01_k».proof.Proof.Gen.Mlstm.Points
public import proofs.«01_k».proof.Proof.Gen.Mlstm.Frame
public import proofs.«01_k».proof.Proof.Gen.Mlstm.Loops
public import proofs.«01_k».proof.Proof.Gen.MlstmIdeal
public import proofs.«01_k».proof.Proof.Gen.MlstmIdeal.Skeleton
public import proofs.«01_k».proof.Proof.Gen.MlstmIdeal.Launch
public import proofs.«01_k».proof.Proof.Gen.MlstmIdeal.Points
public import proofs.«01_k».proof.Proof.Gen.MlstmIdeal.Frame
public import proofs.«01_k».proof.Proof.Gen.MlstmIdeal.Loops
public import proofs.«01_k».proof.Proof.Gen.MlstmRefIdeal
public import proofs.«01_k».proof.Proof.Gen.MlstmRefIdeal.Run
public import proofs.«01_k».proof.Proof.MlpIdeal.Tie
public import proofs.«01_k».proof.Proof.OutIdeal.Tie
public import proofs.«01_k».proof.Proof.PleIdeal.Tie
public import proofs.«01_k».proof.Proof.InIdeal.Tie
public import proofs.«01_k».proof.Proof.NormIdeal.Tie
public import proofs.«01_k».proof.Proof.Mlstm.Frame
public import proofs.«01_k».proof.Proof.MlstmIdeal.Tie
public import Idealize.ShloMosaic.Adequacy
public import Idealize.ShloMosaic.Init

@[expose] public section

noncomputable section

namespace Cert.Proof

open Idealize.ShloMosaic Idealize.SL.Sem

theorem claim : Cert.Claim :=
  ⟨Cert.Mlp.Gen.facts, Cert.MlpIdeal.Gen.facts, Cert.MlpRefIdeal.Gen.facts,
   Cert.Out.Gen.facts, Cert.OutIdeal.Gen.facts, Cert.OutRefIdeal.Gen.facts,
   Cert.Ple.Gen.facts, Cert.PleIdeal.Gen.facts, Cert.PleRefIdeal.Gen.facts,
   Cert.In.Gen.facts, Cert.InIdeal.Gen.facts, Cert.InRefIdeal.Gen.facts,
   Cert.Norm.Gen.facts, Cert.NormIdeal.Gen.facts, Cert.NormRefIdeal.Gen.facts,
   Cert.Mlstm.Gen.facts, Cert.MlstmIdeal.Gen.facts, Cert.MlstmRefIdeal.Gen.facts, MlstmIdeal.hPre,
   fun m ρ _ => Cert.Mlp.Gen.frame (F := Bits) m ρ,
   fun m ρ _ => Cert.MlpIdeal.Gen.frame (F := Ideal) m ρ,
   MlpIdeal.frame_ref,
   fun m ρ _ => Cert.Out.Gen.frame (F := Bits) m ρ,
   fun m ρ _ => Cert.OutIdeal.Gen.frame (F := Ideal) m ρ,
   OutIdeal.frame_ref,
   fun m ρ _ => Cert.Ple.Gen.frame (F := Bits) m ρ,
   fun m ρ _ => Cert.PleIdeal.Gen.frame (F := Ideal) m ρ,
   PleIdeal.frame_ref,
   fun m ρ _ => Cert.In.Gen.frame (F := Bits) m ρ,
   fun m ρ _ => Cert.InIdeal.Gen.frame (F := Ideal) m ρ,
   InIdeal.frame_ref,
   fun m ρ _ => Cert.Norm.Gen.frame (F := Bits) m ρ,
   fun m ρ _ => Cert.NormIdeal.Gen.frame (F := Ideal) m ρ,
   NormIdeal.frame_ref,
   fun m ρ _ => Mlstm.frame (F := Bits) m ρ,
   fun m ρ _ => MlstmIdeal.frame (F := Ideal) m ρ,
   fun m ρ _ => MlstmIdeal.frame (F := Ideal) m ρ,
   MlstmIdeal.frame_ref,
   fun m ρ _ => MlstmIdeal.frame_ref m ρ trivial,
   trivial, MlpIdeal.algebraic,
   trivial, OutIdeal.algebraic,
   trivial, PleIdeal.algebraic,
   trivial, InIdeal.algebraic,
   trivial, NormIdeal.algebraic,
   IdealRules.sign_bit.statement _ _, MlstmIdeal.algebraic⟩

end Cert.Proof

end
